-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0))) = (fun _ => 1#1)

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastIdeal_finite_last [hPre_finite_last : Cert.Pre_finite_last.Facts] (m : (ℓ : Loc Cert.LastIdeal.nD Cert.LastIdeal.τ Cert.LastIdeal.sig) → Buf (Elt Ideal) ℓ) : Prop :=
  ∀ c : Dev Cert.LastIdeal.nD,
    (Cert.Pre_finite_last.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4))) = (fun _ => 1#1)

def Pre_LastRefIdeal (m : (ℓ : Loc Cert.LastRefIdeal.nD Cert.LastRefIdeal.τ Cert.LastRefIdeal.sig) → Buf (Elt Ideal) ℓ) : Prop :=
  True

def Pre_LastRefIdeal_finite_last [hPre_finite_last : Cert.Pre_finite_last.Facts] (m : (ℓ : Loc Cert.LastRefIdeal.nD Cert.LastRefIdeal.τ Cert.LastRefIdeal.sig) → Buf (Elt Ideal) ℓ) : Prop :=
  ∀ c : Dev Cert.LastRefIdeal.nD,
    (Cert.Pre_finite_last.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmRefIdeal (m : (ℓ : Loc Cert.MlstmRefIdeal.nD Cert.MlstmRefIdeal.τ Cert.MlstmRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastIdeal_pre_finite_last [hLastIdeal : Cert.LastIdeal.Facts] [hPre_finite_last : Cert.Pre_finite_last.Facts] : Prop :=
  ∀ (m : (ℓ : Loc Cert.LastIdeal.nD Cert.LastIdeal.τ Cert.LastIdeal.sig) → Buf (Elt Ideal) ℓ) (g : Dev Cert.LastIdeal.nD → PrngReg), Pre_LastIdeal_finite_last m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4))
      ∧ r.2.sem = fun _ => 0)

def quiescent_LastRefIdeal_pre_finite_last [hLastRefIdeal : Cert.LastRefIdeal.Facts] [hPre_finite_last : Cert.Pre_finite_last.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal_finite_last m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1))
      ∧ r.2.sem = fun _ => 0)

def quiescent_MlstmRefIdeal [hMlstmRefIdeal : Cert.MlstmRefIdeal.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1))
      ∧ r.2.sem = fun _ => 0)

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v24) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0))

def preserves_Experts_ExpertsIdeal : Prop :=
  True

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0_0)) (v1 : (c : Dev Cert.ExpertsIdeal.nD) → Buf (Elt Ideal) ((c.tc : Thread Cert.ExpertsIdeal.nD Cert.ExpertsIdeal.τ).loc Cert.ExpertsIdeal.main_v0_1)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0_0) = v0 c
          ∧ r.2.mem ((c.tc : Thread Cert.ExpertsIdeal.nD Cert.ExpertsIdeal.τ).loc Cert.ExpertsIdeal.main_v0_1) = v1 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v13) = v0 c
          ∧ r.2.mem ((c.tc : Thread Cert.ExpertsRefIdeal.nD Cert.ExpertsRefIdeal.τ).loc Cert.ExpertsRefIdeal.main_v27) = v1 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_Last_LastIdeal : Prop :=
  True

def algebraic_LastIdeal_LastRefIdeal_pre_finite_last [hLastIdeal : Cert.LastIdeal.Facts] [hLastRefIdeal : Cert.LastRefIdeal.Facts] [hPre_finite_last : Cert.Pre_finite_last.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal_finite_last m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)) →
    ∃ (v0 : (c : Dev Cert.LastIdeal.nD) → Buf (Elt Ideal) ((c.tc : Thread Cert.LastIdeal.nD Cert.LastIdeal.τ).loc Cert.LastIdeal.main_v1)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v1) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v57) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v13_0)) (v1 : (c : Dev Cert.ProjIdeal.nD) → Buf (Elt Ideal) ((c.tc : Thread Cert.ProjIdeal.nD Cert.ProjIdeal.τ).loc Cert.ProjIdeal.main_v13_1)) (v2 : (c : Dev Cert.ProjIdeal.nD) → Buf (Elt Ideal) ((c.tc : Thread Cert.ProjIdeal.nD Cert.ProjIdeal.τ).loc Cert.ProjIdeal.main_v13_2)) (v3 : (c : Dev Cert.ProjIdeal.nD) → Buf (Elt Ideal) ((c.tc : Thread Cert.ProjIdeal.nD Cert.ProjIdeal.τ).loc Cert.ProjIdeal.main_v13_3)) (v4 : (c : Dev Cert.ProjIdeal.nD) → Buf (Elt Ideal) ((c.tc : Thread Cert.ProjIdeal.nD Cert.ProjIdeal.τ).loc Cert.ProjIdeal.main_v13_4)) (v5 : (c : Dev Cert.ProjIdeal.nD) → Buf (Elt Ideal) ((c.tc : Thread Cert.ProjIdeal.nD Cert.ProjIdeal.τ).loc Cert.ProjIdeal.main_v13_5)) (v6 : (c : Dev Cert.ProjIdeal.nD) → Buf (Elt Ideal) ((c.tc : Thread Cert.ProjIdeal.nD Cert.ProjIdeal.τ).loc Cert.ProjIdeal.main_v13_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v13_0) = v0 c
          ∧ r.2.mem ((c.tc : Thread Cert.ProjIdeal.nD Cert.ProjIdeal.τ).loc Cert.ProjIdeal.main_v13_1) = v1 c
          ∧ r.2.mem ((c.tc : Thread Cert.ProjIdeal.nD Cert.ProjIdeal.τ).loc Cert.ProjIdeal.main_v13_2) = v2 c
          ∧ r.2.mem ((c.tc : Thread Cert.ProjIdeal.nD Cert.ProjIdeal.τ).loc Cert.ProjIdeal.main_v13_3) = v3 c
          ∧ r.2.mem ((c.tc : Thread Cert.ProjIdeal.nD Cert.ProjIdeal.τ).loc Cert.ProjIdeal.main_v13_4) = v4 c
          ∧ r.2.mem ((c.tc : Thread Cert.ProjIdeal.nD Cert.ProjIdeal.τ).loc Cert.ProjIdeal.main_v13_5) = v5 c
          ∧ r.2.mem ((c.tc : Thread Cert.ProjIdeal.nD Cert.ProjIdeal.τ).loc Cert.ProjIdeal.main_v13_6) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v46) = v0 c
          ∧ r.2.mem ((c.tc : Thread Cert.ProjRefIdeal.nD Cert.ProjRefIdeal.τ).loc Cert.ProjRefIdeal.main_v37) = v1 c
          ∧ r.2.mem ((c.tc : Thread Cert.ProjRefIdeal.nD Cert.ProjRefIdeal.τ).loc Cert.ProjRefIdeal.main_v47) = v2 c
          ∧ r.2.mem ((c.tc : Thread Cert.ProjRefIdeal.nD Cert.ProjRefIdeal.τ).loc Cert.ProjRefIdeal.main_v49) = v3 c
          ∧ r.2.mem ((c.tc : Thread Cert.ProjRefIdeal.nD Cert.ProjRefIdeal.τ).loc Cert.ProjRefIdeal.main_v50) = v4 c
          ∧ r.2.mem ((c.tc : Thread Cert.ProjRefIdeal.nD Cert.ProjRefIdeal.τ).loc Cert.ProjRefIdeal.main_v55) = v5 c
          ∧ r.2.mem ((c.tc : Thread Cert.ProjRefIdeal.nD Cert.ProjRefIdeal.τ).loc Cert.ProjRefIdeal.main_v60) = v6 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7))

def preserves_Mlstm_MlstmIdeal : Prop :=
  True

def algebraic_MlstmIdeal_MlstmRefIdeal [hMlstmIdeal : Cert.MlstmIdeal.Facts] [hMlstmRefIdeal : Cert.MlstmRefIdeal.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmRefIdeal.nD Cert.MlstmRefIdeal.τ Cert.MlstmRefIdeal.sig) → Buf (Elt Ideal) ℓ) (g' : Dev Cert.MlstmRefIdeal.nD → PrngReg), Pre_MlstmIdeal m →
    (∀ c : Dev Cert.MlstmIdeal.nD,
      m' ((c.tc : Thread Cert.MlstmRefIdeal.nD Cert.MlstmRefIdeal.τ).loc Cert.MlstmRefIdeal.main_arg0) = m ((c.tc : Thread Cert.MlstmIdeal.nD Cert.MlstmIdeal.τ).loc Cert.MlstmIdeal.main_arg0)
      ∧ m' ((c.tc : Thread Cert.MlstmRefIdeal.nD Cert.MlstmRefIdeal.τ).loc Cert.MlstmRefIdeal.main_arg1) = m ((c.tc : Thread Cert.MlstmIdeal.nD Cert.MlstmIdeal.τ).loc Cert.MlstmIdeal.main_arg1)) →
    ∃ (v0 : (c : Dev Cert.MlstmIdeal.nD) → Buf (Elt Ideal) ((c.tc : Thread Cert.MlstmIdeal.nD Cert.MlstmIdeal.τ).loc Cert.MlstmIdeal.main_v17_0)) (v1 : (c : Dev Cert.MlstmIdeal.nD) → Buf (Elt Ideal) ((c.tc : Thread Cert.MlstmIdeal.nD Cert.MlstmIdeal.τ).loc Cert.MlstmIdeal.main_v17_1)) (v2 : (c : Dev Cert.MlstmIdeal.nD) → Buf (Elt Ideal) ((c.tc : Thread Cert.MlstmIdeal.nD Cert.MlstmIdeal.τ).loc Cert.MlstmIdeal.main_v17_2)) (v3 : (c : Dev Cert.MlstmIdeal.nD) → Buf (Elt Ideal) ((c.tc : Thread Cert.MlstmIdeal.nD Cert.MlstmIdeal.τ).loc Cert.MlstmIdeal.main_v17_3)) (v4 : (c : Dev Cert.MlstmIdeal.nD) → Buf (Elt Ideal) ((c.tc : Thread Cert.MlstmIdeal.nD Cert.MlstmIdeal.τ).loc Cert.MlstmIdeal.main_v17_4)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v17_0) = v0 c
          ∧ r.2.mem ((c.tc : Thread Cert.MlstmIdeal.nD Cert.MlstmIdeal.τ).loc Cert.MlstmIdeal.main_v17_1) = v1 c
          ∧ r.2.mem ((c.tc : Thread Cert.MlstmIdeal.nD Cert.MlstmIdeal.τ).loc Cert.MlstmIdeal.main_v17_2) = v2 c
          ∧ r.2.mem ((c.tc : Thread Cert.MlstmIdeal.nD Cert.MlstmIdeal.τ).loc Cert.MlstmIdeal.main_v17_3) = v3 c
          ∧ r.2.mem ((c.tc : Thread Cert.MlstmIdeal.nD Cert.MlstmIdeal.τ).loc Cert.MlstmIdeal.main_v17_4) = v4 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1))
      ∧ θ_run (Cert.MlstmRefIdeal.defs (F := Ideal)) (onTc (τ := Cert.MlstmRefIdeal.τ) (Cert.MlstmRefIdeal.main (F := Ideal))) ⟨m', fun _ => 0, g'⟩ (fun r => ∀ c : Dev Cert.MlstmRefIdeal.nD,
          r.2.mem ((c.tc : Thread Cert.MlstmRefIdeal.nD Cert.MlstmRefIdeal.τ).loc Cert.MlstmRefIdeal.main_v206) = v0 c
          ∧ r.2.mem ((c.tc : Thread Cert.MlstmRefIdeal.nD Cert.MlstmRefIdeal.τ).loc Cert.MlstmRefIdeal.main_v210) = v1 c
          ∧ r.2.mem ((c.tc : Thread Cert.MlstmRefIdeal.nD Cert.MlstmRefIdeal.τ).loc Cert.MlstmRefIdeal.main_v215) = v2 c
          ∧ r.2.mem ((c.tc : Thread Cert.MlstmRefIdeal.nD Cert.MlstmRefIdeal.τ).loc Cert.MlstmRefIdeal.main_v221) = v3 c
          ∧ r.2.mem ((c.tc : Thread Cert.MlstmRefIdeal.nD Cert.MlstmRefIdeal.τ).loc Cert.MlstmRefIdeal.main_v227) = v4 c
          ∧ r.2.mem ((c.tc : Thread Cert.MlstmRefIdeal.nD Cert.MlstmRefIdeal.τ).loc Cert.MlstmRefIdeal.main_arg0) = m' ((c.tc : Thread Cert.MlstmRefIdeal.nD Cert.MlstmRefIdeal.τ).loc Cert.MlstmRefIdeal.main_arg0)
          ∧ r.2.mem ((c.tc : Thread Cert.MlstmRefIdeal.nD Cert.MlstmRefIdeal.τ).loc Cert.MlstmRefIdeal.main_arg1) = m' ((c.tc : Thread Cert.MlstmRefIdeal.nD Cert.MlstmRefIdeal.τ).loc Cert.MlstmRefIdeal.main_arg1))

def Claim : Prop :=
  ∃ (hAttn : Cert.Attn.Facts) (hAttnIdeal : Cert.AttnIdeal.Facts) (hAttnRefIdeal : Cert.AttnRefIdeal.Facts) (hExperts : Cert.Experts.Facts) (hExpertsIdeal : Cert.ExpertsIdeal.Facts) (hExpertsRefIdeal : Cert.ExpertsRefIdeal.Facts) (hLast : Cert.Last.Facts) (hLastIdeal : Cert.LastIdeal.Facts) (hLastRefIdeal : Cert.LastRefIdeal.Facts) (hProj : Cert.Proj.Facts) (hProjIdeal : Cert.ProjIdeal.Facts) (hProjRefIdeal : Cert.ProjRefIdeal.Facts) (hMlstm : Cert.Mlstm.Facts) (hMlstmIdeal : Cert.MlstmIdeal.Facts) (hMlstmRefIdeal : Cert.MlstmRefIdeal.Facts) (hPre_finite_attn : Cert.Pre_finite_attn.Facts) (hPre_finite_last : Cert.Pre_finite_last.Facts),
    quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Experts (hExperts := hExperts)
    ∧ quiescent_ExpertsIdeal (hExpertsIdeal := hExpertsIdeal)
    ∧ quiescent_ExpertsRefIdeal (hExpertsRefIdeal := hExpertsRefIdeal)
    ∧ quiescent_Last (hLast := hLast)
    ∧ quiescent_LastIdeal (hLastIdeal := hLastIdeal)
    ∧ quiescent_LastIdeal_pre_finite_last (hLastIdeal := hLastIdeal) (hPre_finite_last := hPre_finite_last)
    ∧ quiescent_LastRefIdeal (hLastRefIdeal := hLastRefIdeal)
    ∧ quiescent_LastRefIdeal_pre_finite_last (hLastRefIdeal := hLastRefIdeal) (hPre_finite_last := hPre_finite_last)
    ∧ quiescent_Proj (hProj := hProj)
    ∧ quiescent_ProjIdeal (hProjIdeal := hProjIdeal)
    ∧ quiescent_ProjRefIdeal (hProjRefIdeal := hProjRefIdeal)
    ∧ quiescent_Mlstm (hMlstm := hMlstm)
    ∧ quiescent_MlstmIdeal (hMlstmIdeal := hMlstmIdeal)
    ∧ quiescent_MlstmRefIdeal (hMlstmRefIdeal := hMlstmRefIdeal)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Experts_ExpertsIdeal
    ∧ algebraic_ExpertsIdeal_ExpertsRefIdeal (hExpertsIdeal := hExpertsIdeal) (hExpertsRefIdeal := hExpertsRefIdeal)
    ∧ preserves_Last_LastIdeal
    ∧ algebraic_LastIdeal_LastRefIdeal_pre_finite_last (hLastIdeal := hLastIdeal) (hLastRefIdeal := hLastRefIdeal) (hPre_finite_last := hPre_finite_last)
    ∧ preserves_Proj_ProjIdeal
    ∧ algebraic_ProjIdeal_ProjRefIdeal (hProjIdeal := hProjIdeal) (hProjRefIdeal := hProjRefIdeal)
    ∧ preserves_Mlstm_MlstmIdeal
    ∧ algebraic_MlstmIdeal_MlstmRefIdeal (hMlstmIdeal := hMlstmIdeal) (hMlstmRefIdeal := hMlstmRefIdeal)
-- ==== Pre_finite_attn.lean ====
abbrev S4096x2304 : Shape := ⟨2, ![4096, 2304]⟩
abbrev S4096x1024 : Shape := ⟨2, ![4096, 1024]⟩
abbrev S_ : Shape := ⟨0, ![]⟩

class Facts : Prop where
  slices_S4096x2304_S4096x1024_0_0 : S4096x2304.Slices ![0, 0] S4096x1024
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x2304 .bf16) : IVec S_ 1 :=
  let main_v0 : FVec F S4096x1024 .bf16 := (extractStridedSlice S4096x1024 ![0, 0] · slices_S4096x2304_S4096x1024_0_0) main_arg0
  let main_v1 : FVec F S4096x1024 .f32 := (extf .f32 · bitsLt_bf16_f32) main_v0
  let main_v2 : FVec F S4096x1024 .f32 := Host.absf main_v1
  let main_cst : FVec F S_ .f32 := constant S_ .f32 0x7F800000#32
  let main_v3 : FVec F S4096x1024 .f32 := broadcastInDim S4096x1024 ![] bcast_S_S4096x1024 main_cst
  let main_v4 : IVec S4096x1024 1 := cmpf .olt main_v2 main_v3
  let main_c : IVec S_ 1 := constantI S_ 1 1#1
  let main_v5 : IVec S_ 1 := (fun x v => Host.reduce IntOp.andi x v reducesTo_S4096x1024_S_d0_1 h_S_) main_v4 main_c
  main_v5
-- ==== Pre_finite_last.lean ====
abbrev S16x4096 : Shape := ⟨2, ![16, 4096]⟩
abbrev S16x512x1024 : Shape := ⟨3, ![16, 512, 1024]⟩
abbrev S4096x1024 : Shape := ⟨2, ![4096, 1024]⟩
abbrev S1x6x1024 : Shape := ⟨3, ![1, 6, 1024]⟩
abbrev S1024 : Shape := ⟨1, ![1024]⟩
abbrev S_ : Shape := ⟨0, ![]⟩

class Facts : Prop where
  bcast_S_S16x512x1024 : S_.BroadcastsInDim S16x512x1024 (![] : Fin 0 → Fin S16x512x1024.rank)
  reducesTo_S16x512x1024_S_d0_1_2 : S16x512x1024.ReducesTo [0, 1, 2] S_
  h_S_ : 0 < S_.numel

variable [Facts]

def fn {F : FTy → Type} [FloatOps F] (main_arg0 : IVec S16x4096 32) (main_arg1 : FVec F S16x512x1024 .f32) (main_arg2 : FVec F S4096x1024 .f32) (main_arg3 : FVec F S1x6x1024 .f32) (main_arg4 : FVec F S1024 .f32) : IVec S_ 1 :=
  let main_v0 : FVec F S16x512x1024 .f32 := Host.absf main_arg1
  let main_cst : FVec F S_ .f32 := constant S_ .f32 0x7F800000#32
  let main_v1 : FVec F S16x512x1024 .f32 := broadcastInDim S16x512x1024 ![] bcast_S_S16x512x1024 main_cst
  let main_v2 : IVec S16x512x1024 1 := cmpf .olt main_v0 main_v1
  let main_c : IVec S_ 1 := constantI S_ 1 1#1
  let main_v3 : IVec S_ 1 := (fun x v => Host.reduce IntOp.andi x v reducesTo_S16x512x1024_S_d0_1_2 h_S_) main_v2 main_c
  main_v3
-- ==== Attn.lean ====
abbrev S4096x2304 : Shape := ⟨2, ![4096, 2304]⟩
abbrev S4096x512 : Shape := ⟨2, ![4096, 512]⟩
abbrev S256x512 : Shape := ⟨2, ![256, 512]⟩
abbrev S256x64 : Shape := ⟨2, ![256, 64]⟩
abbrev S256x256 : Shape := ⟨2, ![256, 256]⟩
abbrev S256 : Shape := ⟨1, ![256]⟩
abbrev S256x1 : Shape := ⟨2, ![256, 1]⟩

abbrev nBuf : Space → Nat
  | .hbm => 2
  | .vmem => 8
  | .smem => 0
  | _ => 0

abbrev bufTy : (tb : Table) → Fin (tcTables nBuf tb) → BufTy
  | .hbm, ⟨0, _⟩ => ⟨S4096x2304, .bf16⟩
  | .hbm, ⟨1, _⟩ => ⟨S4096x512, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | .local _ .vmem, ⟨7, _⟩ => ⟨S256x512, .f32⟩
  | _, _ => ⟨S4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnRefIdeal.lean ====
abbrev S4096x2304 : Shape := ⟨2, ![4096, 2304]⟩
abbrev S16x256x2304 : Shape := ⟨3, ![16, 256, 2304]⟩
abbrev S16x256x512 : Shape := ⟨3, ![16, 256, 512]⟩
abbrev S16x256x8x64 : Shape := ⟨4, ![16, 256, 8, 64]⟩
abbrev S16x8x256x256 : Shape := ⟨4, ![16, 8, 256, 256]⟩
abbrev S_ : Shape := ⟨0, ![]⟩
abbrev S16x8x256 : Shape := ⟨3, ![16, 8, 256]⟩
abbrev S16x8x256x1 : Shape := ⟨4, ![16, 8, 256, 1]⟩
abbrev S16x8x64x256 : Shape := ⟨4, ![16, 8, 64, 256]⟩
abbrev S4096x512 : Shape := ⟨2, ![4096, 512]⟩

abbrev nBuf : Space → Nat
  | .hbm => 30
  | .vmem => 0
  | .smem => 0
  | _ => 0

abbrev bufTy : (tb : Table) → Fin (tcTables nBuf tb) → BufTy
  | .hbm, ⟨0, _⟩ => ⟨S4096x2304, .bf16⟩
  | .hbm, ⟨1, _⟩ => ⟨S4096x2304, .f32⟩
  | .hbm, ⟨2, _⟩ => ⟨S16x256x2304, .f32⟩
  | .hbm, ⟨3, _⟩ => ⟨S16x256x512, .f32⟩
  | .hbm, ⟨4, _⟩ => ⟨S16x256x8x64, .f32⟩
  | .hbm, ⟨5, _⟩ => ⟨S16x256x512, .f32⟩
  | .hbm, ⟨6, _⟩ => ⟨S16x256x8x64, .f32⟩
  | .hbm, ⟨7, _⟩ => ⟨S16x256x512, .f32⟩
  | .hbm, ⟨8, _⟩ => ⟨S16x256x8x64, .f32⟩
  | .hbm, ⟨9, _⟩ => ⟨S16x8x256x256, .f32⟩
  | .hbm, ⟨10, _⟩ => ⟨S_, .f32⟩
  | .hbm, ⟨11, _⟩ => ⟨S16x8x256x256, .f32⟩
  | .hbm, ⟨12, _⟩ => ⟨S16x8x256x256, .f32⟩
  | .hbm, ⟨13, _⟩ => ⟨S_, .f32⟩
  | .hbm, ⟨14, _⟩ => ⟨S16x8x256, .f32⟩
  | .hbm, ⟨15, _⟩ => ⟨S_, .f32⟩
  | .hbm, ⟨16, _⟩ => ⟨S16x8x256, .f32⟩
  | .hbm, ⟨17, _⟩ => ⟨S16x8x256, .f32⟩
  | .hbm, ⟨18, _⟩ => ⟨S16x8x256x1, .f32⟩
  | .hbm, ⟨19, _⟩ => ⟨S16x8x256x256, .f32⟩
  | .hbm, ⟨20, _⟩ => ⟨S16x8x256x256, .f32⟩
  | .hbm, ⟨21, _⟩ => ⟨S16x8x256x256, .f32⟩
  | .hbm, ⟨22, _⟩ => ⟨S_, .f32⟩
  | .hbm, ⟨23, _⟩ => ⟨S16x8x256, .f32⟩
  | .hbm, ⟨24, _⟩ => ⟨S16x8x256x1, .f32⟩
  | .hbm, ⟨25, _⟩ => ⟨S16x8x256x256, .f32⟩
  | .hbm, ⟨26, _⟩ => ⟨S16x8x256x256, .f32⟩
  | .hbm, ⟨27, _⟩ => ⟨S16x8x64x256, .f32⟩
  | .hbm, ⟨28, _⟩ => ⟨S16x256x8x64, .f32⟩
  | .hbm, ⟨29, _⟩ => ⟨S4096x512, .f32⟩
  | _, _ => ⟨S4096x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Experts.lean ====
abbrev S16x512x1024 : Shape := ⟨3, ![16, 512, 1024]⟩
abbrev S16x1024x1024 : Shape := ⟨3, ![16, 1024, 1024]⟩
abbrev S16x512x1 : Shape := ⟨3, ![16, 512, 1]⟩
abbrev S16x1024x1 : Shape := ⟨3, ![16, 1024, 1]⟩
abbrev S2x16x1024x2048 : Shape := ⟨4, ![2, 16, 1024, 2048]⟩
abbrev S2x16x2048x1024 : Shape := ⟨4, ![2, 16, 2048, 1024]⟩
abbrev S1x512x1024 : Shape := ⟨3, ![1, 512, 1024]⟩
abbrev S1x1024x1024 : Shape := ⟨3, ![1, 1024, 1024]⟩
abbrev S1x512x1 : Shape := ⟨3, ![1, 512, 1]⟩
abbrev S1x1024x1 : Shape := ⟨3, ![1, 1024, 1]⟩
abbrev S1x1x1024x1024 : Shape := ⟨4, ![1, 1, 1024, 1024]⟩
abbrev S1024x1024 : Shape := ⟨2, ![1024, 1024]⟩
abbrev S512x1024 : Shape := ⟨2, ![512, 1024]⟩
abbrev S512x1 : Shape := ⟨2, ![512, 1]⟩
abbrev S1024x1 : Shape := ⟨2, ![1024, 1]⟩

abbrev nBuf : Space → Nat
  | .hbm => 9
  | .vmem => 18
  | .smem => 0
  | _ => 0

abbrev bufTy : (tb : Table) → Fin (tcTables nBuf tb) → BufTy
  | .hbm, ⟨0, _⟩ => ⟨S16x512x1024, .bf16⟩
  | .hbm, ⟨1, _⟩ => ⟨S16x1024x1024, .bf16⟩
  | .hbm, ⟨2, _⟩ => ⟨S16x512x1, .f32⟩
  | .hbm, ⟨3, _⟩ => ⟨S16x1024x1, .f32⟩
  | .hbm, ⟨4, _⟩ => ⟨S2x16x1024x2048, .f32⟩
  | .hbm, ⟨5, _⟩ => ⟨S2x16x1024x2048, .f32⟩
  | .hbm, ⟨6, _⟩ => ⟨S2x16x2048x1024, .f32⟩
  | .hbm, ⟨7, _⟩ => ⟨S16x512x1024, .f32⟩
  | .hbm, ⟨8, _⟩ => ⟨S16x1024x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x512x1, .f32⟩
  | .local _ .vmem, ⟨5, _⟩ => ⟨S1x512x1, .f32⟩
  | .local _ .vmem, ⟨6, _⟩ => ⟨S1x1024x1, .f32⟩
  | .local _ .vmem, ⟨7, _⟩ => ⟨S1x1024x1, .f32⟩
  | .local _ .vmem, ⟨8, _⟩ => ⟨S1x1x1024x1024, .f32⟩
  | .local _ .vmem, ⟨9, _⟩ => ⟨S1x1x1024x1024, .f32⟩
  | .local _ .vmem, ⟨10, _⟩ => ⟨S1x1x1024x1024, .f32⟩
  | .local _ .vmem, ⟨11, _⟩ => ⟨S1x1x1024x1024, .f32⟩
  | .local _ .vmem, ⟨12, _⟩ => ⟨S1x1x1024x1024, .f32⟩
  | .local _ .vmem, ⟨13, _⟩ => ⟨S1x1x1024x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x1024x1024, .f32⟩
  | .local _ .vmem, ⟨17, _⟩ => ⟨S1x1024x1024, .f32⟩
  | _, _ => ⟨S16x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ExpertsRefIdeal.lean ====
abbrev S16x512x1024 : Shape := ⟨3, ![16, 512, 1024]⟩
abbrev S16x1024x1024 : Shape := ⟨3, ![16, 1024, 1024]⟩
abbrev S16x512x1 : Shape := ⟨3, ![16, 512, 1]⟩
abbrev S16x1024x1 : Shape := ⟨3, ![16, 1024, 1]⟩
abbrev S2x16x1024x2048 : Shape := ⟨4, ![2, 16, 1024, 2048]⟩
abbrev S2x16x2048x1024 : Shape := ⟨4, ![2, 16, 2048, 1024]⟩
abbrev S1x16x1024x2048 : Shape := ⟨4, ![1, 16, 1024, 2048]⟩
abbrev S16x1024x2048 : Shape := ⟨3, ![16, 1024, 2048]⟩
abbrev S16x512x2048 : Shape := ⟨3, ![16, 512, 2048]⟩
abbrev S_ : Shape := ⟨0, ![]⟩
abbrev S1x16x2048x1024 : Shape := ⟨4, ![1, 16, 2048, 1024]⟩
abbrev S16x2048x1024 : Shape := ⟨3, ![16, 2048, 1024]⟩

abbrev nBuf : Space → Nat
  | .hbm => 51
  | .vmem => 0
  | .smem => 0
  | _ => 0

abbrev bufTy : (tb : Table) → Fin (tcTables nBuf tb) → BufTy
  | .hbm, ⟨0, _⟩ => ⟨S16x512x1024, .bf16⟩
  | .hbm, ⟨1, _⟩ => ⟨S16x1024x1024, .bf16⟩
  | .hbm, ⟨2, _⟩ => ⟨S16x512x1, .f32⟩
  | .hbm, ⟨3, _⟩ => ⟨S16x1024x1, .f32⟩
  | .hbm, ⟨4, _⟩ => ⟨S2x16x1024x2048, .f32⟩
  | .hbm, ⟨5, _⟩ => ⟨S2x16x1024x2048, .f32⟩
  | .hbm, ⟨6, _⟩ => ⟨S2x16x2048x1024, .f32⟩
  | .hbm, ⟨7, _⟩ => ⟨S16x512x1024, .f32⟩
  | .hbm, ⟨8, _⟩ => ⟨S1x16x1024x2048, .f32⟩
  | .hbm, ⟨9, _⟩ => ⟨S16x1024x2048, .f32⟩
  | .hbm, ⟨10, _⟩ => ⟨S16x512x2048, .f32⟩
  | .hbm, ⟨11, _⟩ => ⟨S1x16x1024x2048, .f32⟩
  | .hbm, ⟨12, _⟩ => ⟨S16x1024x2048, .f32⟩
  | .hbm, ⟨13, _⟩ => ⟨S16x512x2048, .f32⟩
  | .hbm, ⟨14, _⟩ => ⟨S16x512x2048, .f32⟩
  | .hbm, ⟨15, _⟩ => ⟨S16x512x2048, .f32⟩
  | .hbm, ⟨16, _⟩ => ⟨S_, .f32⟩
  | .hbm, ⟨17, _⟩ => ⟨S16x512x2048, .f32⟩
  | .hbm, ⟨18, _⟩ => ⟨S16x512x2048, .f32⟩
  | .hbm, ⟨19, _⟩ => ⟨S_, .f32⟩
  | .hbm, ⟨20, _⟩ => ⟨S16x512x2048, .f32⟩
  | .hbm, ⟨21, _⟩ => ⟨S16x512x2048, .f32⟩
  | .hbm, ⟨22, _⟩ => ⟨S16x512x2048, .f32⟩
  | .hbm, ⟨23, _⟩ => ⟨S16x512x2048, .f32⟩
  | .hbm, ⟨24, _⟩ => ⟨S1x16x2048x1024, .f32⟩
  | .hbm, ⟨25, _⟩ => ⟨S16x2048x1024, .f32⟩
  | .hbm, ⟨26, _⟩ => ⟨S16x512x1024, .f32⟩
  | .hbm, ⟨27, _⟩ => ⟨S16x512x1024, .f32⟩
  | .hbm, ⟨28, _⟩ => ⟨S16x512x1024, .f32⟩
  | .hbm, ⟨29, _⟩ => ⟨S16x1024x1024, .f32⟩
  | .hbm, ⟨30, _⟩ => ⟨S1x16x1024x2048, .f32⟩
  | .hbm, ⟨31, _⟩ => ⟨S16x1024x2048, .f32⟩
  | .hbm, ⟨32, _⟩ => ⟨S16x1024x2048, .f32⟩
  | .hbm, ⟨33, _⟩ => ⟨S1x16x1024x2048, .f32⟩
  | .hbm, ⟨34, _⟩ => ⟨S16x1024x2048, .f32⟩
  | .hbm, ⟨35, _⟩ => ⟨S16x1024x2048, .f32⟩
  | .hbm, ⟨36, _⟩ => ⟨S16x1024x2048, .f32⟩
  | .hbm, ⟨37, _⟩ => ⟨S16x1024x2048, .f32⟩
  | .hbm, ⟨38, _⟩ => ⟨S_, .f32⟩
  | .hbm, ⟨39, _⟩ => ⟨S16x1024x2048, .f32⟩
  | .hbm, ⟨40, _⟩ => ⟨S16x1024x2048, .f32⟩
  | .hbm, ⟨41, _⟩ => ⟨S_, .f32⟩
  | .hbm, ⟨42, _⟩ => ⟨S16x1024x2048, .f32⟩
  | .hbm, ⟨43, _⟩ => ⟨S16x1024x2048, .f32⟩
  | .hbm, ⟨44, _⟩ => ⟨S16x1024x2048, .f32⟩
  | .hbm, ⟨45, _⟩ => ⟨S16x1024x2048, .f32⟩
  | .hbm, ⟨46, _⟩ => ⟨S1x16x2048x1024, .f32⟩
  | .hbm, ⟨47, _⟩ => ⟨S16x2048x1024, .f32⟩
  | .hbm, ⟨48, _⟩ => ⟨S16x1024x1024, .f32⟩
  | .hbm, ⟨49, _⟩ => ⟨S16x1024x1024, .f32⟩
  | .hbm, ⟨50, _⟩ => ⟨S16x1024x1024, .f32⟩
  | _, _ => ⟨S16x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩

abbrev nD : Nat := 1
abbrev τ : Topo := Topo.v7x

variable {F : FTy → Type} [FloatOps F]
-- ==== Last.lean ====
abbrev S16x4096 : Shape := ⟨2, ![16, 4096]⟩
abbrev S16x512x1024 : Shape := ⟨3, ![16, 512, 1024]⟩
abbrev S4096x1024 : Shape := ⟨2, ![4096, 1024]⟩
abbrev S1x6x1024 : Shape := ⟨3, ![1, 6, 1024]⟩
abbrev S1024 : Shape := ⟨1, ![1024]⟩
abbrev S1x1024 : Shape := ⟨2, ![1, 1024]⟩
abbrev S16x256 : Shape := ⟨2, ![16, 256]⟩
abbrev S16x32x1024 : Shape := ⟨3, ![16, 32, 1024]⟩
abbrev S256x1024 : Shape := ⟨2, ![256, 1024]⟩
abbrev S32x256 : Shape := ⟨2, ![32, 256]⟩
abbrev S1x256 : Shape := ⟨2, ![1, 256]⟩
abbrev S512x256 : Shape := ⟨2, ![512, 256]⟩
abbrev S1x32x1024 : Shape := ⟨3, ![1, 32, 1024]⟩
abbrev S32x1024 : Shape := ⟨2, ![32, 1024]⟩
abbrev S512x1024 : Shape := ⟨2, ![512, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S16x4096, .i32⟩
  | .hbm, ⟨1, _⟩ => ⟨S16x512x1024, .f32⟩
  | .hbm, ⟨2, _⟩ => ⟨S4096x1024, .f32⟩
  | .hbm, ⟨3, _⟩ => ⟨S1x6x1024, .f32⟩
  | .hbm, ⟨4, _⟩ => ⟨S1024, .f32⟩
  | .hbm, ⟨5, _⟩ => ⟨S1x1024, .f32⟩
  | .hbm, ⟨6, _⟩ => ⟨S4096x1024, .f32⟩
  | .local _ .vmem, ⟨0, _⟩ => ⟨S16x256, .i32⟩
  | .local _ .vmem, ⟨1, _⟩ => ⟨S16x256, .i32⟩
  | .local _ .vmem, ⟨2, _⟩ => ⟨S16x32x1024, .f32⟩
  | .local _ .vmem, ⟨3, _⟩ => ⟨S16x32x1024, .f32⟩
  | .local _ .vmem, ⟨4, _⟩ => ⟨S256x1024, .f32⟩
  | .local _ .vmem, ⟨5, _⟩ => ⟨S256x1024, .f32⟩
  | .local _ .vmem, ⟨6, _⟩ => ⟨S1x6x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | _, _ => ⟨S16x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LastRefIdeal.lean ====
abbrev S16x4096 : Shape := ⟨2, ![16, 4096]⟩
abbrev S16x512x1024 : Shape := ⟨3, ![16, 512, 1024]⟩
abbrev S4096x1024 : Shape := ⟨2, ![4096, 1024]⟩
abbrev S1x6x1024 : Shape := ⟨3, ![1, 6, 1024]⟩
abbrev S1024 : Shape := ⟨1, ![1024]⟩
abbrev S16x16x256 : Shape := ⟨3, ![16, 16, 256]⟩
abbrev S16x16x32x1024 : Shape := ⟨4, ![16, 16, 32, 1024]⟩
abbrev S_ : Shape := ⟨0, ![]⟩
abbrev S16 : Shape := ⟨1, ![16]⟩
abbrev S16x1x1 : Shape := ⟨3, ![16, 1, 1]⟩
abbrev S1x16x1 : Shape := ⟨3, ![1, 16, 1]⟩
abbrev S16x16x256x1 : Shape := ⟨4, ![16, 16, 256, 1]⟩
abbrev S16x16x256x3 : Shape := ⟨4, ![16, 16, 256, 3]⟩
abbrev S16x16x256x1024 : Shape := ⟨4, ![16, 16, 256, 1024]⟩
abbrev S16x256x1024 : Shape := ⟨3, ![16, 256, 1024]⟩
abbrev S1x1x1024 : Shape := ⟨3, ![1, 1, 1024]⟩
abbrev S16x256 : Shape := ⟨2, ![16, 256]⟩
abbrev S16x256x1 : Shape := ⟨3, ![16, 256, 1]⟩

abbrev nBuf : Space → Nat
  | .hbm => 86
  | .vmem => 0
  | .smem => 0
  | _ => 0

abbrev bufTy : (tb : Table) → Fin (tcTables nBuf tb) → BufTy
  | .hbm, ⟨0, _⟩ => ⟨S16x4096, .i32⟩
  | .hbm, ⟨1, _⟩ => ⟨S16x512x1024, .f32⟩
  | .hbm, ⟨2, _⟩ => ⟨S4096x1024, .f32⟩
  | .hbm, ⟨3, _⟩ => ⟨S1x6x1024, .f32⟩
  | .hbm, ⟨4, _⟩ => ⟨S1024, .f32⟩
  | .hbm, ⟨5, _⟩ => ⟨S16x16x256, .i32⟩
  | .hbm, ⟨6, _⟩ => ⟨S16x16x32x1024, .f32⟩
  | .hbm, ⟨7, _⟩ => ⟨S_, .i32⟩
  | .hbm, ⟨8, _⟩ => ⟨S16x16x256, .i32⟩
  | .hbm, ⟨9, _⟩ => ⟨S16x16x256, .i1⟩
  | .hbm, ⟨10, _⟩ => ⟨S_, .i32⟩
  | .hbm, ⟨11, _⟩ => ⟨S16x16x256, .i32⟩
  | .hbm, ⟨12, _⟩ => ⟨S16x16x256, .i1⟩
  | .hbm, ⟨13, _⟩ => ⟨S16x16x256, .i1⟩
  | .hbm, ⟨14, _⟩ => ⟨S16, .i32⟩
  | .hbm, ⟨15, _⟩ => ⟨S16x1x1, .i32⟩
  | .hbm, ⟨16, _⟩ => ⟨S16, .i32⟩
  | .hbm, ⟨17, _⟩ => ⟨S1x16x1, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S16x16x256, .i32⟩
  | .hbm, ⟨22, _⟩ => ⟨S16x16x256, .i32⟩
  | .hbm, ⟨23, _⟩ => ⟨S_, .i32⟩
  | .hbm, ⟨24, _⟩ => ⟨S16x16x256, .i32⟩
  | .hbm, ⟨25, _⟩ => ⟨S16x16x256, .i32⟩
  | .hbm, ⟨26, _⟩ => ⟨S_, .i32⟩
  | .hbm, ⟨27, _⟩ => ⟨S16x1x1, .i32⟩
  | .hbm, ⟨28, _⟩ => ⟨S16x1x1, .i1⟩
  | .hbm, ⟨29, _⟩ => ⟨S_, .i32⟩
  | .hbm, ⟨30, _⟩ => ⟨S16x1x1, .i32⟩
  | .hbm, ⟨31, _⟩ => ⟨S16x1x1, .i32⟩
  | .hbm, ⟨32, _⟩ => ⟨S16x1x1, .i32⟩
  | .hbm, ⟨33, _⟩ => ⟨S_, .i32⟩
  | .hbm, ⟨34, _⟩ => ⟨S1x16x1, .i32⟩
  | .hbm, ⟨35, _⟩ => ⟨S1x16x1, .i1⟩
  | .hbm, ⟨36, _⟩ => ⟨S_, .i32⟩
  | .hbm, ⟨37, _⟩ => ⟨S1x16x1, .i32⟩
  | .hbm, ⟨38, _⟩ => ⟨S1x16x1, .i32⟩
  | .hbm, ⟨39, _⟩ => ⟨S1x16x1, .i32⟩
  | .hbm, ⟨40, _⟩ => ⟨S_, .i32⟩
  | .hbm, ⟨41, _⟩ => ⟨S16x16x256, .i32⟩
  | .hbm, ⟨42, _⟩ => ⟨S16x16x256, .i1⟩
  | .hbm, ⟨43, _⟩ => ⟨S_, .i32⟩
  | .hbm, ⟨44, _⟩ => ⟨S16x16x256, .i32⟩
  | .hbm, ⟨45, _⟩ => ⟨S16x16x256, .i32⟩
  | .hbm, ⟨46, _⟩ => ⟨S16x16x256, .i32⟩
  | .hbm, ⟨47, _⟩ => ⟨S16x16x256, .i32⟩
  | .hbm, ⟨48, _⟩ => ⟨S16x16x256, .i32⟩
  | .hbm, ⟨49, _⟩ => ⟨S16x16x256x1, .i32⟩
  | .hbm, ⟨50, _⟩ => ⟨S16x16x256x1, .i32⟩
  | .hbm, ⟨51, _⟩ => ⟨S16x16x256x1, .i32⟩
  | .hbm, ⟨52, _⟩ => ⟨S16x16x256x3, .i32⟩
  | .hbm, ⟨53, _⟩ => ⟨S16x16x256x1024, .f32⟩
  | .hbm, ⟨54, _⟩ => ⟨S16x16x256x1, .i1⟩
  | .hbm, ⟨55, _⟩ => ⟨S_, .f32⟩
  | .hbm, ⟨56, _⟩ => ⟨S_, .f32⟩
  | .hbm, ⟨57, _⟩ => ⟨S16x16x256x1024, .i1⟩
  | .hbm, ⟨58, _⟩ => ⟨S16x16x256x1024, .f32⟩
  | .hbm, ⟨59, _⟩ => ⟨S16x16x256x1024, .f32⟩
  | .hbm, ⟨60, _⟩ => ⟨S_, .f32⟩
  | .hbm, ⟨61, _⟩ => ⟨S16x256x1024, .f32⟩
  | .hbm, ⟨62, _⟩ => ⟨S16x256x1024, .f32⟩
  | .hbm, ⟨63, _⟩ => ⟨S1x1x1024, .f32⟩
  | .hbm, ⟨64, _⟩ => ⟨S1024, .f32⟩
  | .hbm, ⟨65, _⟩ => ⟨S1x1x1024, .f32⟩
  | .hbm, ⟨66, _⟩ => ⟨S16x256x1024, .f32⟩
  | .hbm, ⟨67, _⟩ => ⟨S16x256x1024, .f32⟩
  | .hbm, ⟨68, _⟩ => ⟨S16x256x1024, .f32⟩
  | .hbm, ⟨69, _⟩ => ⟨S16x256x1024, .f32⟩
  | .hbm, ⟨70, _⟩ => ⟨S_, .f32⟩
  | .hbm, ⟨71, _⟩ => ⟨S16x256, .f32⟩
  | .hbm, ⟨72, _⟩ => ⟨S16x256x1, .f32⟩
  | .hbm, ⟨73, _⟩ => ⟨S_, .f32⟩
  | .hbm, ⟨74, _⟩ => ⟨S16x256x1, .f32⟩
  | .hbm, ⟨75, _⟩ => ⟨S16x256x1, .f32⟩
  | .hbm, ⟨76, _⟩ => ⟨S_, .f32⟩
  | .hbm, ⟨77, _⟩ => ⟨S16x256x1, .f32⟩
  | .hbm, ⟨78, _⟩ => ⟨S16x256x1, .f32⟩
  | .hbm, ⟨79, _⟩ => ⟨S16x256x1, .f32⟩
  | .hbm, ⟨80, _⟩ => ⟨S16x256x1024, .f32⟩
  | .hbm, ⟨81, _⟩ => ⟨S16x256x1024, .f32⟩
  | .hbm, ⟨82, _⟩ => ⟨S1x1x1024, .f32⟩
  | .hbm, ⟨83, _⟩ => ⟨S16x256x1024, .f32⟩
  | .hbm, ⟨84, _⟩ => ⟨S16x256x1024, .f32⟩
  | .hbm, ⟨85, _⟩ => ⟨S4096x1024, .f32⟩
  | _, _ => ⟨S16x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_c_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_7 : Ref sig .tc := ⟨.hbm, 40, rfl⟩
abbrev main_v22 : Ref sig .tc := ⟨.hbm, 41, rfl⟩
abbrev main_v23 : Ref sig .tc := ⟨.hbm, 42, rfl⟩
abbrev main_c_8 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v35 : Ref sig .tc := ⟨.hbm, 59, rfl⟩
abbrev main_cst_9 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_v48 : Ref sig .tc := ⟨.hbm, 75, rfl⟩
abbrev main_cst_12 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩

abbrev nD : Nat := 1
abbrev τ : Topo := Topo.v7x

variable {F : FTy → Type} [FloatOps F]
-- ==== Proj.lean ====
abbrev S16x256x1024 : Shape := ⟨3, ![16, 256, 1024]⟩
abbrev S1x6x1024 : Shape := ⟨3, ![1, 6, 1024]⟩
abbrev S2x1024 : Shape := ⟨2, ![2, 1024]⟩
abbrev S2x1024x2832 : Shape := ⟨3, ![2, 1024, 2832]⟩
abbrev S2x2x2x4 : Shape := ⟨4, ![2, 2, 2, 4]⟩
abbrev S256x512 : Shape := ⟨2, ![256, 512]⟩
abbrev S16x2x256x512 : Shape := ⟨4, ![16, 2, 256, 512]⟩
abbrev S2x1024x16 : Shape := ⟨3, ![2, 1024, 16]⟩
abbrev S2x16x1024 : Shape := ⟨3, ![2, 16, 1024]⟩
abbrev S2x1024x256 : Shape := ⟨3, ![2, 1024, 256]⟩
abbrev S2x1024x512 : Shape := ⟨3, ![2, 1024, 512]⟩
abbrev S2x512x1024 : Shape := ⟨3, ![2, 512, 1024]⟩
abbrev S2x1x16 : Shape := ⟨3, ![2, 1, 16]⟩
abbrev S2x16x1 : Shape := ⟨3, ![2, 16, 1]⟩
abbrev S2x1x1024 : Shape := ⟨3, ![2, 1, 1024]⟩
abbrev S4096x1024 : Shape := ⟨2, ![4096, 1024]⟩
abbrev S4096x2304 : Shape := ⟨2, ![4096, 2304]⟩
abbrev S4096x16 : Shape := ⟨2, ![4096, 16]⟩
abbrev S16x4096 : Shape := ⟨2, ![16, 4096]⟩
abbrev S512x4096 : Shape := ⟨2, ![512, 4096]⟩
abbrev S4096x512 : Shape := ⟨2, ![4096, 512]⟩
abbrev S512x1024 : Shape := ⟨2, ![512, 1024]⟩
abbrev S1x1x1024 : Shape := ⟨3, ![1, 1, 1024]⟩
abbrev S1x1024x2832 : Shape := ⟨3, ![1, 1024, 2832]⟩
abbrev S1x16x1024 : Shape := ⟨3, ![1, 16, 1024]⟩
abbrev S1x512x1024 : Shape := ⟨3, ![1, 512, 1024]⟩
abbrev S1x1x16 : Shape := ⟨3, ![1, 1, 16]⟩
abbrev S1x16x1 : Shape := ⟨3, ![1, 16, 1]⟩
abbrev S512x2304 : Shape := ⟨2, ![512, 2304]⟩
abbrev S512x16 : Shape := ⟨2, ![512, 16]⟩
abbrev S16x512 : Shape := ⟨2, ![16, 512]⟩
abbrev S512x512 : Shape := ⟨2, ![512, 512]⟩
abbrev S2x1x256x512 : Shape := ⟨4, ![2, 1, 256, 512]⟩
abbrev S512 : Shape := ⟨1, ![512]⟩
abbrev S512x1 : Shape := ⟨2, ![512, 1]⟩
abbrev S1x1024 : Shape := ⟨2, ![1, 1024]⟩
abbrev S1x1024x256 : Shape := ⟨3, ![1, 1024, 256]⟩
abbrev S1024x256 : Shape := ⟨2, ![1024, 256]⟩
abbrev S512x256 : Shape := ⟨2, ![512, 256]⟩
abbrev S256x256 : Shape := ⟨2, ![256, 256]⟩
abbrev S1x1x256x256 : Shape := ⟨4, ![1, 1, 256, 256]⟩
abbrev S1x1024x16 : Shape := ⟨3, ![1, 1024, 16]⟩
abbrev S1024x16 : Shape := ⟨2, ![1024, 16]⟩
abbrev S1x16 : Shape := ⟨2, ![1, 16]⟩
abbrev S16x1024 : Shape := ⟨2, ![16, 1024]⟩
abbrev S16x1 : Shape := ⟨2, ![16, 1]⟩

abbrev nBuf : Space → Nat
  | .hbm => 28
  | .vmem => 25
  | .smem => 0
  | _ => 0

abbrev bufTy : (tb : Table) → Fin (tcTables nBuf tb) → BufTy
  | .hbm, ⟨0, _⟩ => ⟨S16x256x1024, .f32⟩
  | .hbm, ⟨1, _⟩ => ⟨S1x6x1024, .f32⟩
  | .hbm, ⟨2, _⟩ => ⟨S2x1024, .f32⟩
  | .hbm, ⟨3, _⟩ => ⟨S2x1024x2832, .f32⟩
  | .hbm, ⟨4, _⟩ => ⟨S2x2x2x4, .f32⟩
  | .hbm, ⟨5, _⟩ => ⟨S256x512, .bf16⟩
  | .hbm, ⟨6, _⟩ => ⟨S16x2x256x512, .f32⟩
  | .hbm, ⟨7, _⟩ => ⟨S16x2x256x512, .f32⟩
  | .hbm, ⟨8, _⟩ => ⟨S2x1024x2832, .bf16⟩
  | .hbm, ⟨9, _⟩ => ⟨S2x1024x16, .f32⟩
  | .hbm, ⟨10, _⟩ => ⟨S2x16x1024, .f32⟩
  | .hbm, ⟨11, _⟩ => ⟨S2x16x1024, .bf16⟩
  | .hbm, ⟨12, _⟩ => ⟨S2x1024x256, .f32⟩
  | .hbm, ⟨13, _⟩ => ⟨S2x1024x256, .f32⟩
  | .hbm, ⟨14, _⟩ => ⟨S2x1024x512, .f32⟩
  | .hbm, ⟨15, _⟩ => ⟨S2x512x1024, .f32⟩
  | .hbm, ⟨16, _⟩ => ⟨S2x512x1024, .bf16⟩
  | .hbm, ⟨17, _⟩ => ⟨S2x1x16, .f32⟩
  | .hbm, ⟨18, _⟩ => ⟨S2x16x1, .f32⟩
  | .hbm, ⟨19, _⟩ => ⟨S2x1x1024, .f32⟩
  | .hbm, ⟨20, _⟩ => ⟨S4096x1024, .f32⟩
  | .hbm, ⟨21, _⟩ => ⟨S4096x2304, .bf16⟩
  | .hbm, ⟨22, _⟩ => ⟨S4096x16, .f32⟩
  | .hbm, ⟨23, _⟩ => ⟨S16x4096, .f32⟩
  | .hbm, ⟨24, _⟩ => ⟨S512x4096, .f32⟩
  | .hbm, ⟨25, _⟩ => ⟨S4096x512, .bf16⟩
  | .hbm, ⟨26, _⟩ => ⟨S16x2x256x512, .f32⟩
  | .hbm, ⟨27, _⟩ => ⟨S16x2x256x512, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1x1024, .f32⟩
  | .local _ .vmem, ⟨5, _⟩ => ⟨S1x1024x2832, .bf16⟩
  | .local _ .vmem, ⟨6, _⟩ => ⟨S1x16x1024, .bf16⟩
  | .local _ .vmem, ⟨7, _⟩ => ⟨S1x512x1024, .bf16⟩
  | .local _ .vmem, ⟨8, _⟩ => ⟨S1x1x16, .f32⟩
  | .local _ .vmem, ⟨9, _⟩ => ⟨S1x16x1, .f32⟩
  | .local _ .vmem, ⟨10, _⟩ => ⟨S256x512, .bf16⟩
  | .local _ .vmem, ⟨11, _⟩ => ⟨S512x2304, .bf16⟩
  | .local _ .vmem, ⟨12, _⟩ => ⟨S512x2304, .bf16⟩
  | .local _ .vmem, ⟨13, _⟩ => ⟨S512x16, .f32⟩
  | .local _ .vmem, ⟨14, _⟩ => ⟨S512x16, .f32⟩
  | .local _ .vmem, ⟨15, _⟩ => ⟨S16x512, .f32⟩
  | .local _ .vmem, ⟨16, _⟩ => ⟨S16x512, .f32⟩
  | .local _ .vmem, ⟨17, _⟩ => ⟨S512x512, .f32⟩
  | .local _ .vmem, ⟨18, _⟩ => ⟨S512x512, .f32⟩
  | .local _ .vmem, ⟨19, _⟩ => ⟨S512x512, .bf16⟩
  | .local _ .vmem, ⟨20, _⟩ => ⟨S512x512, .bf16⟩
  | .local _ .vmem, ⟨21, _⟩ => ⟨S2x1x256x512, .f32⟩
  | .local _ .vmem, ⟨22, _⟩ => ⟨S2x1x256x512, .f32⟩
  | .local _ .vmem, ⟨23, _⟩ => ⟨S2x1x256x512, .f32⟩
  | .local _ .vmem, ⟨24, _⟩ => ⟨S2x1x256x512, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev main_v13_5 : Ref sig .tc := ⟨.hbm, 26, rfl⟩
abbrev main_v13_6 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_17 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2832 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2304 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x1x256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ProjRefIdeal.lean ====
abbrev S16x256x1024 : Shape := ⟨3, ![16, 256, 1024]⟩
abbrev S1x6x1024 : Shape := ⟨3, ![1, 6, 1024]⟩
abbrev S2x1024 : Shape := ⟨2, ![2, 1024]⟩
abbrev S2x1024x2832 : Shape := ⟨3, ![2, 1024, 2832]⟩
abbrev S2x2x2x4 : Shape := ⟨4, ![2, 2, 2, 4]⟩
abbrev S256x512 : Shape := ⟨2, ![256, 512]⟩
abbrev S16x2x256x512 : Shape := ⟨4, ![16, 2, 256, 512]⟩
abbrev S_ : Shape := ⟨0, ![]⟩
abbrev S16x256 : Shape := ⟨2, ![16, 256]⟩
abbrev S16x256x1 : Shape := ⟨3, ![16, 256, 1]⟩
abbrev S1x1024 : Shape := ⟨2, ![1, 1024]⟩
abbrev S1024 : Shape := ⟨1, ![1024]⟩
abbrev S1x1x1024 : Shape := ⟨3, ![1, 1, 1024]⟩
abbrev S1x1024x2832 : Shape := ⟨3, ![1, 1024, 2832]⟩
abbrev S1024x2832 : Shape := ⟨2, ![1024, 2832]⟩
abbrev S16x256x2832 : Shape := ⟨3, ![16, 256, 2832]⟩
abbrev S4096x2832 : Shape := ⟨2, ![4096, 2832]⟩
abbrev S4096x16 : Shape := ⟨2, ![4096, 16]⟩
abbrev S1x2x2x4 : Shape := ⟨4, ![1, 2, 2, 4]⟩
abbrev S2x2x4 : Shape := ⟨3, ![2, 2, 4]⟩
abbrev S16 : Shape := ⟨1, ![16]⟩
abbrev S1x16 : Shape := ⟨2, ![1, 16]⟩
abbrev S4096x256 : Shape := ⟨2, ![4096, 256]⟩
abbrev S4096x512 : Shape := ⟨2, ![4096, 512]⟩
abbrev S16x256x512 : Shape := ⟨3, ![16, 256, 512]⟩
abbrev S4096x2304 : Shape := ⟨2, ![4096, 2304]⟩
abbrev S16x4096 : Shape := ⟨2, ![16, 4096]⟩
abbrev S512x4096 : Shape := ⟨2, ![512, 4096]⟩
abbrev S16x1x256x512 : Shape := ⟨4, ![16, 1, 256, 512]⟩

abbrev nBuf : Space → Nat
  | .hbm => 73
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x6x1024, .f32⟩
  | .hbm, ⟨2, _⟩ => ⟨S2x1024, .f32⟩
  | .hbm, ⟨3, _⟩ => ⟨S2x1024x2832, .f32⟩
  | .hbm, ⟨4, _⟩ => ⟨S2x2x2x4, .f32⟩
  | .hbm, ⟨5, _⟩ => ⟨S256x512, .bf16⟩
  | .hbm, ⟨6, _⟩ => ⟨S16x2x256x512, .f32⟩
  | .hbm, ⟨7, _⟩ => ⟨S16x2x256x512, .f32⟩
  | .hbm, ⟨8, _⟩ => ⟨S16x256x1024, .f32⟩
  | .hbm, ⟨9, _⟩ => ⟨S_, .f32⟩
  | .hbm, ⟨10, _⟩ => ⟨S16x256, .f32⟩
  | .hbm, ⟨11, _⟩ => ⟨S16x256x1, .f32⟩
  | .hbm, ⟨12, _⟩ => ⟨S_, .f32⟩
  | .hbm, ⟨13, _⟩ => ⟨S16x256x1, .f32⟩
  | .hbm, ⟨14, _⟩ => ⟨S16x256x1, .f32⟩
  | .hbm, ⟨15, _⟩ => ⟨S_, .f32⟩
  | .hbm, ⟨16, _⟩ => ⟨S16x256x1, .f32⟩
  | .hbm, ⟨17, _⟩ => ⟨S16x256x1, .f32⟩
  | .hbm, ⟨18, _⟩ => ⟨S16x256x1, .f32⟩
  | .hbm, ⟨19, _⟩ => ⟨S16x256x1024, .f32⟩
  | .hbm, ⟨20, _⟩ => ⟨S16x256x1024, .f32⟩
  | .hbm, ⟨21, _⟩ => ⟨S1x1024, .f32⟩
  | .hbm, ⟨22, _⟩ => ⟨S1024, .f32⟩
  | .hbm, ⟨23, _⟩ => ⟨S1x1x1024, .f32⟩
  | .hbm, ⟨24, _⟩ => ⟨S16x256x1024, .f32⟩
  | .hbm, ⟨25, _⟩ => ⟨S16x256x1024, .f32⟩
  | .hbm, ⟨26, _⟩ => ⟨S1x1x1024, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1x1024, .f32⟩
  | .hbm, ⟨32, _⟩ => ⟨S16x256x1024, .f32⟩
  | .hbm, ⟨33, _⟩ => ⟨S16x256x1024, .f32⟩
  | .hbm, ⟨34, _⟩ => ⟨S1x1x1024, .f32⟩
  | .hbm, ⟨35, _⟩ => ⟨S1024, .f32⟩
  | .hbm, ⟨36, _⟩ => ⟨S1x1x1024, .f32⟩
  | .hbm, ⟨37, _⟩ => ⟨S16x256x1024, .f32⟩
  | .hbm, ⟨38, _⟩ => ⟨S16x256x1024, .f32⟩
  | .hbm, ⟨39, _⟩ => ⟨S1x1024x2832, .f32⟩
  | .hbm, ⟨40, _⟩ => ⟨S1024x2832, .f32⟩
  | .hbm, ⟨41, _⟩ => ⟨S16x256x2832, .f32⟩
  | .hbm, ⟨42, _⟩ => ⟨S4096x2832, .f32⟩
  | .hbm, ⟨43, _⟩ => ⟨S4096x16, .f32⟩
  | .hbm, ⟨44, _⟩ => ⟨S1x2x2x4, .f32⟩
  | .hbm, ⟨45, _⟩ => ⟨S2x2x4, .f32⟩
  | .hbm, ⟨46, _⟩ => ⟨S16, .f32⟩
  | .hbm, ⟨47, _⟩ => ⟨S1x16, .f32⟩
  | .hbm, ⟨48, _⟩ => ⟨S4096x16, .f32⟩
  | .hbm, ⟨49, _⟩ => ⟨S4096x16, .f32⟩
  | .hbm, ⟨50, _⟩ => ⟨S4096x256, .f32⟩
  | .hbm, ⟨51, _⟩ => ⟨S256x512, .f32⟩
  | .hbm, ⟨52, _⟩ => ⟨S4096x512, .f32⟩
  | .hbm, ⟨53, _⟩ => ⟨S4096x512, .f32⟩
  | .hbm, ⟨54, _⟩ => ⟨S16x256x512, .f32⟩
  | .hbm, ⟨55, _⟩ => ⟨S4096x512, .f32⟩
  | .hbm, ⟨56, _⟩ => ⟨S16x256x512, .f32⟩
  | .hbm, ⟨57, _⟩ => ⟨S4096x2304, .f32⟩
  | .hbm, ⟨58, _⟩ => ⟨S4096x2304, .bf16⟩
  | .hbm, ⟨59, _⟩ => ⟨S16x4096, .f32⟩
  | .hbm, ⟨60, _⟩ => ⟨S4096x512, .f32⟩
  | .hbm, ⟨61, _⟩ => ⟨S512x4096, .f32⟩
  | .hbm, ⟨62, _⟩ => ⟨S4096x512, .bf16⟩
  | .hbm, ⟨63, _⟩ => ⟨S16x1x256x512, .f32⟩
  | .hbm, ⟨64, _⟩ => ⟨S16x256x512, .f32⟩
  | .hbm, ⟨65, _⟩ => ⟨S16x1x256x512, .f32⟩
  | .hbm, ⟨66, _⟩ => ⟨S16x1x256x512, .f32⟩
  | .hbm, ⟨67, _⟩ => ⟨S16x2x256x512, .f32⟩
  | .hbm, ⟨68, _⟩ => ⟨S16x1x256x512, .f32⟩
  | .hbm, ⟨69, _⟩ => ⟨S16x256x512, .f32⟩
  | .hbm, ⟨70, _⟩ => ⟨S16x1x256x512, .f32⟩
  | .hbm, ⟨71, _⟩ => ⟨S16x1x256x512, .f32⟩
  | .hbm, ⟨72, _⟩ => ⟨S16x2x256x512, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩

abbrev nD : Nat := 1
abbrev τ : Topo := Topo.v7x

variable {F : FTy → Type} [FloatOps F]
-- ==== Mlstm.lean ====
abbrev S4096x2816 : Shape := ⟨2, ![4096, 2816]⟩
abbrev S4096x16 : Shape := ⟨2, ![4096, 16]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S16x2x4x64x64 : Shape := ⟨5, ![16, 2, 4, 64, 64]⟩
abbrev S16x8x64 : Shape := ⟨3, ![16, 8, 64]⟩
abbrev S16x8x1 : Shape := ⟨3, ![16, 8, 1]⟩
abbrev S16x4096 : Shape := ⟨2, ![16, 4096]⟩
abbrev S4096x256 : Shape := ⟨2, ![4096, 256]⟩
abbrev S128x256 : Shape := ⟨2, ![128, 256]⟩
abbrev S128x16 : Shape := ⟨2, ![128, 16]⟩
abbrev S16x128 : Shape := ⟨2, ![16, 128]⟩
abbrev S1x2x4x64x64 : Shape := ⟨5, ![1, 2, 4, 64, 64]⟩
abbrev S1x8x64 : Shape := ⟨3, ![1, 8, 64]⟩
abbrev S1x8x1 : Shape := ⟨3, ![1, 8, 1]⟩
abbrev S2x4x64x64 : Shape := ⟨4, ![2, 4, 64, 64]⟩
abbrev S8x64 : Shape := ⟨2, ![8, 64]⟩
abbrev S8x1 : Shape := ⟨2, ![8, 1]⟩
abbrev S128x4 : Shape := ⟨2, ![128, 4]⟩
abbrev S4x128 : Shape := ⟨2, ![4, 128]⟩
abbrev S4 : Shape := ⟨1, ![4]⟩
abbrev S4x1 : Shape := ⟨2, ![4, 1]⟩
abbrev S128x64 : Shape := ⟨2, ![128, 64]⟩
abbrev S1x1x64x64 : Shape := ⟨4, ![1, 1, 64, 64]⟩
abbrev S64x64 : Shape := ⟨2, ![64, 64]⟩
abbrev S1x64 : Shape := ⟨2, ![1, 64]⟩
abbrev S1x1 : Shape := ⟨2, ![1, 1]⟩
abbrev S1 : Shape := ⟨1, ![1]⟩
abbrev S64 : Shape := ⟨1, ![64]⟩

abbrev nBuf : Space → Nat
  | .hbm => 27
  | .vmem => 41
  | .smem => 0
  | _ => 0

abbrev bufTy : (tb : Table) → Fin (tcTables nBuf tb) → BufTy
  | .hbm, ⟨0, _⟩ => ⟨S4096x2816, .f32⟩
  | .hbm, ⟨1, _⟩ => ⟨S4096x16, .f32⟩
  | .hbm, ⟨2, _⟩ => ⟨S128, .i32⟩
  | .hbm, ⟨3, _⟩ => ⟨S128x1, .i32⟩
  | .hbm, ⟨4, _⟩ => ⟨S1x128, .i32⟩
  | .hbm, ⟨5, _⟩ => ⟨S128x128, .i32⟩
  | .hbm, ⟨6, _⟩ => ⟨S128x128, .i32⟩
  | .hbm, ⟨7, _⟩ => ⟨S128x128, .i1⟩
  | .hbm, ⟨8, _⟩ => ⟨S128x128, .f32⟩
  | .hbm, ⟨9, _⟩ => ⟨S128x1, .i32⟩
  | .hbm, ⟨10, _⟩ => ⟨S1x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S128x128, .f32⟩
  | .hbm, ⟨15, _⟩ => ⟨S_, .f32⟩
  | .hbm, ⟨16, _⟩ => ⟨S16x2x4x64x64, .f32⟩
  | .hbm, ⟨17, _⟩ => ⟨S_, .f32⟩
  | .hbm, ⟨18, _⟩ => ⟨S16x8x64, .f32⟩
  | .hbm, ⟨19, _⟩ => ⟨S_, .f32⟩
  | .hbm, ⟨20, _⟩ => ⟨S16x8x1, .f32⟩
  | .hbm, ⟨21, _⟩ => ⟨S16x4096, .f32⟩
  | .hbm, ⟨22, _⟩ => ⟨S4096x256, .f32⟩
  | .hbm, ⟨23, _⟩ => ⟨S4096x256, .f32⟩
  | .hbm, ⟨24, _⟩ => ⟨S16x2x4x64x64, .f32⟩
  | .hbm, ⟨25, _⟩ => ⟨S16x8x64, .f32⟩
  | .hbm, ⟨26, _⟩ => ⟨S16x8x1, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x16, .f32⟩
  | .local _ .vmem, ⟨7, _⟩ => ⟨S128x16, .f32⟩
  | .local _ .vmem, ⟨8, _⟩ => ⟨S16x128, .f32⟩
  | .local _ .vmem, ⟨9, _⟩ => ⟨S16x128, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x16, .f32⟩
  | .local _ .vmem, ⟨17, _⟩ => ⟨S128x16, .f32⟩
  | .local _ .vmem, ⟨18, _⟩ => ⟨S16x128, .f32⟩
  | .local _ .vmem, ⟨19, _⟩ => ⟨S16x128, .f32⟩
  | .local _ .vmem, ⟨20, _⟩ => ⟨S1x2x4x64x64, .f32⟩
  | .local _ .vmem, ⟨21, _⟩ => ⟨S1x2x4x64x64, .f32⟩
  | .local _ .vmem, ⟨22, _⟩ => ⟨S1x8x64, .f32⟩
  | .local _ .vmem, ⟨23, _⟩ => ⟨S1x8x64, .f32⟩
  | .local _ .vmem, ⟨24, _⟩ => ⟨S1x8x1, .f32⟩
  | .local _ .vmem, ⟨25, _⟩ => ⟨S1x8x1, .f32⟩
  | .local _ .vmem, ⟨26, _⟩ => ⟨S128x128, .f32⟩
  | .local _ .vmem, ⟨27, _⟩ => ⟨S128x128, .f32⟩
  | .local _ .vmem, ⟨28, _⟩ => ⟨S128x256, .f32⟩
  | .local _ .vmem, ⟨29, _⟩ => ⟨S128x256, .f32⟩
  | .local _ .vmem, ⟨30, _⟩ => ⟨S128x256, .f32⟩
  | .local _ .vmem, ⟨31, _⟩ => ⟨S128x256, .f32⟩
  | .local _ .vmem, ⟨32, _⟩ => ⟨S1x2x4x64x64, .f32⟩
  | .local _ .vmem, ⟨33, _⟩ => ⟨S1x2x4x64x64, .f32⟩
  | .local _ .vmem, ⟨34, _⟩ => ⟨S1x8x64, .f32⟩
  | .local _ .vmem, ⟨35, _⟩ => ⟨S1x8x64, .f32⟩
  | .local _ .vmem, ⟨36, _⟩ => ⟨S1x8x1, .f32⟩
  | .local _ .vmem, ⟨37, _⟩ => ⟨S1x8x1, .f32⟩
  | .local _ .vmem, ⟨38, _⟩ => ⟨S2x4x64x64, .f32⟩
  | .local _ .vmem, ⟨39, _⟩ => ⟨S8x64, .f32⟩
  | .local _ .vmem, ⟨40, _⟩ => ⟨S8x1, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17_0 : Ref sig .tc := ⟨.hbm, 22, rfl⟩
abbrev main_v17_1 : Ref sig .tc := ⟨.hbm, 23, rfl⟩
abbrev main_v17_2 : Ref sig .tc := ⟨.hbm, 24, rfl⟩
abbrev main_v17_3 : Ref sig .tc := ⟨.hbm, 25, rfl⟩
abbrev main_v17_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v847 : BitVec 1 := Scalar.cmpi .eq arg1 c1_i32
  let v848 : BitVec 32 := Scalar.extui v847
  let c0_i32_311 : BitVec 32 := 0#32
  let v849 : BitVec 1 := Scalar.cmpi .ne v848 c0_i32_311
  v849

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c7_i32 : BitVec 32 := 7#32
  let c0_i32 : BitVec 32 := 0#32
  ![v1.toNat, c7_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c8_i32 : BitVec 32 := 8#32
  let c0_i32 : BitVec 32 := 0#32
  ![v1.toNat, c8_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c9_i32 : BitVec 32 := 9#32
  let c0_i32 : BitVec 32 := 0#32
  ![v1.toNat, c9_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c2_i32_0 : BitVec 32 := 2#32
  let v1 : BitVec 32 := Scalar.addi v0 c2_i32_0
  let c1_i32 : BitVec 32 := 1#32
  let v2 : BitVec 32 := Scalar.subi v1 c1_i32
  let v3 : BitVec 32 := Scalar.subi v2 arg1
  let c7_i32 : BitVec 32 := 7#32
  let c0_i32 : BitVec 32 := 0#32
  ![v3.toNat, c7_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c2_i32_0 : BitVec 32 := 2#32
  let v1 : BitVec 32 := Scalar.addi v0 c2_i32_0
  let c1_i32 : BitVec 32 := 1#32
  let v2 : BitVec 32 := Scalar.subi v1 c1_i32
  let v3 : BitVec 32 := Scalar.subi v2 arg1
  let c8_i32 : BitVec 32 := 8#32
  let c0_i32 : BitVec 32 := 0#32
  ![v3.toNat, c8_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c2_i32_0 : BitVec 32 := 2#32
  let v1 : BitVec 32 := Scalar.addi v0 c2_i32_0
  let c1_i32 : BitVec 32 := 1#32
  let v2 : BitVec 32 := Scalar.subi v1 c1_i32
  let v3 : BitVec 32 := Scalar.subi v2 arg1
  let c9_i32 : BitVec 32 := 9#32
  let c0_i32 : BitVec 32 := 0#32
  ![v3.toNat, c9_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c2_i32_0 : BitVec 32 := 2#32
  let v1 : BitVec 32 := Scalar.addi v0 c2_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c2_i32_0 : BitVec 32 := 2#32
  let v1 : BitVec 32 := Scalar.addi v0 c2_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![c0_i32.toNat, v3.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c2_i32_0 : BitVec 32 := 2#32
  let v1 : BitVec 32 := Scalar.addi v0 c2_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_17 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x4x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x8x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S128x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x2x4x64x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x8x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x8x1 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== MlstmRefIdeal.lean ====
abbrev S4096x2816 : Shape := ⟨2, ![4096, 2816]⟩
abbrev S4096x16 : Shape := ⟨2, ![4096, 16]⟩
abbrev S_ : Shape := ⟨0, ![]⟩
abbrev S128x128 : Shape := ⟨2, ![128, 128]⟩
abbrev S4096x256 : Shape := ⟨2, ![4096, 256]⟩
abbrev S16x256x4x64 : Shape := ⟨4, ![16, 256, 4, 64]⟩
abbrev S16x4x256x64 : Shape := ⟨4, ![16, 4, 256, 64]⟩
abbrev S32x4x256x64 : Shape := ⟨4, ![32, 4, 256, 64]⟩
abbrev S16x256x2x2x4 : Shape := ⟨5, ![16, 256, 2, 2, 4]⟩
abbrev S2x2x16x4x256 : Shape := ⟨5, ![2, 2, 16, 4, 256]⟩
abbrev S1x1x16x4x256 : Shape := ⟨5, ![1, 1, 16, 4, 256]⟩
abbrev S16x4x256 : Shape := ⟨3, ![16, 4, 256]⟩
abbrev S32x4x256 : Shape := ⟨3, ![32, 4, 256]⟩
abbrev S32x4x64x64 : Shape := ⟨4, ![32, 4, 64, 64]⟩
abbrev S32x4x64 : Shape := ⟨3, ![32, 4, 64]⟩
abbrev S32x4 : Shape := ⟨2, ![32, 4]⟩
abbrev S32x4x128x64 : Shape := ⟨4, ![32, 4, 128, 64]⟩
abbrev S32x4x128 : Shape := ⟨3, ![32, 4, 128]⟩
abbrev S32x4x1x128 : Shape := ⟨4, ![32, 4, 1, 128]⟩
abbrev S32x4x128x128 : Shape := ⟨4, ![32, 4, 128, 128]⟩
abbrev S32x4x128x1 : Shape := ⟨4, ![32, 4, 128, 1]⟩
abbrev S32x4x1 : Shape := ⟨3, ![32, 4, 1]⟩
abbrev S32x4x1x1 : Shape := ⟨4, ![32, 4, 1, 1]⟩
abbrev S16x4x64x64 : Shape := ⟨4, ![16, 4, 64, 64]⟩
abbrev S16x1x4x64x64 : Shape := ⟨5, ![16, 1, 4, 64, 64]⟩
abbrev S16x2x4x64x64 : Shape := ⟨5, ![16, 2, 4, 64, 64]⟩
abbrev S16x4x64 : Shape := ⟨3, ![16, 4, 64]⟩
abbrev S16x1x4x64 : Shape := ⟨4, ![16, 1, 4, 64]⟩
abbrev S16x2x4x64 : Shape := ⟨4, ![16, 2, 4, 64]⟩
abbrev S16x8x64 : Shape := ⟨3, ![16, 8, 64]⟩
abbrev S16x4 : Shape := ⟨2, ![16, 4]⟩
abbrev S16x1x4 : Shape := ⟨3, ![16, 1, 4]⟩
abbrev S16x2x4 : Shape := ⟨3, ![16, 2, 4]⟩
abbrev S16x8x1 : Shape := ⟨3, ![16, 8, 1]⟩

abbrev nBuf : Space → Nat
  | .hbm => 270
  | .vmem => 0
  | .smem => 0
  | _ => 0

abbrev hbmTy0_0 (i : Nat) : BufTy := match i % 128 with
  | 0 => ⟨S4096x2816, .f32⟩
  | 1 => ⟨S4096x16, .f32⟩
  | 2 => ⟨S_, .i1⟩
  | 3 => ⟨S128x128, .i1⟩
  | 4 => ⟨S128x128, .i32⟩
  | 5 => ⟨S_, .i32⟩
  | 6 => ⟨S128x128, .i32⟩
  | 7 => ⟨S128x128, .i32⟩
  | 8 => ⟨S128x128, .i32⟩
  | 9 => ⟨S128x128, .i1⟩
  | 10 => ⟨S_, .i1⟩
  | 11 => ⟨S128x128, .i1⟩
  | 12 => ⟨S128x128, .i1⟩
  | 13 => ⟨S4096x256, .f32⟩
  | 14 => ⟨S16x256x4x64, .f32⟩
  | 15 => ⟨S16x4x256x64, .f32⟩
  | 16 => ⟨S16x4x256x64, .f32⟩
  | 17 => ⟨S32x4x256x64, .f32⟩
  | 18 => ⟨S4096x256, .f32⟩
  | 19 => ⟨S16x256x4x64, .f32⟩
  | 20 => ⟨S16x4x256x64, .f32⟩
  | 21 => ⟨S_, .f32⟩
  | 22 => ⟨S16x4x256x64, .f32⟩
  | 23 => ⟨S16x4x256x64, .f32⟩
  | 24 => ⟨S16x4x256x64, .f32⟩
  | 25 => ⟨S32x4x256x64, .f32⟩
  | 26 => ⟨S4096x256, .f32⟩
  | 27 => ⟨S16x256x4x64, .f32⟩
  | 28 => ⟨S16x4x256x64, .f32⟩
  | 29 => ⟨S16x4x256x64, .f32⟩
  | 30 => ⟨S32x4x256x64, .f32⟩
  | 31 => ⟨S16x256x2x2x4, .f32⟩
  | 32 => ⟨S2x2x16x4x256, .f32⟩
  | 33 => ⟨S1x1x16x4x256, .f32⟩
  | 34 => ⟨S16x4x256, .f32⟩
  | 35 => ⟨S1x1x16x4x256, .f32⟩
  | 36 => ⟨S16x4x256, .f32⟩
  | 37 => ⟨S16x4x256, .f32⟩
  | 38 => ⟨S32x4x256, .f32⟩
  | 39 => ⟨S1x1x16x4x256, .f32⟩
  | 40 => ⟨S16x4x256, .f32⟩
  | 41 => ⟨S1x1x16x4x256, .f32⟩
  | 42 => ⟨S16x4x256, .f32⟩
  | 43 => ⟨S16x4x256, .f32⟩
  | 44 => ⟨S32x4x256, .f32⟩
  | 45 => ⟨S32x4x256, .f32⟩
  | 46 => ⟨S_, .f32⟩
  | 47 => ⟨S32x4x256, .f32⟩
  | 48 => ⟨S32x4x256, .f32⟩
  | 49 => ⟨S32x4x256, .f32⟩
  | 50 => ⟨S32x4x256, .f32⟩
  | 51 => ⟨S32x4x256, .i1⟩
  | 52 => ⟨S32x4x256, .f32⟩
  | 53 => ⟨S32x4x256, .f32⟩
  | 54 => ⟨S32x4x256, .f32⟩
  | 55 => ⟨S32x4x256, .f32⟩
  | 56 => ⟨S32x4x256, .f32⟩
  | 57 => ⟨S32x4x256, .f32⟩
  | 58 => ⟨S32x4x256, .f32⟩
  | 59 => ⟨S32x4x256, .f32⟩
  | 60 => ⟨S32x4x256, .f32⟩
  | 61 => ⟨S_, .f32⟩
  | 62 => ⟨S32x4x64x64, .f32⟩
  | 63 => ⟨S_, .f32⟩
  | 64 => ⟨S32x4x64, .f32⟩
  | 65 => ⟨S_, .f32⟩
  | 66 => ⟨S32x4, .f32⟩
  | 67 => ⟨S32x4x128x64, .f32⟩
  | 68 => ⟨S32x4x128x64, .f32⟩
  | 69 => ⟨S32x4x128x64, .f32⟩
  | 70 => ⟨S32x4x128, .f32⟩
  | 71 => ⟨S32x4x128, .f32⟩
  | 72 => ⟨S32x4x1x128, .f32⟩
  | 73 => ⟨S_, .f32⟩
  | 74 => ⟨S_, .f32⟩
  | 75 => ⟨S32x4x128x128, .i1⟩
  | 76 => ⟨S32x4x128x128, .f32⟩
  | 77 => ⟨S32x4x128x128, .f32⟩
  | 78 => ⟨S32x4x128x128, .f32⟩
  | 79 => ⟨S_, .f32⟩
  | 80 => ⟨S32x4x128, .f32⟩
  | 81 => ⟨S32x4x128x1, .f32⟩
  | 82 => ⟨S32x4x1x128, .f32⟩
  | 83 => ⟨S32x4x128x128, .f32⟩
  | 84 => ⟨S32x4x128x128, .f32⟩
  | 85 => ⟨S32x4x128x128, .f32⟩
  | 86 => ⟨S32x4x1x128, .f32⟩
  | 87 => ⟨S32x4x128x128, .f32⟩
  | 88 => ⟨S32x4x128x128, .f32⟩
  | 89 => ⟨S_, .f32⟩
  | 90 => ⟨S_, .f32⟩
  | 91 => ⟨S32x4x128x128, .i1⟩
  | 92 => ⟨S32x4x128x128, .f32⟩
  | 93 => ⟨S32x4x128x128, .f32⟩
  | 94 => ⟨S32x4x1, .f32⟩
  | 95 => ⟨S32x4x128, .f32⟩
  | 96 => ⟨S32x4x128, .f32⟩
  | 97 => ⟨S_, .f32⟩
  | 98 => ⟨S32x4x128, .f32⟩
  | 99 => ⟨S32x4x128, .f32⟩
  | 100 => ⟨S32x4x128x128, .f32⟩
  | 101 => ⟨S32x4x128x1, .f32⟩
  | 102 => ⟨S32x4x128x128, .f32⟩
  | 103 => ⟨S32x4x128x128, .f32⟩
  | 104 => ⟨S32x4x128x128, .f32⟩
  | 105 => ⟨S32x4x128x128, .f32⟩
  | 106 => ⟨S32x4x128, .f32⟩
  | 107 => ⟨S32x4x128, .f32⟩
  | 108 => ⟨S32x4x128x64, .f32⟩
  | 109 => ⟨S32x4x128x1, .f32⟩
  | 110 => ⟨S32x4x128x64, .f32⟩
  | 111 => ⟨S32x4x128x64, .f32⟩
  | 112 => ⟨S32x4x128x64, .f32⟩
  | 113 => ⟨S32x4x128x64, .f32⟩
  | 114 => ⟨S_, .f32⟩
  | 115 => ⟨S32x4x128, .f32⟩
  | 116 => ⟨S32x4x128, .f32⟩
  | 117 => ⟨S32x4x128, .f32⟩
  | 118 => ⟨S32x4x128, .f32⟩
  | 119 => ⟨S32x4x128, .f32⟩
  | 120 => ⟨S32x4x128, .f32⟩
  | 121 => ⟨S32x4x128, .f32⟩
  | 122 => ⟨S32x4x128, .f32⟩
  | 123 => ⟨S32x4x128x1, .f32⟩
  | 124 => ⟨S32x4x128x64, .f32⟩
  | 125 => ⟨S32x4x128x64, .f32⟩
  | 126 => ⟨S32x4x1, .f32⟩
  | 127 => ⟨S32x4, .f32⟩
  | _ => ⟨S4096x2816, .f32⟩

abbrev hbmTy0_1 (i : Nat) : BufTy := match i % 128 with
  | 0 => ⟨S32x4x1, .f32⟩
  | 1 => ⟨S32x4x128, .f32⟩
  | 2 => ⟨S32x4x128, .f32⟩
  | 3 => ⟨S32x4x128, .f32⟩
  | 4 => ⟨S32x4, .f32⟩
  | 5 => ⟨S_, .f32⟩
  | 6 => ⟨S32x4, .f32⟩
  | 7 => ⟨S32x4, .f32⟩
  | 8 => ⟨S32x4, .f32⟩
  | 9 => ⟨S32x4, .f32⟩
  | 10 => ⟨S32x4, .f32⟩
  | 11 => ⟨S32x4x1, .f32⟩
  | 12 => ⟨S32x4x128, .f32⟩
  | 13 => ⟨S32x4x128, .f32⟩
  | 14 => ⟨S32x4x128, .f32⟩
  | 15 => ⟨S32x4x1x1, .f32⟩
  | 16 => ⟨S32x4x64x64, .f32⟩
  | 17 => ⟨S32x4x64x64, .f32⟩
  | 18 => ⟨S32x4x128x1, .f32⟩
  | 19 => ⟨S32x4x128x64, .f32⟩
  | 20 => ⟨S32x4x128x64, .f32⟩
  | 21 => ⟨S32x4x64x64, .f32⟩
  | 22 => ⟨S32x4x64x64, .f32⟩
  | 23 => ⟨S32x4x1, .f32⟩
  | 24 => ⟨S32x4x64, .f32⟩
  | 25 => ⟨S32x4x64, .f32⟩
  | 26 => ⟨S32x4x64, .f32⟩
  | 27 => ⟨S32x4x64, .f32⟩
  | 28 => ⟨S32x4x128x64, .f32⟩
  | 29 => ⟨S32x4x128x64, .f32⟩
  | 30 => ⟨S32x4x128x64, .f32⟩
  | 31 => ⟨S32x4x128, .f32⟩
  | 32 => ⟨S32x4x128, .f32⟩
  | 33 => ⟨S32x4x1x128, .f32⟩
  | 34 => ⟨S_, .f32⟩
  | 35 => ⟨S_, .f32⟩
  | 36 => ⟨S32x4x128x128, .i1⟩
  | 37 => ⟨S32x4x128x128, .f32⟩
  | 38 => ⟨S32x4x128x128, .f32⟩
  | 39 => ⟨S32x4x128x128, .f32⟩
  | 40 => ⟨S_, .f32⟩
  | 41 => ⟨S32x4x128, .f32⟩
  | 42 => ⟨S32x4x128x1, .f32⟩
  | 43 => ⟨S32x4x1x128, .f32⟩
  | 44 => ⟨S32x4x128x128, .f32⟩
  | 45 => ⟨S32x4x128x128, .f32⟩
  | 46 => ⟨S32x4x128x128, .f32⟩
  | 47 => ⟨S32x4x1x128, .f32⟩
  | 48 => ⟨S32x4x128x128, .f32⟩
  | 49 => ⟨S32x4x128x128, .f32⟩
  | 50 => ⟨S_, .f32⟩
  | 51 => ⟨S_, .f32⟩
  | 52 => ⟨S32x4x128x128, .i1⟩
  | 53 => ⟨S32x4x128x128, .f32⟩
  | 54 => ⟨S32x4x128x128, .f32⟩
  | 55 => ⟨S32x4x1, .f32⟩
  | 56 => ⟨S32x4x128, .f32⟩
  | 57 => ⟨S32x4x128, .f32⟩
  | 58 => ⟨S_, .f32⟩
  | 59 => ⟨S32x4x128, .f32⟩
  | 60 => ⟨S32x4x128, .f32⟩
  | 61 => ⟨S32x4x128x128, .f32⟩
  | 62 => ⟨S32x4x128x1, .f32⟩
  | 63 => ⟨S32x4x128x128, .f32⟩
  | 64 => ⟨S32x4x128x128, .f32⟩
  | 65 => ⟨S32x4x128x128, .f32⟩
  | 66 => ⟨S32x4x128x128, .f32⟩
  | 67 => ⟨S32x4x128, .f32⟩
  | 68 => ⟨S32x4x128, .f32⟩
  | 69 => ⟨S32x4x128x64, .f32⟩
  | 70 => ⟨S32x4x128x1, .f32⟩
  | 71 => ⟨S32x4x128x64, .f32⟩
  | 72 => ⟨S32x4x128x64, .f32⟩
  | 73 => ⟨S32x4x128x64, .f32⟩
  | 74 => ⟨S32x4x128x64, .f32⟩
  | 75 => ⟨S_, .f32⟩
  | 76 => ⟨S32x4x128, .f32⟩
  | 77 => ⟨S32x4x128, .f32⟩
  | 78 => ⟨S32x4x128, .f32⟩
  | 79 => ⟨S32x4x128, .f32⟩
  | 80 => ⟨S32x4x128, .f32⟩
  | 81 => ⟨S32x4x128, .f32⟩
  | 82 => ⟨S32x4x128, .f32⟩
  | 83 => ⟨S32x4x128, .f32⟩
  | 84 => ⟨S32x4x128x1, .f32⟩
  | 85 => ⟨S32x4x128x64, .f32⟩
  | 86 => ⟨S32x4x128x64, .f32⟩
  | 87 => ⟨S32x4x1, .f32⟩
  | 88 => ⟨S32x4, .f32⟩
  | 89 => ⟨S32x4x1, .f32⟩
  | 90 => ⟨S32x4x128, .f32⟩
  | 91 => ⟨S32x4x128, .f32⟩
  | 92 => ⟨S32x4x128, .f32⟩
  | 93 => ⟨S32x4, .f32⟩
  | 94 => ⟨S_, .f32⟩
  | 95 => ⟨S32x4, .f32⟩
  | 96 => ⟨S32x4, .f32⟩
  | 97 => ⟨S32x4, .f32⟩
  | 98 => ⟨S32x4, .f32⟩
  | 99 => ⟨S32x4, .f32⟩
  | 100 => ⟨S32x4x1, .f32⟩
  | 101 => ⟨S32x4x128, .f32⟩
  | 102 => ⟨S32x4x128, .f32⟩
  | 103 => ⟨S32x4x128, .f32⟩
  | 104 => ⟨S32x4x1x1, .f32⟩
  | 105 => ⟨S32x4x64x64, .f32⟩
  | 106 => ⟨S32x4x64x64, .f32⟩
  | 107 => ⟨S32x4x128x1, .f32⟩
  | 108 => ⟨S32x4x128x64, .f32⟩
  | 109 => ⟨S32x4x128x64, .f32⟩
  | 110 => ⟨S32x4x64x64, .f32⟩
  | 111 => ⟨S32x4x64x64, .f32⟩
  | 112 => ⟨S32x4x1, .f32⟩
  | 113 => ⟨S32x4x64, .f32⟩
  | 114 => ⟨S32x4x64, .f32⟩
  | 115 => ⟨S32x4x64, .f32⟩
  | 116 => ⟨S32x4x64, .f32⟩
  | 117 => ⟨S32x4x256x64, .f32⟩
  | 118 => ⟨S16x4x256x64, .f32⟩
  | 119 => ⟨S16x256x4x64, .f32⟩
  | 120 => ⟨S4096x256, .f32⟩
  | 121 => ⟨S16x4x256x64, .f32⟩
  | 122 => ⟨S16x4x256x64, .f32⟩
  | 123 => ⟨S16x256x4x64, .f32⟩
  | 124 => ⟨S4096x256, .f32⟩
  | 125 => ⟨S16x4x64x64, .f32⟩
  | 126 => ⟨S16x4x64x64, .f32⟩
  | 127 => ⟨S16x1x4x64x64, .f32⟩
  | _ => ⟨S4096x2816, .f32⟩

abbrev hbmTy0_2 (i : Nat) : BufTy := match i % 128 with
  | 0 => ⟨S16x1x4x64x64, .f32⟩
  | 1 => ⟨S16x2x4x64x64, .f32⟩
  | 2 => ⟨S16x4x64, .f32⟩
  | 3 => ⟨S16x4x64, .f32⟩
  | 4 => ⟨S16x1x4x64, .f32⟩
  | 5 => ⟨S16x1x4x64, .f32⟩
  | 6 => ⟨S16x2x4x64, .f32⟩
  | 7 => ⟨S16x8x64, .f32⟩
  | 8 => ⟨S16x4, .f32⟩
  | 9 => ⟨S16x4, .f32⟩
  | 10 => ⟨S16x1x4, .f32⟩
  | 11 => ⟨S16x1x4, .f32⟩
  | 12 => ⟨S16x2x4, .f32⟩
  | 13 => ⟨S16x8x1, .f32⟩
  | _ => ⟨S4096x2816, .f32⟩

abbrev hbmTy (i : Nat) : BufTy := match i / 128 with
  | 0 => hbmTy0_0 i
  | 1 => hbmTy0_1 i
  | 2 => hbmTy0_2 i
  | _ => ⟨S4096x2816, .f32⟩

abbrev bufTy : (tb : Table) → Fin (tcTables nBuf tb) → BufTy
  | .hbm, ⟨i, _⟩ => hbmTy i
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_0 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_0 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_1 : Ref sig .tc := ⟨.hbm, 61, rfl⟩
abbrev main_v48 : Ref sig .tc := ⟨.hbm, 62, rfl⟩
abbrev main_cst_2 : Ref sig .tc := ⟨.hbm, 63, rfl⟩
abbrev main_v49 : Ref sig .tc := ⟨.hbm, 64, rfl⟩
abbrev main_cst_3 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_4 : Ref sig .tc := ⟨.hbm, 73, rfl⟩
abbrev main_call6_v0 : Ref sig .tc := ⟨.hbm, 74, rfl⟩
abbrev main_call6_v1 : Ref sig .tc := ⟨.hbm, 75, rfl⟩
abbrev main_call6_v2 : Ref sig .tc := ⟨.hbm, 76, rfl⟩
abbrev main_call6_v3 : Ref sig .tc := ⟨.hbm, 77, rfl⟩
abbrev main_v57 : Ref sig .tc := ⟨.hbm, 78, rfl⟩
abbrev main_cst_5 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_6 : Ref sig .tc := ⟨.hbm, 89, rfl⟩
abbrev main_call7_v0 : Ref sig .tc := ⟨.hbm, 90, rfl⟩
abbrev main_call7_v1 : Ref sig .tc := ⟨.hbm, 91, rfl⟩
abbrev main_call7_v2 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_7 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_8 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_9 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_cst_10 : Ref sig .tc := ⟨.hbm, 162, rfl⟩
abbrev main_call8_v0 : Ref sig .tc := ⟨.hbm, 163, rfl⟩
abbrev main_call8_v1 : Ref sig .tc := ⟨.hbm, 164, rfl⟩
abbrev main_call8_v2 : Ref sig .tc := ⟨.hbm, 165, rfl⟩
abbrev main_call8_v3 : Ref sig .tc := ⟨.hbm, 166, rfl⟩
abbrev main_v133 : Ref sig .tc := ⟨.hbm, 167, rfl⟩
abbrev main_cst_11 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_cst_12 : Ref sig .tc := ⟨.hbm, 178, rfl⟩
abbrev main_call9_v0 : Ref sig .tc := ⟨.hbm, 179, rfl⟩
abbrev main_call9_v1 : Ref sig .tc := ⟨.hbm, 180, rfl⟩
abbrev main_call9_v2 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_cst_13 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_cst_14 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_cst_15 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩

abbrev nD : Nat := 1
abbrev τ : Topo := Topo.v7x

variable {F : FTy → Type} [FloatOps F]
-- ==== Proof.AttnHead.lean ====
module

public import proofs.«01_k».proof.Proof.Gen.AttnIdeal.Value
public import Idealize.ShloMosaic.Lib.Pipeline.ValueKit
public import Idealize.ShloMosaic.Lib.Pointwise

@[expose] public section

set_option maxRecDepth 16384

noncomputable section

namespace Cert.AttnIdeal.HeadValue

open Cert.AttnIdeal Cert.AttnIdeal.Gen Idealize.ShloMosaic Idealize.ShloMosaic.TcCoe Idealize.SL.Sem
open Idealize.ShloMosaic.Pipeline (Dat)

/-- One head: scaled scores, their softmax along the keys, the weighted values. -/
def head {F : FTy → Type} [FloatOps F] (q k v : Vec F S256x64 .bf16) : FVec F S256x64 .f32 :=
  k0_pay25 (k0_pay18 (k0_pay10 (k0_pay2 q k))) v

/-- The softmax-weighted sum of `v` for the scores `s`, the weights made by a reciprocal of their sum. -/
def soft (s v : Fin 256 → EReal) : EReal :=
  ∑ x, Ideal.exp (s x - Finset.univ.fold max (Ideal.ofBits FTy.f32 4286578688#32) s)
    * Ideal.div 1 (∑ x, Ideal.exp (s x - Finset.univ.fold max (Ideal.ofBits FTy.f32 4286578688#32) s)) * v x

/-- A head's output at a row and column: the softmax of the row's scores applied to the column of values. -/
theorem head_apply (q k v : Vec Ideal S256x64 .bf16) (r : Fin 256) (c : Fin 64) :
    head (F := Ideal) q k v (ix2 r c)
      = soft (fun x => ∑ y : Fin 64, q (ix2 r y) * Ideal.ofBits FTy.bf16 15872#16 * k (ix2 x y)) (fun x => v (ix2 x c)) := by
  pointwise [head, k0_pay25, k0_pay18, k0_pay10, k0_pay2, soft]

/-- Columns `o` to `o + 64` of a block. -/
def cols {F : FTy → Type} [FloatOps F] (X : Vec F S256x512 .bf16) (o : Nat)
    (h : ∀ a, (![0, o] : Fin 2 → Nat) a + S256x64.size a ≤ S256x512.size a) : Vec F S256x64 .bf16 :=
  View.ld X (Rect.unit (s := S256x512) ![0, o] S256x64.size h)

/-- The head at columns `o` to `o + 64` of the three blocks. -/
def headAt {F : FTy → Type} [FloatOps F] (x0 x1 x2 : Vec F S256x512 .bf16) (o : Nat)
    (h : ∀ a, (![0, o] : Fin 2 → Nat) a + S256x64.size a ≤ S256x512.size a) : FVec F S256x64 .f32 :=
  head (cols x0 o h) (cols x1 o h) (cols x2 o h)

/-- The block the body writes: the heads' outputs side by side. -/
theorem out_eq {F : FTy → Type} [FloatOps F] (c : Dev nD) (i : grid0.Coords) (a1 : Memref sig .tc .vmem S256x512 .bf16) (h1 : a1.IsWhole)
    (a2 : Memref sig .tc .vmem S256x512 .bf16) (h2 : a2.IsWhole) (a3 : Memref sig .tc .vmem S256x512 .bf16) (h3 : a3.IsWhole)
    (a4 : Memref sig .tc .vmem S256x512 .f32) (h4 : a4.IsWhole) (x0 x1 x2 : Vec F S256x512 .bf16) :
    out0_A_3 c i a1 h1 a2 h2 a3 h3 a4 h4 x0 x1 x2 = concatenate S256x512 1
      [⟨S256x64, headAt x0 x1 x2 0 inb_S256x512_S256x64_0_0⟩, ⟨S256x64, headAt x0 x1 x2 64 inb_S256x512_S256x64_0_64⟩,
       ⟨S256x64, headAt x0 x1 x2 128 inb_S256x512_S256x64_0_128⟩, ⟨S256x64, headAt x0 x1 x2 192 inb_S256x512_S256x64_0_192⟩,
       ⟨S256x64, headAt x0 x1 x2 256 inb_S256x512_S256x64_0_256⟩, ⟨S256x64, headAt x0 x1 x2 320 inb_S256x512_S256x64_0_320⟩,
       ⟨S256x64, headAt x0 x1 x2 384 inb_S256x512_S256x64_0_384⟩, ⟨S256x64, headAt x0 x1 x2 448 inb_S256x512_S256x64_0_448⟩]
      concatenates_S256x64_S256x64_S256x64_S256x64_S256x64_S256x64_S256x64_S256x64_S256x512_d1 := by
  frame_out
  rfl

end Cert.AttnIdeal.HeadValue

end
-- ==== Proof.AttnKernel.lean ====
module

public import proofs.«01_k».proof.Proof.AttnHead

@[expose] public section

set_option maxRecDepth 16384

noncomputable section

namespace Cert.AttnIdeal.HeadValue

open Cert.AttnIdeal Cert.AttnIdeal.Gen Idealize.ShloMosaic Idealize.ShloMosaic.TcCoe Idealize.SL.Sem
open Idealize.ShloMosaic.Pipeline (Dat)

/-- A group of 64 columns of a block, read at an index. -/
theorem cols_apply (X : Vec Ideal S256x512 .bf16) (o : Nat)
    (h : ∀ a, (![0, o] : Fin 2 → Nat) a + S256x64.size a ≤ S256x512.size a) (r : Fin 256) (y : Fin 64) (hy : o + y.val < 512) :
    cols X o h (ix2 r y) = X (ix2 r ⟨o + y.val, hy⟩) := by
  unfold cols
  pointwise

/-- A head's output at an index, from the blocks. -/
theorem headAt_apply (x0 x1 x2 : Vec Ideal S256x512 .bf16) (o : Nat)
    (h : ∀ a, (![0, o] : Fin 2 → Nat) a + S256x64.size a ≤ S256x512.size a) (ho : o + 64 ≤ 512) (r : Fin 256) (c : Fin 64) :
    headAt (F := Ideal) x0 x1 x2 o h (ix2 r c)
      = soft (fun x => ∑ y : Fin 64, x0 (ix2 r ⟨o + y.val, by omega⟩) * Ideal.ofBits FTy.bf16 15872#16 * x1 (ix2 x ⟨o + y.val, by omega⟩))
          (fun x => x2 (ix2 x ⟨o + c.val, by omega⟩)) := by
  unfold headAt
  rw [head_apply]
  congr 1
  · funext x
    refine Finset.sum_congr rfl fun y _ => ?_
    rw [cols_apply x0 o h r y (by omega), cols_apply x1 o h x y (by omega)]
  · funext x
    rw [cols_apply x2 o h x c (by omega)]

/-- The same at a column `l` of the block, for the head whose columns start at `l / 64 * 64`. -/
theorem headAt_col (x0 x1 x2 : Vec Ideal S256x512 .bf16) (o : Nat)
    (h : ∀ a, (![0, o] : Fin 2 → Nat) a + S256x64.size a ≤ S256x512.size a) (r : Fin 256) (c : Fin 64) (l : Fin 512)
    (ho : l.val / 64 * 64 = o) (hc : o + c.val = l.val) :
    headAt (F := Ideal) x0 x1 x2 o h (ix2 r c)
      = soft (fun x => ∑ y : Fin 64, x0 (ix2 r ⟨l.val / 64 * 64 + y.val, by omega⟩) * Ideal.ofBits FTy.bf16 15872#16
            * x1 (ix2 x ⟨l.val / 64 * 64 + y.val, by omega⟩))
          (fun x => x2 (ix2 x l)) := by
  subst ho
  rw [headAt_apply _ _ _ _ _ (by omega)]
  congr 1
  funext x
  exact congrArg (fun z => x2 (ix2 x z)) (Fin.ext hc)

/-- The output block at an index: the head that holds the column. -/
theorem out_apply (c : Dev nD) (i : grid0.Coords) (a1 : Memref sig .tc .vmem S256x512 .bf16) (h1 : a1.IsWhole)
    (a2 : Memref sig .tc .vmem S256x512 .bf16) (h2 : a2.IsWhole) (a3 : Memref sig .tc .vmem S256x512 .bf16) (h3 : a3.IsWhole)
    (a4 : Memref sig .tc .vmem S256x512 .f32) (h4 : a4.IsWhole) (x0 x1 x2 : Vec Ideal S256x512 .bf16) (r : Fin 256) (l : Fin 512) :
    out0_A_3 c i a1 h1 a2 h2 a3 h3 a4 h4 x0 x1 x2 (ix2 r l)
      = soft (fun x => ∑ y : Fin 64, x0 (ix2 r ⟨l.val / 64 * 64 + y.val, by omega⟩) * Ideal.ofBits FTy.bf16 15872#16
            * x1 (ix2 x ⟨l.val / 64 * 64 + y.val, by omega⟩))
          (fun x => x2 (ix2 x l)) := by
  rw [out_eq]
  pointwise
  split_ifs <;> exact headAt_col _ _ _ _ _ _ _ _ (by omega) (by dsimp only; omega)

variable (m : (ℓ : Loc nD τ sig) → Buf (Elt Ideal) ℓ) (ρ : Dev nD → PrngReg)

/-- The kernel's result at row `R` and column `l`: the rows of its sequence are the keys, the columns of its head the channels. -/
def attend (p : Vec Ideal S4096x2304 .bf16) (R : Fin 4096) (l : Fin 512) : EReal :=
  soft (fun x => ∑ y : Fin 64, p (ix2 R ⟨l.val / 64 * 64 + y.val, by omega⟩) * Ideal.ofBits FTy.bf16 15872#16
      * p (ix2 ⟨R.val / 256 * 256 + x.val, by omega⟩ ⟨512 + (l.val / 64 * 64 + y.val), by omega⟩))
    (fun x => p (ix2 ⟨R.val / 256 * 256 + x.val, by omega⟩ ⟨1024 + l.val, by omega⟩))

/-- The kernel's result array. -/
def G (p : Vec Ideal S4096x2304 .bf16) : S4096x512.Idx → EReal := fun i => attend p (i 0) (i 1)

/-- Where the block of window 0 lies at a grid point. -/
theorem idx0 : ∀ t : Fin cfg0.N, win0_0.index t = ![t.val, 0] := (by decide +kernel : ∀ t : Fin grid0.N, win0_0.index t = ![t.val, 0])
/-- Where the block of window 1 lies at a grid point. -/
theorem idx1 : ∀ t : Fin cfg0.N, win0_1.index t = ![t.val, 1] := (by decide +kernel : ∀ t : Fin grid0.N, win0_1.index t = ![t.val, 1])
/-- Where the block of window 2 lies at a grid point. -/
theorem idx2 : ∀ t : Fin cfg0.N, win0_2.index t = ![t.val, 2] := (by decide +kernel : ∀ t : Fin grid0.N, win0_2.index t = ![t.val, 2])
/-- Where the block of window 3 lies at a grid point. -/
theorem idx3 : ∀ t : Fin cfg0.N, win0_3.index t = ![t.val, 0] := (by decide +kernel : ∀ t : Fin grid0.N, win0_3.index t = ![t.val, 0])

/-- The block of queries at a grid point, read from the array of projected tokens. -/
theorem X0_apply (c : Dev nD) (t : Fin cfg0.N) (r : Fin 256) (l : Fin 512) (h0 : t.val * 256 + r.val < 4096) :
    X0_0 m c t (ix2 r l) = m ((c : Thread nD τ).loc main_arg0) (ix2 ⟨t.val * 256 + r.val, h0⟩ ⟨l.val, by omega⟩) := by
  unfold X0_0 Pipeline.Window.fill
  rw [dif_pos (moved0_0 t _)]
  blk_ext [iblk, V, idx0]

/-- The block of keys at a grid point, read from the array of projected tokens. -/
theorem X1_apply (c : Dev nD) (t : Fin cfg0.N) (r : Fin 256) (l : Fin 512) (h0 : t.val * 256 + r.val < 4096) :
    X0_1 m c t (ix2 r l) = m ((c : Thread nD τ).loc main_arg0) (ix2 ⟨t.val * 256 + r.val, h0⟩ ⟨512 + l.val, by omega⟩) := by
  unfold X0_1 Pipeline.Window.fill
  rw [dif_pos (moved0_1 t _)]
  blk_ext [iblk, V, idx1]

/-- The block of values at a grid point, read from the array of projected tokens. -/
theorem X2_apply (c : Dev nD) (t : Fin cfg0.N) (r : Fin 256) (l : Fin 512) (h0 : t.val * 256 + r.val < 4096) :
    X0_2 m c t (ix2 r l) = m ((c : Thread nD τ).loc main_arg0) (ix2 ⟨t.val * 256 + r.val, h0⟩ ⟨1024 + l.val, by omega⟩) := by
  unfold X0_2 Pipeline.Window.fill
  rw [dif_pos (moved0_2 t _)]
  blk_ext [iblk, V, idx2]

/-- The result array after the run. -/
theorem final (c : Dev nD) : (dats m 0 c).arrAt 3 cfg0.N = G (m ((c : Thread nD τ).loc main_arg0)) := by
  refine (dats m 0 c).arrAt_eq_of_covers 3 _ (by decide +kernel) fun t hf y => ?_
  blk_simp
  rw [after0_3]
  unfold outsAt0
  have ht : t.val < 16 := lt_of_lt_of_eq t.isLt N_0
  obtain ⟨r, l, rfl⟩ : ∃ (r : Fin 256) (l : Fin 512), y = ix2 r l := ⟨y 0, y 1, eq_ix2 y⟩
  have he : (win0_3.blk t).view.emb (ix2 r l) = ix2 (⟨t.val * 256 + r.val, by omega⟩ : Fin 4096) l := by
    blk_ext [idx3]
  rw [he]
  refine (out_apply c _ _ _ _ _ _ _ _ _ (X0_0 m c t) (X0_1 m c t) (X0_2 m c t) r l).trans ?_
  have hd : (t.val * 256 + r.val) / 256 = t.val := by omega
  show _ = attend _ (⟨t.val * 256 + r.val, _⟩ : Fin 4096) l
  unfold attend
  congr 1
  · funext x
    refine Finset.sum_congr rfl fun y _ => ?_
    rw [X0_apply m c t _ _ (by omega), X1_apply m c t _ _ (by omega)]
    simp only [hd]
  · funext x
    rw [X2_apply m c t _ _ (by omega)]
    simp only [hd]

/-- The run: the result array and the argument. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.AttnIdeal.HeadValue

end
-- ==== Proof.AttnRef.lean ====
module

public import proofs.«01_k».proof.Proof.Gen.AttnRefIdeal.Read
public import Idealize.ShloMosaic.Lib.Pipeline.ValueKit
public import Idealize.ShloMosaic.Lib.Pointwise

@[expose] public section

set_option maxRecDepth 16384

noncomputable section

namespace Cert.AttnRefIdeal.RefValue

open Cert.AttnRefIdeal Cert.AttnRefIdeal.Gen Cert.AttnRefIdeal.Read Idealize.ShloMosaic Idealize.ShloMosaic.TcCoe Idealize.SL.Sem

/-- The score of query `q` against key `k` in head `h` of sequence `b`. -/
theorem scores_apply (p : (⟨S4096x2304, .bf16⟩ : BufTy).Contents (Elt Ideal)) (b : Fin 16) (h : Fin 8) (q k : Fin 256) :
    val_main_v10 (F := Ideal) p (ix4 b h q k)
      = (∑ x : Fin 64, p (ix2 ⟨b.val * 256 + q.val, by omega⟩ ⟨h.val * 64 + x.val, by omega⟩)
          * p (ix2 ⟨b.val * 256 + k.val, by omega⟩ ⟨512 + (h.val * 64 + x.val), by omega⟩)) * Ideal.ofBits FTy.f32 1040187392#32 := by
  pointwise [val_main_v10, val_main_v9, val_main_cst, val_main_v8, val_main_v5, val_main_v4, val_main_v3, val_main_v2, val_main_v1, val_main_v0]

/-- A softmax weight from a row of scores. -/
def weight (s : Fin 256 → EReal) (k : Fin 256) : EReal :=
  Ideal.div (Ideal.exp (s k - max (Ideal.ofBits FTy.f32 4286578688#32) (Finset.univ.fold max (Ideal.ofBits FTy.f32 4286578688#32) s)))
    (∑ x, Ideal.exp (s x - max (Ideal.ofBits FTy.f32 4286578688#32) (Finset.univ.fold max (Ideal.ofBits FTy.f32 4286578688#32) s)))

/-- The maximum along the last axis. -/
theorem max_apply (s : FVec Ideal S16x8x256x256 .f32) (b : Fin 16) (h : Fin 8) (q : Fin 256) :
    Host.reduce FloatOps.maximumf s (constant S_ .f32 4286578688#32) reducesTo_S16x8x256x256_S16x8x256_d3 h_S_ (ix3 b h q)
      = Finset.univ.fold max (Ideal.ofBits FTy.f32 4286578688#32) (fun x : Fin 256 => s (ix4 b h q x)) := by
  pointwise

/-- An exponential of the difference to a row's maximum. -/
theorem exp_apply (e : FVec Ideal S16x8x256x256 .f32) (b : Fin 16) (h : Fin 8) (q k : Fin 256) (r : FVec Ideal S16x8x256 .f32) :
    Host.exp (subf e (broadcastInDim S16x8x256x256 ![0, 1, 2, 3] bcast_S16x8x256x1_S16x8x256x256_0_1_2_3
        (broadcastInDim S16x8x256x1 ![0, 1, 2] bcast_S16x8x256_S16x8x256x1_0_1_2
          (maximumf (broadcastInDim S16x8x256 ![] bcast_S_S16x8x256 (constant S_ .f32 4286578688#32)) r)))) (ix4 b h q k)
      = Ideal.exp (e (ix4 b h q k) - max (Ideal.ofBits FTy.f32 4286578688#32) (r (ix3 b h q))) := by
  pointwise

/-- A quotient by the row's sum. -/
theorem quot_apply (e : FVec Ideal S16x8x256x256 .f32) (b : Fin 16) (h : Fin 8) (q k : Fin 256) :
    Host.divf e (broadcastInDim S16x8x256x256 ![0, 1, 2, 3] bcast_S16x8x256x1_S16x8x256x256_0_1_2_3
        (broadcastInDim S16x8x256x1 ![0, 1, 2] bcast_S16x8x256_S16x8x256x1_0_1_2
          (Host.reduceAdd e (constant (F := Ideal) S_ .f32 0x00000000#32) reducesTo_S16x8x256x256_S16x8x256_d3 h_S_))) (ix4 b h q k)
      = Ideal.div (e (ix4 b h q k)) (∑ x : Fin 256, e (ix4 b h q x)) := by
  pointwise

/-- The reference's softmax weight of a key. -/
theorem weights_apply (p : (⟨S4096x2304, .bf16⟩ : BufTy).Contents (Elt Ideal)) (b : Fin 16) (h : Fin 8) (q k : Fin 256) :
    val_main_v21 (F := Ideal) p (ix4 b h q k) = weight (fun x => val_main_v10 (F := Ideal) p (ix4 b h q x)) k := by
  have e1 : ∀ k, val_main_v17 (F := Ideal) p (ix4 b h q k) = Ideal.exp (val_main_v10 (F := Ideal) p (ix4 b h q k)
      - max (Ideal.ofBits FTy.f32 4286578688#32) (Finset.univ.fold max (Ideal.ofBits FTy.f32 4286578688#32) (fun x => val_main_v10 (F := Ideal) p (ix4 b h q x)))) := by
    intro k
    unfold val_main_v17 val_main_v16 val_main_v15 val_main_v14 val_main_v13 val_main_v12 val_main_cst_1 val_main_v11 val_main_cst_0
    generalize val_main_v10 (F := Ideal) p = s
    refine (exp_apply s b h q k _).trans ?_
    rw [max_apply]
  unfold val_main_v21 val_main_v20 val_main_v19 val_main_v18 val_main_cst_2
  refine (quot_apply (val_main_v17 (F := Ideal) p) b h q k).trans ?_
  simp only [e1]
  rfl

/-- The reference's values, read from the array of projected tokens. -/
theorem values_apply (p : (⟨S4096x2304, .bf16⟩ : BufTy).Contents (Elt Ideal)) (b : Fin 16) (k : Fin 256) (h : Fin 8) (c : Fin 64) :
    val_main_v7 (F := Ideal) p (ix4 b k h c) = p (ix2 ⟨b.val * 256 + k.val, by omega⟩ ⟨1024 + (h.val * 64 + c.val), by omega⟩) := by
  pointwise [val_main_v7, val_main_v6, val_main_v1, val_main_v0]

/-- The reference's result at row `R` and column `l`. -/
def attend (p : (⟨S4096x2304, .bf16⟩ : BufTy).Contents (Elt Ideal)) (R : Fin 4096) (l : Fin 512) : EReal :=
  ∑ k : Fin 256, p (ix2 ⟨R.val / 256 * 256 + k.val, by omega⟩ ⟨1024 + (l.val / 64 * 64 + l.val % 64), by omega⟩)
    * weight (fun x => (∑ y : Fin 64, p (ix2 ⟨R.val / 256 * 256 + R.val % 256, by omega⟩ ⟨l.val / 64 * 64 + y.val, by omega⟩)
          * p (ix2 ⟨R.val / 256 * 256 + x.val, by omega⟩ ⟨512 + (l.val / 64 * 64 + y.val), by omega⟩)) * Ideal.ofBits FTy.f32 1040187392#32) k

/-- The reference's result at a row and column. -/
theorem out_apply (p : (⟨S4096x2304, .bf16⟩ : BufTy).Contents (Elt Ideal)) (R : Fin 4096) (l : Fin 512) :
    val_main_v24 (F := Ideal) p (ix2 R l) = attend p R l := by
  have i1 : idx_main_v24 (ix2 R l) = ix4 (⟨R.val / 256, by omega⟩ : Fin 16) (⟨R.val % 256, by omega⟩ : Fin 256)
      (⟨l.val / 64, by omega⟩ : Fin 8) (⟨l.val % 64, by omega⟩ : Fin 64) := by
    funext a
    match a with
    | ⟨0, _⟩ => exact Fin.ext (show (R.val * 512 + l.val) / 131072 = R.val / 256 by omega)
    | ⟨1, _⟩ => exact Fin.ext (show (R.val * 512 + l.val) / 512 % 256 = R.val % 256 by omega)
    | ⟨2, _⟩ => exact Fin.ext (show (R.val * 512 + l.val) / 64 % 8 = l.val / 64 by omega)
    | ⟨3, _⟩ => exact Fin.ext (show (R.val * 512 + l.val) % 64 = l.val % 64 by omega)
  have i2 : ∀ (b : Fin 16) (q : Fin 256) (h : Fin 8) (c : Fin 64), idx_main_v23 (ix4 b q h c) = ix4 b h c q := fun b q h c => by
    funext a
    match a with
    | ⟨0, _⟩ => rfl
    | ⟨1, _⟩ => rfl
    | ⟨2, _⟩ => rfl
    | ⟨3, _⟩ => rfl
  have i3 : ∀ (b : Fin 16) (h : Fin 8) (c : Fin 64) (q k : Fin 256), lidx_main_v22 (ix4 b h c q) k = ix4 b k h c := fun b h c q k => by
    funext a
    match a with
    | ⟨0, _⟩ => rfl
    | ⟨1, _⟩ => rfl
    | ⟨2, _⟩ => rfl
    | ⟨3, _⟩ => rfl
  have i4 : ∀ (b : Fin 16) (h : Fin 8) (c : Fin 64) (q k : Fin 256), ridx_main_v22 (ix4 b h c q) k = ix4 b h q k := fun b h c q k => by
    funext a
    match a with
    | ⟨0, _⟩ => rfl
    | ⟨1, _⟩ => rfl
    | ⟨2, _⟩ => rfl
    | ⟨3, _⟩ => rfl
  rw [val_main_v24_apply, i1, val_main_v23_apply, i2, val_main_v22_apply]
  unfold attend
  refine Finset.sum_congr rfl fun k _ => ?_
  rw [i3, i4, values_apply, weights_apply]
  simp only [scores_apply]

end Cert.AttnRefIdeal.RefValue

end
-- ==== Proof.AttnMath.lean ====
module

public import proofs.«01_k».proof.Proof.AttnKernel
public import proofs.«01_k».proof.Proof.AttnRef
public import proofs.«01_k».proof.Proof.Gen.Pre_finite_attn
public import Idealize.ShloMosaic.Lib.ReduceAll

@[expose] public section

set_option maxRecDepth 16384

noncomputable section

namespace Cert.AttnMath

open Idealize.ShloMosaic

/-- The kernel's scale is one eighth. -/
theorem eighth_bf16 : Ideal.ofBits .bf16 15872#16 = ((1 / 8 : ℝ) : EReal) := by
  simp [Ideal.ofBits, Ideal.ieee, -EReal.coe_mul]; norm_num

/-- The reference's scale is one eighth. -/
theorem eighth_f32 : Ideal.ofBits .f32 1040187392#32 = ((1 / 8 : ℝ) : EReal) := by
  simp [Ideal.ofBits, Ideal.ieee, -EReal.coe_mul]; norm_num

/-- The word the maxima start from is minus infinity. -/
theorem neg_inf : Ideal.ofBits .f32 4286578688#32 = ⊥ := by simp [Ideal.ofBits, Ideal.ieee]

/-- The word that bounds the finite numbers is plus infinity. -/
theorem pos_inf : Ideal.ofBits .f32 2139095040#32 = ⊤ := by simp [Ideal.ofBits, Ideal.ieee]

/-- The sum of finite terms is finite. -/
theorem coe_sum {n : Nat} (f : Fin n → ℝ) : (∑ x, (f x : EReal)) = ((∑ x, f x : ℝ) : EReal) := by
  have h : ∀ s : Finset (Fin n), (∑ x ∈ s, (f x : EReal)) = ((∑ x ∈ s, f x : ℝ) : EReal) := fun s => by
    induction s using Finset.induction_on with
    | empty => simp
    | insert a s ha ih => rw [Finset.sum_insert ha, Finset.sum_insert ha, ih, EReal.coe_add]
  exact h Finset.univ

/-- The greatest of finitely many reals is a real. -/
theorem fold_max_real {n : Nat} (hn : 0 < n) (f : Fin n → ℝ) : ∃ M : ℝ, Finset.univ.fold max ⊥ (fun x => (f x : EReal)) = (M : EReal) := by
  have h : ∀ s : Finset (Fin n), s.Nonempty → ∃ M : ℝ, s.fold max ⊥ (fun x => (f x : EReal)) = (M : EReal) := fun s hs => by
    induction s using Finset.induction_on with
    | empty => exact absurd hs (by simp)
    | insert a s ha ih =>
      rw [Finset.fold_insert ha]
      rcases s.eq_empty_or_nonempty with rfl | hs'
      · exact ⟨f a, by simp⟩
      · obtain ⟨M, hM⟩ := ih hs'
        exact ⟨max (f a) M, by rw [hM]; exact (Monotone.map_max (fun _ _ h => EReal.coe_le_coe_iff.2 h)).symm⟩
  exact h Finset.univ ⟨⟨0, hn⟩, Finset.mem_univ _⟩

/-- With real scores the weights by a reciprocal and the weights by a quotient are one. -/
theorem soft_eq (s : Fin 256 → ℝ) (v : Fin 256 → EReal) :
    Cert.AttnIdeal.HeadValue.soft (fun x => (s x : EReal)) v
      = ∑ k, v k * Cert.AttnRefIdeal.RefValue.weight (fun x => (s x : EReal)) k := by
  obtain ⟨M, hM⟩ := fold_max_real (by decide) s
  unfold Cert.AttnIdeal.HeadValue.soft Cert.AttnRefIdeal.RefValue.weight
  rw [neg_inf, hM, max_eq_right bot_le]
  have he : ∀ x, Ideal.exp ((s x : EReal) - (M : EReal)) = ((Real.exp (s x - M) : ℝ) : EReal) := fun x => by
    rw [← EReal.coe_sub]; rfl
  simp only [he, coe_sum]
  have hD : (∑ x, Real.exp (s x - M)) ≠ 0 :=
    (Finset.sum_pos (fun x _ => Real.exp_pos _) ⟨0, Finset.mem_univ _⟩).ne'
  refine Finset.sum_congr rfl fun x _ => ?_
  rw [Ideal.div_coe hD, Ideal.div_coe hD, one_mul, mul_comm]

/-- Scaling the queries by an eighth scales the scores by it. -/
theorem score_eq (q k : Fin 64 → ℝ) :
    (∑ y, (q y : EReal) * ((1 / 8 : ℝ) : EReal) * (k y : EReal)) = ((((∑ y, q y * k y) * (1 / 8) : ℝ)) : EReal) := by
  rw [Finset.sum_mul, ← coe_sum]
  refine Finset.sum_congr rfl fun y _ => ?_
  rw [← EReal.coe_mul, ← EReal.coe_mul]
  exact congrArg _ (by ring)

/-- The reference's score of finite queries and keys is a real number. -/
theorem score_eq' (q k : Fin 64 → ℝ) :
    (∑ y, (q y : EReal) * (k y : EReal)) * ((1 / 8 : ℝ) : EReal) = ((((∑ y, q y * k y) * (1 / 8) : ℝ)) : EReal) := by
  rw [EReal.coe_mul, ← coe_sum]
  simp only [EReal.coe_mul]

/-- The kernel's and the reference's entries agree where the queries and the keys are finite. -/
theorem attend_eq (p : (⟨2, ![4096, 2304]⟩ : Shape).Idx → EReal) (hp : ∀ (r : Fin 4096) (c : Fin 2304), c.val < 1024 → ∃ x : ℝ, p (ix2 r c) = x)
    (R : Fin 4096) (l : Fin 512) : Cert.AttnIdeal.HeadValue.attend p R l = Cert.AttnRefIdeal.RefValue.attend p R l := by
  have hp' : ∃ f : Fin 4096 → Fin 1024 → ℝ, ∀ (r : Fin 4096) (c : Fin 2304) (hc : c.val < 1024), p (ix2 r c) = f r ⟨c.val, hc⟩ :=
    ⟨fun r c => (hp r ⟨c.val, by omega⟩ c.isLt).choose, fun r c hc => (hp r c hc).choose_spec⟩
  obtain ⟨f, hf⟩ := hp'
  unfold Cert.AttnIdeal.HeadValue.attend Cert.AttnRefIdeal.RefValue.attend
  have hR : R.val / 256 * 256 + R.val % 256 = R.val := by omega
  have hl : l.val / 64 * 64 + l.val % 64 = l.val := by omega
  simp only [hR, hl, Fin.eta]
  have hq : ∀ (r : Fin 4096) (y : Fin 64) (h), p (ix2 r ⟨l.val / 64 * 64 + y.val, h⟩) = f r ⟨l.val / 64 * 64 + y.val, by omega⟩ := fun r y h => hf r _ (by dsimp only; omega)
  have hk : ∀ (r : Fin 4096) (y : Fin 64) (h), p (ix2 r ⟨512 + (l.val / 64 * 64 + y.val), h⟩) = f r ⟨512 + (l.val / 64 * 64 + y.val), by omega⟩ := fun r y h => hf r _ (by dsimp only; omega)
  simp only [hq, hk, eighth_bf16, eighth_f32, score_eq, score_eq']
  exact soft_eq _ _

/-- A magnitude below infinity is a real. -/
theorem real_of_abs_lt (x : EReal) (h : BitVec.ofBool (decide (max x (-x) < ⊤)) = 1#1) : ∃ r : ℝ, x = r := by
  induction x using EReal.rec with
  | bot => simp at h
  | top => simp at h
  | coe r => exact ⟨r, rfl⟩

/-- What the precondition says of an entry. -/
theorem finite_of_pre (p : FVec Ideal Cert.Pre_finite_attn.S4096x2304 .bf16) (h : Cert.Pre_finite_attn.fn (F := Ideal) p = fun _ => 1#1)
    (r : Fin 4096) (c : Fin 2304) (hc : c.val < 1024) : ∃ x : ℝ, p (ix2 r c) = x := by
  have h0 := congrFun h (Shape.Idx.first (by decide))
  unfold Cert.Pre_finite_attn.fn at h0
  have : Subsingleton Cert.Pre_finite_attn.S_.Idx := ⟨fun a b => funext fun x => x.elim0⟩
  have h1 := Host.reduce_andi_all _ _ _ _ _ h0 (ix2 r (⟨c.val, hc⟩ : Fin 1024))
  pointwise at h1
  rw [pos_inf] at h1
  exact real_of_abs_lt _ h1

/-- Equal arrays: the kernel's result is the reference's where the queries and the keys are finite. -/
theorem value_eq (p : FVec Ideal Cert.Pre_finite_attn.S4096x2304 .bf16) (h : Cert.Pre_finite_attn.fn (F := Ideal) p = fun _ => 1#1) :
    Cert.AttnIdeal.HeadValue.G p = Cert.AttnRefIdeal.Read.val_main_v24 (F := Ideal) p := by
  funext i
  obtain ⟨R, l, rfl⟩ : ∃ (R : Fin 4096) (l : Fin 512), i = ix2 R l := ⟨i 0, i 1, eq_ix2 i⟩
  rw [Cert.AttnRefIdeal.RefValue.out_apply]
  exact attend_eq p (finite_of_pre p h) R l

end Cert.AttnMath

end
-- ==== Proof.AttnClaims.lean ====
module

public import proofs.«01_k».proof.Defs
public import proofs.«01_k».proof.Proof.AttnMath
public import proofs.«01_k».proof.Proof.Gen.Attn.Frame
public import proofs.«01_k».proof.Proof.Gen.AttnIdeal.Frame
public import proofs.«01_k».proof.Proof.Gen.AttnRefIdeal.Run
public import Idealize.ShloMosaic.Adequacy

@[expose] public section

noncomputable section

/-! ## The claims about the context attention -/

namespace Cert.Proof.AttnClaims

open Idealize.ShloMosaic Idealize.SL.Sem

/-- The kernel runs, its argument ends unchanged and its semaphores at zero. -/
theorem frame_p : Cert.quiescent_Attn := fun m ρ _ => Cert.Attn.Gen.frame m ρ
/-- So does the kernel over the extended reals. -/
theorem frame_pi : Cert.quiescent_AttnIdeal := fun m ρ _ => Cert.AttnIdeal.Gen.frame m ρ
/-- The same under the precondition. -/
theorem frame_pi' : Cert.quiescent_AttnIdeal_pre_finite_attn := fun m ρ _ => Cert.AttnIdeal.Gen.frame m ρ
/-- So does the reference. -/
theorem frame_ri : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)
/-- The same under the precondition. -/
theorem frame_ri' : Cert.quiescent_AttnRefIdeal_pre_finite_attn := fun m ρ _ => frame_ri m ρ trivial

/-- The idealization rewrites no operation. -/
theorem preserves : Cert.preserves_Attn_AttnIdeal := trivial

/-- With finite queries and keys, the kernel and the reference end with the same array. -/
theorem algebraic : Cert.algebraic_AttnIdeal_AttnRefIdeal_pre_finite_attn := by
  intro m ρ m' ρ' hpre hagree
  refine ⟨fun c => Cert.AttnIdeal.HeadValue.G (m ((c.tc : Thread Cert.AttnIdeal.nD Cert.AttnIdeal.τ).loc Cert.AttnIdeal.main_arg0)),
    Cert.AttnIdeal.HeadValue.run m ρ, ?_⟩
  refine (θ_run Cert.AttnRefIdeal.defs _ _).mono (fun _ h c => ⟨(h c).1.trans ?_, (h c).2⟩)
    (Cert.AttnRefIdeal.Value.run (F := Ideal) m' ρ')
  rw [Cert.AttnRefIdeal.Read.val_main_v24_eq, hagree c]
  exact (Cert.AttnMath.value_eq _ (hpre c)).symm

end Cert.Proof.AttnClaims

end
-- ==== Proof.ExpertsRow.lean ====
module

public import Idealize.ShloMosaic.Lib.Pipeline.ValueKit

@[expose] public section

noncomputable section

namespace Cert.ExpertsRow

open Idealize.ShloMosaic

/-- A hidden unit of an expert: SiLU of the gate's product times the up product. -/
def unit (x g u : Fin 1024 → EReal) : EReal :=
  (∑ y, x y * g y) * Ideal.logistic (∑ y, x y * g y) * (∑ y, x y * u y)

/-- What hidden unit `f` of expert `e` adds to column `d` for the row `x`. -/
def part (G U : (⟨4, ![2, 16, 1024, 2048]⟩ : Shape).Idx → EReal) (D : (⟨4, ![2, 16, 2048, 1024]⟩ : Shape).Idx → EReal)
    (e : Fin 16) (x : Fin 1024 → EReal) (d : Fin 1024) (f : Fin 2048) : EReal :=
  unit x (fun y => G (ix4 (0 : Fin 2) e y f)) (fun y => U (ix4 (0 : Fin 2) e y f)) * D (ix4 (0 : Fin 2) e f d)

/-- A column `d` of expert `e`'s output for the row `x`: the sum over its hidden units. -/
def row (G U : (⟨4, ![2, 16, 1024, 2048]⟩ : Shape).Idx → EReal) (D : (⟨4, ![2, 16, 2048, 1024]⟩ : Shape).Idx → EReal)
    (e : Fin 16) (x : Fin 1024 → EReal) (d : Fin 1024) : EReal :=
  ∑ f : Fin 2048, part G U D e x d f

/-- The two halves of a sum over the hidden units. -/
theorem sum_halves (A : Fin 2048 → EReal) (h0 : ∀ f : Fin 1024, 0 * 1024 + f.val < 2048) (h1 : ∀ f : Fin 1024, 1 * 1024 + f.val < 2048) :
    0 + (∑ f : Fin 1024, A ⟨0 * 1024 + f.val, h0 f⟩) + (∑ f : Fin 1024, A ⟨1 * 1024 + f.val, h1 f⟩) = ∑ f, A f := by
  rw [zero_add]
  refine Eq.trans ?_ (Fin.sum_univ_add (a := 1024) (b := 1024) A).symm
  refine congrArg₂ _ (Finset.sum_congr rfl fun f _ => congrArg A (Fin.ext ?_)) (Finset.sum_congr rfl fun f _ => congrArg A (Fin.ext ?_))
  · show 0 * 1024 + f.val = f.val
    omega
  · show 1 * 1024 + f.val = 1024 + f.val
    omega

end Cert.ExpertsRow

end
-- ==== Proof.ExpertsKernel.lean ====
module

public import proofs.«01_k».proof.Proof.Gen.ExpertsIdeal.Value
public import proofs.«01_k».proof.Proof.ExpertsRow
public import Idealize.ShloMosaic.Lib.Pipeline.ValueKit
public import Idealize.ShloMosaic.Lib.Pointwise

@[expose] public section

set_option maxRecDepth 16384

noncomputable section

namespace Cert.ExpertsIdeal.RowValue

open Cert.ExpertsIdeal Cert.ExpertsIdeal.Gen Idealize.ShloMosaic Idealize.ShloMosaic.TcCoe Idealize.SL.Sem
open Idealize.ShloMosaic.Pipeline (Dat)
open Cert.ExpertsRow

/-- What a point adds to the context block: half of the hidden units' contribution. -/
theorem pay9_apply (wg wu wd : Vec Ideal S1x1x1024x1024 .f32) (x : Vec Ideal S1x512x1024 .bf16) (acc : Vec Ideal S1x512x1024 .f32)
    (r : Fin 512) (d : Fin 1024) :
    k0_pay9 (F := Ideal) wg wu wd x acc (ix3 (0 : Fin 1) r d)
      = acc (ix3 (0 : Fin 1) r d) + ∑ f : Fin 1024, unit (fun y => x (ix3 (0 : Fin 1) r y)) (fun y => wg (ix4 (0 : Fin 1) (0 : Fin 1) y f))
          (fun y => wu (ix4 (0 : Fin 1) (0 : Fin 1) y f)) * wd (ix4 (0 : Fin 1) (0 : Fin 1) f d) := by
  pointwise [k0_pay9, k0_pay6, k0_pay7, k0_pay8, unit]

/-- What a point adds to the latent block: half of the hidden units' contribution. -/
theorem pay1_apply (wg wu wd : Vec Ideal S1x1x1024x1024 .f32) (x : Vec Ideal S1x1024x1024 .bf16) (acc : Vec Ideal S1x1024x1024 .f32)
    (r : Fin 1024) (d : Fin 1024) :
    k0_pay1 (F := Ideal) (k0_pay6 wg) (k0_pay7 wu) (k0_pay8 wd) x acc (ix3 (0 : Fin 1) r d)
      = acc (ix3 (0 : Fin 1) r d) + ∑ f : Fin 1024, unit (fun y => x (ix3 (0 : Fin 1) r y)) (fun y => wg (ix4 (0 : Fin 1) (0 : Fin 1) y f))
          (fun y => wu (ix4 (0 : Fin 1) (0 : Fin 1) y f)) * wd (ix4 (0 : Fin 1) (0 : Fin 1) f d) := by
  pointwise [k0_pay1, k0_pay6, k0_pay7, k0_pay8, unit]

/-- The context block times the routing weight of its row. -/
theorem pay2_apply (acc : Vec Ideal S1x512x1024 .f32) (g : Vec Ideal S1x512x1 .f32) (r : Fin 512) (d : Fin 1024) :
    k0_pay2 (F := Ideal) acc g (ix3 (0 : Fin 1) r d) = acc (ix3 (0 : Fin 1) r d) * g (ix3 (0 : Fin 1) r (0 : Fin 1)) := by
  pointwise [k0_pay2]

/-- The latent block times the routing weight of its row. -/
theorem pay3_apply (acc : Vec Ideal S1x1024x1024 .f32) (g : Vec Ideal S1x1024x1 .f32) (r : Fin 1024) (d : Fin 1024) :
    k0_pay3 (F := Ideal) acc g (ix3 (0 : Fin 1) r d) = acc (ix3 (0 : Fin 1) r d) * g (ix3 (0 : Fin 1) r (0 : Fin 1)) := by
  pointwise [k0_pay3]

/-- The context block starts at zero. -/
theorem pay4_apply (i : S1x512x1024.Idx) : k0_pay4 (F := Ideal) i = 0 := by
  unfold k0_pay4
  exact Ideal.ofBits_zero_f32
/-- The latent block starts at zero. -/
theorem pay5_apply (i : S1x1024x1024.Idx) : k0_pay5 (F := Ideal) i = 0 := by
  unfold k0_pay5
  exact Ideal.ofBits_zero_f32

variable (m : (ℓ : Loc nD τ sig) → Buf (Elt Ideal) ℓ) (ρ : Dev nD → PrngReg)

/-- Where the block of window 0 lies at a grid point. -/
theorem idx0 : ∀ t : Fin cfg0.N, win0_0.index t = ![t.val / 2, 0, 0] := (by decide +kernel : ∀ t : Fin grid0.N, win0_0.index t = ![t.val / 2, 0, 0])
/-- Where the block of window 1 lies at a grid point. -/
theorem idx1 : ∀ t : Fin cfg0.N, win0_1.index t = ![t.val / 2, 0, 0] := (by decide +kernel : ∀ t : Fin grid0.N, win0_1.index t = ![t.val / 2, 0, 0])
/-- Where the block of window 2 lies at a grid point. -/
theorem idx2 : ∀ t : Fin cfg0.N, win0_2.index t = ![t.val / 2, 0, 0] := (by decide +kernel : ∀ t : Fin grid0.N, win0_2.index t = ![t.val / 2, 0, 0])
/-- Where the block of window 3 lies at a grid point. -/
theorem idx3 : ∀ t : Fin cfg0.N, win0_3.index t = ![t.val / 2, 0, 0] := (by decide +kernel : ∀ t : Fin grid0.N, win0_3.index t = ![t.val / 2, 0, 0])
/-- Where the block of window 4 lies at a grid point. -/
theorem idx4 : ∀ t : Fin cfg0.N, win0_4.index t = ![0, t.val / 2, 0, t.val % 2] := (by decide +kernel : ∀ t : Fin grid0.N, win0_4.index t = ![0, t.val / 2, 0, t.val % 2])
/-- Where the block of window 5 lies at a grid point. -/
theorem idx5 : ∀ t : Fin cfg0.N, win0_5.index t = ![0, t.val / 2, 0, t.val % 2] := (by decide +kernel : ∀ t : Fin grid0.N, win0_5.index t = ![0, t.val / 2, 0, t.val % 2])
/-- Where the block of window 6 lies at a grid point. -/
theorem idx6 : ∀ t : Fin cfg0.N, win0_6.index t = ![0, t.val / 2, t.val % 2, 0] := (by decide +kernel : ∀ t : Fin grid0.N, win0_6.index t = ![0, t.val / 2, t.val % 2, 0])

/-- There are thirty-two grid points. -/
theorem N32 (t : Fin cfg0.N) : t.val < 32 := lt_of_lt_of_eq t.isLt N_0

/-- The block of window 0 at a grid point, read from the arguments. -/
theorem blk0 (c : Dev nD) (t : Fin cfg0.N) (r : Fin 512) (d : Fin 1024) (h : t.val / 2 < 16) :
    iblk m c 0 t (ix3 (0 : Fin 1) r d) = m ((c : Thread nD τ).loc main_arg0) (ix3 ⟨t.val / 2, h⟩ r d) := by
  blk_ext [iblk, V, idx0]
/-- The block of window 1 at a grid point, read from the arguments. -/
theorem blk1 (c : Dev nD) (t : Fin cfg0.N) (r : Fin 1024) (d : Fin 1024) (h : t.val / 2 < 16) :
    iblk m c 1 t (ix3 (0 : Fin 1) r d) = m ((c : Thread nD τ).loc main_arg1) (ix3 ⟨t.val / 2, h⟩ r d) := by
  blk_ext [iblk, V, idx1]
/-- The block of window 2 at a grid point, read from the arguments. -/
theorem blk2 (c : Dev nD) (t : Fin cfg0.N) (r : Fin 512) (h : t.val / 2 < 16) :
    iblk m c 2 t (ix3 (0 : Fin 1) r (0 : Fin 1)) = m ((c : Thread nD τ).loc main_arg2) (ix3 ⟨t.val / 2, h⟩ r (0 : Fin 1)) := by
  blk_ext [iblk, V, idx2]
/-- The block of window 3 at a grid point, read from the arguments. -/
theorem blk3 (c : Dev nD) (t : Fin cfg0.N) (r : Fin 1024) (h : t.val / 2 < 16) :
    iblk m c 3 t (ix3 (0 : Fin 1) r (0 : Fin 1)) = m ((c : Thread nD τ).loc main_arg3) (ix3 ⟨t.val / 2, h⟩ r (0 : Fin 1)) := by
  blk_ext [iblk, V, idx3]
/-- The block of window 4 at a grid point, read from the arguments. -/
theorem blk4 (c : Dev nD) (t : Fin cfg0.N) (y f : Fin 1024) (h : t.val / 2 < 16) :
    iblk m c 4 t (ix4 (0 : Fin 1) (0 : Fin 1) y f)
      = m ((c : Thread nD τ).loc main_arg4) (ix4 (0 : Fin 2) ⟨t.val / 2, h⟩ y ⟨t.val % 2 * 1024 + f.val, by omega⟩) := by
  blk_ext [iblk, V, idx4]
/-- The block of window 5 at a grid point, read from the arguments. -/
theorem blk5 (c : Dev nD) (t : Fin cfg0.N) (y f : Fin 1024) (h : t.val / 2 < 16) :
    iblk m c 5 t (ix4 (0 : Fin 1) (0 : Fin 1) y f)
      = m ((c : Thread nD τ).loc main_arg5) (ix4 (0 : Fin 2) ⟨t.val / 2, h⟩ y ⟨t.val % 2 * 1024 + f.val, by omega⟩) := by
  blk_ext [iblk, V, idx5]
/-- The block of window 6 at a grid point, read from the arguments. -/
theorem blk6 (c : Dev nD) (t : Fin cfg0.N) (f d : Fin 1024) (h : t.val / 2 < 16) :
    iblk m c 6 t (ix4 (0 : Fin 1) (0 : Fin 1) f d)
      = m ((c : Thread nD τ).loc main_arg6) (ix4 (0 : Fin 2) ⟨t.val / 2, h⟩ ⟨t.val % 2 * 1024 + f.val, by omega⟩ d) := by
  blk_ext [iblk, V, idx6]

/-- A point of the pipeline adds its half of the hidden units. -/
theorem half7 (c : Dev nD) (t : Fin cfg0.N) (acc : Vec Ideal S1x512x1024 .f32) (r : Fin 512) (d : Fin 1024) (e : Fin 16) (q : Nat)
    (he : t.val / 2 = e.val) (hq : t.val % 2 = q) :
    k0_pay9 (F := Ideal) (iblk m c 4 t) (iblk m c 5 t) (iblk m c 6 t) (iblk m c 0 t) acc (ix3 (0 : Fin 1) r d)
      = acc (ix3 (0 : Fin 1) r d) + ∑ f : Fin 1024, part (m ((c : Thread nD τ).loc main_arg4)) (m ((c : Thread nD τ).loc main_arg5))
          (m ((c : Thread nD τ).loc main_arg6)) e (fun y => m ((c : Thread nD τ).loc main_arg0) (ix3 e r y)) d ⟨q * 1024 + f.val, by omega⟩ := by
  subst hq
  have ee : ∀ h, (⟨t.val / 2, h⟩ : Fin 16) = e := fun h => Fin.ext he
  have ht := N32 t
  rw [pay9_apply]
  refine congrArg _ (Finset.sum_congr rfl fun f _ => ?_)
  rw [blk6 m c t f d (by omega)]
  simp only [blk0 m c t _ _ (by omega), blk4 m c t _ _ (by omega), blk5 m c t _ _ (by omega), ee]
  rfl

/-- Half of the hidden units' contribution to the latent block, from the argument arrays. -/
theorem half8 (c : Dev nD) (t : Fin cfg0.N) (acc : Vec Ideal S1x1024x1024 .f32) (r : Fin 1024) (d : Fin 1024) (e : Fin 16) (q : Nat)
    (he : t.val / 2 = e.val) (hq : t.val % 2 = q) :
    k0_pay1 (F := Ideal) (k0_pay6 (iblk m c 4 t)) (k0_pay7 (iblk m c 5 t)) (k0_pay8 (iblk m c 6 t)) (iblk m c 1 t) acc (ix3 (0 : Fin 1) r d)
      = acc (ix3 (0 : Fin 1) r d) + ∑ f : Fin 1024, part (m ((c : Thread nD τ).loc main_arg4)) (m ((c : Thread nD τ).loc main_arg5))
          (m ((c : Thread nD τ).loc main_arg6)) e (fun y => m ((c : Thread nD τ).loc main_arg1) (ix3 e r y)) d ⟨q * 1024 + f.val, by omega⟩ := by
  subst hq
  have ee : ∀ h, (⟨t.val / 2, h⟩ : Fin 16) = e := fun h => Fin.ext he
  have ht := N32 t
  rw [pay1_apply]
  refine congrArg _ (Finset.sum_congr rfl fun f _ => ?_)
  rw [blk6 m c t f d (by omega)]
  simp only [blk1 m c t _ _ (by omega), blk4 m c t _ _ (by omega), blk5 m c t _ _ (by omega), ee]
  rfl

/-- The first result at an index: the expert's row, times the row's gate. -/
theorem G7_apply (c : Dev nD) (e : Fin 16) (r : Fin 512) (d : Fin 1024) :
    Value.G7 m c (ix3 e r d) = row (m ((c : Thread nD τ).loc main_arg4)) (m ((c : Thread nD τ).loc main_arg5)) (m ((c : Thread nD τ).loc main_arg6)) e
        (fun y => m ((c : Thread nD τ).loc main_arg0) (ix3 e r y)) d * m ((c : Thread nD τ).loc main_arg2) (ix3 e r (0 : Fin 1)) := by
  have hr : Value.run7Of (ix3 e r d) = e.val := by
    show 1 * (e.val / 1 - 0) + 1 * (r.val / 512 - 0) + 1 * (d.val / 1024 - 0) = e.val
    omega
  have hl : Value.loc7Of (ix3 e r d) = ix3 (0 : Fin 1) r d := by
    funext a
    match a with
    | ⟨0, _⟩ => exact Fin.ext (Nat.mod_one _)
    | ⟨1, _⟩ => exact Fin.ext (Nat.mod_eq_of_lt r.isLt)
    | ⟨2, _⟩ => exact Fin.ext (Nat.mod_eq_of_lt d.isLt)
  have hN : cfg0.N = 32 := N_0
  have hh : ∀ (n : Nat) (hn : 2 * n + 1 < cfg0.N), n = e.val → Pipeline.accAt (Value.reset7 m c) (Value.step7 m c) (2 * n) 1 hn
      = Value.step7 m c (2 * e.val + 1) (by omega) (Value.reset7 m c (2 * e.val) (by omega)) := fun n hn h => by subst h; rfl
  unfold Value.G7
  rw [dif_pos (by omega), hl, hh _ _ hr]
  unfold Value.step7 Value.reset7
  rw [pay2_apply, half7 m c _ _ r d e 1 (by dsimp only; omega) (by dsimp only; omega), half7 m c _ _ r d e 0 (by dsimp only; omega) (by dsimp only; omega), pay4_apply,
    sum_halves, blk2 m c _ r (by dsimp only; omega)]
  refine congrArg₂ _ rfl (congrArg _ (congrArg (fun z => ix3 z r (0 : Fin 1)) (Fin.ext ?_)))
  dsimp only
  omega

/-- The second result at an index. -/
theorem G8_apply (c : Dev nD) (e : Fin 16) (r : Fin 1024) (d : Fin 1024) :
    Value.G8 m c (ix3 e r d) = row (m ((c : Thread nD τ).loc main_arg4)) (m ((c : Thread nD τ).loc main_arg5)) (m ((c : Thread nD τ).loc main_arg6)) e
        (fun y => m ((c : Thread nD τ).loc main_arg1) (ix3 e r y)) d * m ((c : Thread nD τ).loc main_arg3) (ix3 e r (0 : Fin 1)) := by
  have hr : Value.run8Of (ix3 e r d) = e.val := by
    show 1 * (e.val / 1 - 0) + 1 * (r.val / 1024 - 0) + 1 * (d.val / 1024 - 0) = e.val
    omega
  have hl : Value.loc8Of (ix3 e r d) = ix3 (0 : Fin 1) r d := by
    funext a
    match a with
    | ⟨0, _⟩ => exact Fin.ext (Nat.mod_one _)
    | ⟨1, _⟩ => exact Fin.ext (Nat.mod_eq_of_lt r.isLt)
    | ⟨2, _⟩ => exact Fin.ext (Nat.mod_eq_of_lt d.isLt)
  have hN : cfg0.N = 32 := N_0
  have hh : ∀ (n : Nat) (hn : 2 * n + 1 < cfg0.N), n = e.val → Pipeline.accAt (Value.reset8 m c) (Value.step8 m c) (2 * n) 1 hn
      = Value.step8 m c (2 * e.val + 1) (by omega) (Value.reset8 m c (2 * e.val) (by omega)) := fun n hn h => by subst h; rfl
  unfold Value.G8
  rw [dif_pos (by omega), hl, hh _ _ hr]
  unfold Value.step8 Value.reset8
  rw [pay3_apply, half8 m c _ _ r d e 1 (by dsimp only; omega) (by dsimp only; omega), half8 m c _ _ r d e 0 (by dsimp only; omega) (by dsimp only; omega), pay5_apply,
    sum_halves, blk3 m c _ r (by dsimp only; omega)]
  refine congrArg₂ _ rfl (congrArg _ (congrArg (fun z => ix3 z r (0 : Fin 1)) (Fin.ext ?_)))
  dsimp only
  omega

end Cert.ExpertsIdeal.RowValue

end
-- ==== Proof.ExpertsRef.lean ====
module

public import proofs.«01_k».proof.Proof.Gen.ExpertsRefIdeal.Read
public import proofs.«01_k».proof.Proof.ExpertsRow
public import Idealize.ShloMosaic.Lib.Pipeline.ValueKit
public import Idealize.ShloMosaic.Lib.Pointwise

@[expose] public section

set_option maxRecDepth 16384

noncomputable section

namespace Cert.ExpertsRefIdeal.RefValue

open Cert.ExpertsRefIdeal Cert.ExpertsRefIdeal.Gen Cert.ExpertsRefIdeal.Read Idealize.ShloMosaic Idealize.ShloMosaic.TcCoe Idealize.SL.Sem
open Cert.ExpertsRow

variable (x0 : (⟨S16x512x1024, .bf16⟩ : BufTy).Contents (Elt Ideal)) (x1 : (⟨S16x1024x1024, .bf16⟩ : BufTy).Contents (Elt Ideal))
  (x2 : (⟨S16x512x1, .f32⟩ : BufTy).Contents (Elt Ideal)) (x3 : (⟨S16x1024x1, .f32⟩ : BufTy).Contents (Elt Ideal))
  (x4 x5 : (⟨S2x16x1024x2048, .f32⟩ : BufTy).Contents (Elt Ideal)) (x6 : (⟨S2x16x2048x1024, .f32⟩ : BufTy).Contents (Elt Ideal))

/-- The word of one. -/
theorem one : Ideal.ofBits .f32 1065353216#32 = 1 := Ideal.ofBits_one_f32

/-- The gate's product at a hidden unit. -/
theorem gate_apply (e : Fin 16) (r : Fin 512) (f : Fin 2048) :
    val_main_v3 (F := Ideal) x0 x4 (ix3 e r f) = ∑ y, x0 (ix3 e r y) * x4 (ix4 (0 : Fin 2) e y f) := by
  pointwise [val_main_v3, val_main_v2, val_main_v1, val_main_v0]
/-- The up product at a hidden unit, context pass. -/
theorem up_apply (e : Fin 16) (r : Fin 512) (f : Fin 2048) :
    val_main_v6 (F := Ideal) x0 x5 (ix3 e r f) = ∑ y, x0 (ix3 e r y) * x5 (ix4 (0 : Fin 2) e y f) := by
  pointwise [val_main_v6, val_main_v5, val_main_v4, val_main_v0]
/-- SiLU at an index, of any array. -/
theorem silu_apply (g u : FVec Ideal S16x512x2048 .f32) (i : S16x512x2048.Idx) :
    mulf (mulf g (Host.divf (broadcastInDim S16x512x2048 ![] bcast_S_S16x512x2048 (constant S_ .f32 0x3F800000#32))
      (addf (broadcastInDim S16x512x2048 ![] bcast_S_S16x512x2048 (constant S_ .f32 0x3F800000#32)) (Host.exp (Host.negf g))))) u i
      = g i * Ideal.logistic (g i) * u i := by
  unfold Ideal.logistic
  rw [← one]
  rfl
/-- A hidden unit, context pass. -/
theorem hidden_apply (e : Fin 16) (r : Fin 512) (f : Fin 2048) :
    val_main_v8 (F := Ideal) x0 x4 x5 (ix3 e r f)
      = unit (fun y => x0 (ix3 e r y)) (fun y => x4 (ix4 (0 : Fin 2) e y f)) (fun y => x5 (ix4 (0 : Fin 2) e y f)) := by
  unfold unit
  rw [← gate_apply, ← up_apply]
  exact silu_apply _ _ _
/-- The down projection of any hidden array, times the gates. -/
theorem down_apply (h : FVec Ideal S16x512x2048 .f32) (e : Fin 16) (r : Fin 512) (d : Fin 1024) :
    mulf (Host.dotGeneral (φ₂ := .f32) dot_S16x512x2048_S16x2048x1024_S16x512x1024_2_1_1_2_0_0 none h (val_main_v10 (F := Ideal) x6)) (val_main_v12 (F := Ideal) x2) (ix3 e r d)
      = (∑ f, h (ix3 e r f) * x6 (ix4 (0 : Fin 2) e f d)) * x2 (ix3 e r (0 : Fin 1)) := by
  pointwise [val_main_v10, val_main_v9, val_main_v12]

/-- The first result at an index. -/
theorem out0_apply (e : Fin 16) (r : Fin 512) (d : Fin 1024) :
    val_main_v13 (F := Ideal) x0 x2 x4 x5 x6 (ix3 e r d) = row x4 x5 x6 e (fun y => x0 (ix3 e r y)) d * x2 (ix3 e r (0 : Fin 1)) := by
  unfold val_main_v13 val_main_v11
  refine (down_apply x2 x6 _ e r d).trans ?_
  simp only [hidden_apply]
  rfl

/-- The gate's product at a hidden unit, latent pass. -/
theorem gate_apply' (e : Fin 16) (r : Fin 1024) (f : Fin 2048) :
    val_main_v17 (F := Ideal) x1 x4 (ix3 e r f) = ∑ y, x1 (ix3 e r y) * x4 (ix4 (0 : Fin 2) e y f) := by
  pointwise [val_main_v17, val_main_v16, val_main_v15, val_main_v14]
/-- The up product at a hidden unit, latent pass. -/
theorem up_apply' (e : Fin 16) (r : Fin 1024) (f : Fin 2048) :
    val_main_v20 (F := Ideal) x1 x5 (ix3 e r f) = ∑ y, x1 (ix3 e r y) * x5 (ix4 (0 : Fin 2) e y f) := by
  pointwise [val_main_v20, val_main_v19, val_main_v18, val_main_v14]
/-- The gate through SiLU times the up product, latent pass. -/
theorem silu_apply' (g u : FVec Ideal S16x1024x2048 .f32) (i : S16x1024x2048.Idx) :
    mulf (mulf g (Host.divf (broadcastInDim S16x1024x2048 ![] bcast_S_S16x1024x2048 (constant S_ .f32 0x3F800000#32))
      (addf (broadcastInDim S16x1024x2048 ![] bcast_S_S16x1024x2048 (constant S_ .f32 0x3F800000#32)) (Host.exp (Host.negf g))))) u i
      = g i * Ideal.logistic (g i) * u i := by
  unfold Ideal.logistic
  rw [← one]
  rfl
/-- A hidden unit, latent pass. -/
theorem hidden_apply' (e : Fin 16) (r : Fin 1024) (f : Fin 2048) :
    val_main_v22 (F := Ideal) x1 x4 x5 (ix3 e r f)
      = unit (fun y => x1 (ix3 e r y)) (fun y => x4 (ix4 (0 : Fin 2) e y f)) (fun y => x5 (ix4 (0 : Fin 2) e y f)) := by
  unfold unit
  rw [← gate_apply', ← up_apply']
  exact silu_apply' _ _ _
/-- The down product times the routing weight, latent pass. -/
theorem down_apply' (h : FVec Ideal S16x1024x2048 .f32) (e : Fin 16) (r : Fin 1024) (d : Fin 1024) :
    mulf (Host.dotGeneral (φ₂ := .f32) dot_S16x1024x2048_S16x2048x1024_S16x1024x1024_2_1_1_2_0_0 none h (val_main_v24 (F := Ideal) x6)) (val_main_v26 (F := Ideal) x3) (ix3 e r d)
      = (∑ f, h (ix3 e r f) * x6 (ix4 (0 : Fin 2) e f d)) * x3 (ix3 e r (0 : Fin 1)) := by
  pointwise [val_main_v24, val_main_v23, val_main_v26]

/-- The second result at an index. -/
theorem out1_apply (e : Fin 16) (r : Fin 1024) (d : Fin 1024) :
    val_main_v27 (F := Ideal) x1 x3 x4 x5 x6 (ix3 e r d) = row x4 x5 x6 e (fun y => x1 (ix3 e r y)) d * x3 (ix3 e r (0 : Fin 1)) := by
  unfold val_main_v27 val_main_v25
  refine (down_apply' x3 x6 _ e r d).trans ?_
  simp only [hidden_apply']
  rfl

end Cert.ExpertsRefIdeal.RefValue

end
-- ==== Proof.ExpertsClaims.lean ====
module

public import proofs.«01_k».proof.Defs
public import proofs.«01_k».proof.Proof.ExpertsKernel
public import proofs.«01_k».proof.Proof.ExpertsRef
public import proofs.«01_k».proof.Proof.Gen.Experts.Frame
public import Idealize.ShloMosaic.Adequacy

@[expose] public section

noncomputable section

/-! ## The claims about the experts -/

namespace Cert.Proof.ExpertsClaims

open Idealize.ShloMosaic Idealize.SL.Sem

/-- The kernel runs, its arguments end unchanged and its semaphores at zero. -/
theorem frame_p : Cert.quiescent_Experts := fun m ρ _ => Cert.Experts.Gen.frame m ρ
/-- So does the kernel over the extended reals. -/
theorem frame_pi : Cert.quiescent_ExpertsIdeal := fun m ρ _ => Cert.ExpertsIdeal.Gen.frame m ρ
/-- So does the reference. -/
theorem frame_ri : Cert.quiescent_ExpertsRefIdeal := fun m ρ _ =>
  (θ_run Cert.ExpertsRefIdeal.defs _ _).mono (fun r h => ⟨fun c => (h c).2.2, sem_eq_zero_of_no_sems (by decide) r.2⟩)
    (Cert.ExpertsRefIdeal.Value.run (F := Ideal) m ρ)

/-- The idealization rewrites no operation. -/
theorem preserves : Cert.preserves_Experts_ExpertsIdeal := trivial

/-- The kernel and the reference end with the same two arrays. -/
theorem algebraic : Cert.algebraic_ExpertsIdeal_ExpertsRefIdeal := by
  intro m ρ m' ρ' _ hagree
  refine ⟨fun c => Cert.ExpertsIdeal.Value.G7 m c, fun c => Cert.ExpertsIdeal.Value.G8 m c, Cert.ExpertsIdeal.Value.run m ρ, ?_⟩
  refine (θ_run Cert.ExpertsRefIdeal.defs _ _).mono (fun _ h c => ⟨(h c).1.trans ?_, (h c).2.1.trans ?_, (h c).2.2⟩)
    (Cert.ExpertsRefIdeal.Value.run (F := Ideal) m' ρ')
  · obtain ⟨h0, h1, h2, h3, h4, h5, h6⟩ := hagree c
    rw [Cert.ExpertsRefIdeal.Read.val_main_v13_eq, h0, h2, h4, h5, h6]
    funext i
    obtain ⟨e, r, d, rfl⟩ : ∃ (e : Fin 16) (r : Fin 512) (d : Fin 1024), i = ix3 e r d := ⟨i 0, i 1, i 2, eq_ix3 i⟩
    exact (Cert.ExpertsRefIdeal.RefValue.out0_apply _ _ _ _ _ e r d).trans (Cert.ExpertsIdeal.RowValue.G7_apply m c e r d).symm
  · obtain ⟨h0, h1, h2, h3, h4, h5, h6⟩ := hagree c
    rw [Cert.ExpertsRefIdeal.Read.val_main_v27_eq, h1, h3, h4, h5, h6]
    funext i
    obtain ⟨e, r, d, rfl⟩ : ∃ (e : Fin 16) (r : Fin 1024) (d : Fin 1024), i = ix3 e r d := ⟨i 0, i 1, i 2, eq_ix3 i⟩
    exact (Cert.ExpertsRefIdeal.RefValue.out1_apply _ _ _ _ _ e r d).trans (Cert.ExpertsIdeal.RowValue.G8_apply m c e r d).symm

end Cert.Proof.ExpertsClaims

end
-- ==== Proof.LastMath.lean ====
module

public import Idealize.ShloMosaic.Lib.Pipeline.ValueKit
public import Idealize.ShloMosaic.Lib.Pointwise

@[expose] public section

set_option maxRecDepth 16384

noncomputable section

/-! ## A token's sum over the experts that hold it, and the final norm -/

namespace Cert.LastMath

open Idealize.ShloMosaic

/-- The word of one. -/
theorem one : Ideal.ofBits FTy.f32 1065353216#32 = 1 := by
  simp [Ideal.ofBits, Ideal.ieee, -EReal.coe_mul]; norm_num

/-- One when the slot `s` is `c`, else zero. -/
def sel (s : BitVec 32) (c : Nat) : EReal := if BitVec.ofNat 32 c = s then 1 else 0

/-- The row in the slot `s`, or zero when `s` is no slot. -/
def pick (s : BitVec 32) (f : Fin 32 → EReal) : EReal := if h : s.toNat < 32 then f ⟨s.toNat, h⟩ else 0

/-- A row divided by the root of its mean square, times `g`. -/
def rms (y g : Fin 1024 → EReal) (d : Fin 1024) : EReal :=
  y d * Ideal.rsqrt (Ideal.div (∑ k, y k * y k) (Ideal.ofBits FTy.f32 1149239296#32) + Ideal.ofBits FTy.f32 897988541#32) * g d

/-- The kernel's entry of the zero-one matrix, from a comparison of slots. -/
theorem sel_select (s : BitVec 32) (c : Nat) :
    Scalar.select (IntOp.cmpi CmpIPredicate.eq (BitVec.ofNat 32 c) s) (1 : EReal) 0 = sel s c := by
  unfold sel
  by_cases h : BitVec.ofNat 32 c = s
  · rw [if_pos h, h]; simp [Scalar.select, IntOp.cmpi]
  · rw [if_neg h]; simp [Scalar.select, IntOp.cmpi, beq_false_of_ne h]

/-- A conditional equals a value when both branches do. -/
theorem dite_of {α : Type} {p : Prop} [Decidable p] {a : p → α} {b : ¬p → α} {v : α} (h1 : ∀ h, a h = v) (h2 : ∀ h, b h = v) :
    (if h : p then a h else b h) = v := by
  split
  · exact h1 _
  · exact h2 _

/-- Selecting among the 32 slots by ones and zeros picks the row. -/
theorem sum_sel (s : BitVec 32) (f : Fin 32 → EReal) : ∑ c : Fin 32, sel s c.val * f c = pick s f := by
  unfold pick
  split_ifs with h
  · rw [Finset.sum_eq_single (⟨s.toNat, h⟩ : Fin 32)]
    · rw [sel, if_pos (by simp), one_mul]
    · intro c _ hc
      rw [sel, if_neg, zero_mul]
      intro e
      apply hc
      apply Fin.ext
      have := c.isLt
      show c.val = s.toNat
      rw [← e]
      simp; omega
    · intro h'; exact absurd (Finset.mem_univ _) h'
  · refine Finset.sum_eq_zero fun c _ => ?_
    rw [sel, if_neg, zero_mul]
    intro e
    apply h
    have := c.isLt
    rw [← e]
    simp; omega

/-- A sum over the 512 rows of a sequence is a sum over experts and slots. -/
theorem sum_rows (f : Fin 512 → EReal) :
    ∑ k : Fin 512, f k = ∑ e : Fin 16, ∑ c : Fin 32, f ⟨e.val * 32 + c.val, by omega⟩ := by
  rw [← Finset.sum_product', Finset.univ_product_univ]
  refine (Equiv.sum_comp (finProdFinEquiv (m := 16) (n := 32)) f).symm.trans (Finset.sum_congr rfl fun p _ => ?_)
  refine congrArg f (Fin.ext ?_)
  simp [finProdFinEquiv]; omega

/-- The two products of the kernel, rows and what their rounding lost, over finite rows. -/
theorem rows_eq (s : Fin 16 → BitVec 32) (y : Fin 512 → EReal) (hy : ∀ k, y k - y k = 0) :
    ∑ k : Fin 512, sel (s ⟨k.val / 32, by omega⟩) (k.val % 32) * y k
        + ∑ k : Fin 512, sel (s ⟨k.val / 32, by omega⟩) (k.val % 32) * (y k - y k)
      = ∑ e : Fin 16, pick (s e) fun c => y ⟨e.val * 32 + c.val, by omega⟩ := by
  have h0 : ∑ k : Fin 512, sel (s ⟨k.val / 32, by omega⟩) (k.val % 32) * (y k - y k) = 0 :=
    Finset.sum_eq_zero fun k _ => by rw [hy k, mul_zero]
  rw [h0, add_zero, sum_rows]
  refine Finset.sum_congr rfl fun e _ => ?_
  rw [← sum_sel]
  refine Finset.sum_congr rfl fun c _ => ?_
  have he : ∀ h, (⟨(e.val * 32 + c.val) / 32, h⟩ : Fin 16) = e := fun h => Fin.ext (by show (e.val * 32 + c.val) / 32 = e.val; omega)
  have hc : (e.val * 32 + c.val) % 32 = c.val := by omega
  simp only [he, hc]

/-- The reference's reading of a slot, checked against its bounds and clamped, is `pick`. -/
theorem pick_select (s : BitVec 32) (f : Fin 32 → EReal) (n : Fin 32)
    (hn : n.val = min (IntOp.minsi 31#32 (IntOp.maxsi 0#32 s)).toInt.toNat 31) :
    Scalar.select (IntOp.andi (IntOp.cmpi .sge s 0#32) (IntOp.cmpi .slt s 32#32)) (f n) 0 = pick s f := by
  unfold pick
  split_ifs with h
  · have hs : s = BitVec.ofNat 32 s.toNat := by simp
    have hfn : n = ⟨s.toNat, h⟩ := by
      apply Fin.ext
      show n.val = s.toNat
      rw [hn]
      clear hn
      have hk : ∀ k < 32, min (IntOp.minsi 31#32 (IntOp.maxsi 0#32 (BitVec.ofNat 32 k))).toInt.toNat 31 = k := by decide +kernel
      rw [hs]
      simpa using hk _ h
    have hb : IntOp.andi (IntOp.cmpi .sge s 0#32) (IntOp.cmpi .slt s 32#32) = 1#1 := by
      have hk : ∀ k < 32, IntOp.andi (IntOp.cmpi .sge (BitVec.ofNat 32 k) 0#32) (IntOp.cmpi .slt (BitVec.ofNat 32 k) 32#32) = 1#1 := by decide +kernel
      rw [hs]
      exact hk _ h
    rw [hb, hfn]; rfl
  · have hb : IntOp.andi (IntOp.cmpi .sge s 0#32) (IntOp.cmpi .slt s 32#32) = 0#1 := by
      by_cases h1 : s.toNat < 2 ^ 31
      · have : ¬ s.slt 32#32 := by
          simp only [BitVec.slt, decide_eq_true_eq]
          rw [BitVec.toInt_eq_toNat_of_lt (by omega)]
          simp; omega
        simp [IntOp.andi, IntOp.cmpi, this]
      · have : ¬ (0#32).sle s := by
          simp only [BitVec.sle, decide_eq_true_eq]
          rw [BitVec.toInt_eq_toNat_cond, BitVec.toInt_eq_toNat_cond]
          have := s.isLt
          simp; omega
        simp [IntOp.andi, IntOp.cmpi, this]
    rw [hb]; rfl

end Cert.LastMath

end
-- ==== Proof.LastKernel.lean ====
module

public import proofs.«01_k».proof.Proof.Gen.LastIdeal.Value
public import proofs.«01_k».proof.Proof.LastMath
public import Idealize.ShloMosaic.Lib.Pipeline.ValueKit
public import Idealize.ShloMosaic.Lib.Pointwise

@[expose] public section

set_option maxRecDepth 16384

noncomputable section

namespace Cert.LastIdeal.RowValue

open Cert.LastIdeal Cert.LastIdeal.Gen Idealize.ShloMosaic Idealize.ShloMosaic.TcCoe Idealize.SL.Sem
open Idealize.ShloMosaic.Pipeline (Dat)
open Cert.LastMath

/-- The rows that hold the tokens: row `k` is slot `k % 32` of expert `k / 32`. -/
theorem sel_apply (x0 : Vec Ideal S16x256 .i32) (x1 : Vec Ideal S16x32x1024 .f32) (x2 : Vec Ideal S256x1024 .f32) (x3 : Vec Ideal S1x6x1024 .f32)
    (x4 : Vec Ideal S1x1024 .f32) (k : Fin 512) (t : Fin 256) :
    k0_pay18 (F := Ideal) (k0_pay34 x0 x1 x2 x3 x4) (k0_pay3 (View.ld x0 r0_0)) (k0_pay4 (View.ld x0 r0_1))
        (k0_pay5 (View.ld x0 r0_2)) (k0_pay6 (View.ld x0 r0_3)) (k0_pay7 (View.ld x0 r0_4))
        (k0_pay10 (k0_pay8 (View.ld x0 r0_5)) (FloatOps.ofBits FTy.f32 0#32) k0_pay9)
        (k0_pay11 (k0_pay34 x0 x1 x2 x3 x4) (View.ld x0 r0_6)) (k0_pay12 (k0_pay34 x0 x1 x2 x3 x4) (View.ld x0 r0_7))
        (k0_pay13 (k0_pay34 x0 x1 x2 x3 x4) (View.ld x0 r0_8)) (k0_pay14 (k0_pay34 x0 x1 x2 x3 x4) (View.ld x0 r0_9))
        (k0_pay15 (k0_pay34 x0 x1 x2 x3 x4) (View.ld x0 r0_10)) (k0_pay16 (k0_pay34 x0 x1 x2 x3 x4) (View.ld x0 r0_11))
        (FloatOps.ofBits FTy.f32 0#32) k0_pay17 (View.ld x0 r0_12) (View.ld x0 r0_13) (View.ld x0 r0_14)
        (View.ld x0 r0_15) (ix2 k t)
      = sel (x0 (ix2 ⟨k.val / 32, by omega⟩ t)) (k.val % 32) := by
  pointwise [k0_pay18, k0_pay34, k0_pay3, k0_pay4, k0_pay5, k0_pay6, k0_pay7, k0_pay8, k0_pay9, k0_pay10, k0_pay11, k0_pay12, k0_pay13,
    k0_pay14, k0_pay15, k0_pay16, k0_pay17, one, Ideal.ofBits_zero_f32, sel_select]
  iterate 15 refine dite_of (fun h => congr (congrArg sel (congrArg (fun z => x0 (ix2 z t)) (Fin.ext (by dsimp; omega)))) (by omega)) fun h => ?_
  exact congr (congrArg sel (congrArg (fun z => x0 (ix2 z t)) (Fin.ext (by dsimp; omega)))) (by omega)

set_option maxHeartbeats 4000000 in
/-- Sixteen blocks of 32 rows, one after another. -/
theorem rows_of (v0 v1 v2 v3 v4 v5 v6 v7 v8 v9 v10 v11 v12 v13 v14 : Vec Ideal S32x1024 .f32) (v15 : Vec Ideal S1x32x1024 .f32) (f : Fin 16 → Fin 32 → Fin 1024 → EReal)
    (h0 : ∀ (c : Fin 32) (d : Fin 1024), v0 (ix2 c d) = f (⟨0, by omega⟩ : Fin 16) c d)
    (h1 : ∀ (c : Fin 32) (d : Fin 1024), v1 (ix2 c d) = f (⟨1, by omega⟩ : Fin 16) c d)
    (h2 : ∀ (c : Fin 32) (d : Fin 1024), v2 (ix2 c d) = f (⟨2, by omega⟩ : Fin 16) c d)
    (h3 : ∀ (c : Fin 32) (d : Fin 1024), v3 (ix2 c d) = f (⟨3, by omega⟩ : Fin 16) c d)
    (h4 : ∀ (c : Fin 32) (d : Fin 1024), v4 (ix2 c d) = f (⟨4, by omega⟩ : Fin 16) c d)
    (h5 : ∀ (c : Fin 32) (d : Fin 1024), v5 (ix2 c d) = f (⟨5, by omega⟩ : Fin 16) c d)
    (h6 : ∀ (c : Fin 32) (d : Fin 1024), v6 (ix2 c d) = f (⟨6, by omega⟩ : Fin 16) c d)
    (h7 : ∀ (c : Fin 32) (d : Fin 1024), v7 (ix2 c d) = f (⟨7, by omega⟩ : Fin 16) c d)
    (h8 : ∀ (c : Fin 32) (d : Fin 1024), v8 (ix2 c d) = f (⟨8, by omega⟩ : Fin 16) c d)
    (h9 : ∀ (c : Fin 32) (d : Fin 1024), v9 (ix2 c d) = f (⟨9, by omega⟩ : Fin 16) c d)
    (h10 : ∀ (c : Fin 32) (d : Fin 1024), v10 (ix2 c d) = f (⟨10, by omega⟩ : Fin 16) c d)
    (h11 : ∀ (c : Fin 32) (d : Fin 1024), v11 (ix2 c d) = f (⟨11, by omega⟩ : Fin 16) c d)
    (h12 : ∀ (c : Fin 32) (d : Fin 1024), v12 (ix2 c d) = f (⟨12, by omega⟩ : Fin 16) c d)
    (h13 : ∀ (c : Fin 32) (d : Fin 1024), v13 (ix2 c d) = f (⟨13, by omega⟩ : Fin 16) c d)
    (h14 : ∀ (c : Fin 32) (d : Fin 1024), v14 (ix2 c d) = f (⟨14, by omega⟩ : Fin 16) c d)
    (h15 : ∀ (c : Fin 32) (d : Fin 1024), v15 (ix3 (0 : Fin 1) c d) = f (⟨15, by omega⟩ : Fin 16) c d) (k : Fin 512) (d : Fin 1024) :
    k0_pay1 (F := Ideal) v0 v1 v2 v3 v4 v5 v6 v7 v8 v9 v10 v11 v12 v13 v14 v15 (ix2 k d) = f ⟨k.val / 32, by omega⟩ ⟨k.val % 32, by omega⟩ d := by
  have hw : ∀ (c : Fin 32) (d : Fin 1024), shapeCast S32x1024 v15 shapeCasts_S1x32x1024_S32x1024 (ix2 c d) = f (⟨15, by omega⟩ : Fin 16) c d :=
    fun c d => (by pointwise : _ = v15 (ix3 (0 : Fin 1) c d)).trans (h15 c d)
  unfold k0_pay1
  generalize shapeCast S32x1024 v15 shapeCasts_S1x32x1024_S32x1024 = w at hw ⊢
  let V : Fin 16 → Vec Ideal S32x1024 .f32 := ![v0, v1, v2, v3, v4, v5, v6, v7, v8, v9, v10, v11, v12, v13, v14, w]
  have hV : ∀ (n : Fin 16) (c : Fin 32) (d : Fin 1024), V n (ix2 c d) = f n c d := by
    intro n
    match n with
    | ⟨0, _⟩ => exact h0
    | ⟨1, _⟩ => exact h1
    | ⟨2, _⟩ => exact h2
    | ⟨3, _⟩ => exact h3
    | ⟨4, _⟩ => exact h4
    | ⟨5, _⟩ => exact h5
    | ⟨6, _⟩ => exact h6
    | ⟨7, _⟩ => exact h7
    | ⟨8, _⟩ => exact h8
    | ⟨9, _⟩ => exact h9
    | ⟨10, _⟩ => exact h10
    | ⟨11, _⟩ => exact h11
    | ⟨12, _⟩ => exact h12
    | ⟨13, _⟩ => exact h13
    | ⟨14, _⟩ => exact h14
    | ⟨15, _⟩ => exact hw
    | ⟨n + 16, h⟩ => omega
  refine Eq.trans ?_ (hV ⟨k.val / 32, by omega⟩ ⟨k.val % 32, by omega⟩ d)
  refine concatenate_ofFn_apply (t := S512x1024) (s₁ := S32x1024) (0 : Fin 2) V _ rfl 32 rfl (ix2 k d) ⟨k.val / 32, by omega⟩ rfl
    (ix2 ⟨k.val % 32, by omega⟩ d) rfl fun b hb => ?_
  match b with
  | ⟨0, _⟩ => exact absurd rfl hb
  | ⟨1, _⟩ => rfl

/-- The rows of a sequence: row `k` is slot `k % 32` of expert `k / 32`. -/
theorem rows_apply (x1 : Vec Ideal S16x32x1024 .f32) (k : Fin 512) (d : Fin 1024) :
    k0_pay1 (F := Ideal) (k0_pay19 (View.ld x1 r0_16)) (k0_pay20 (View.ld x1 r0_17)) (k0_pay21 (View.ld x1 r0_18)) (k0_pay22 (View.ld x1 r0_19)) (k0_pay23 (View.ld x1 r0_20)) (k0_pay24 (View.ld x1 r0_21)) (k0_pay25 (View.ld x1 r0_22)) (k0_pay26 (View.ld x1 r0_23)) (k0_pay27 (View.ld x1 r0_24)) (k0_pay28 (View.ld x1 r0_25)) (k0_pay29 (View.ld x1 r0_26)) (k0_pay30 (View.ld x1 r0_27)) (k0_pay31 (View.ld x1 r0_28)) (k0_pay32 (View.ld x1 r0_29)) (k0_pay33 (View.ld x1 r0_30)) (View.ld x1 r0_31) (ix2 k d)
      = x1 (ix3 ⟨k.val / 32, by omega⟩ ⟨k.val % 32, by omega⟩ d) :=
  rows_of _ _ _ _ _ _ _ _ _ _ _ _ _ _ _ _ (fun e c d => x1 (ix3 e c d))
    (fun c d => by pointwise [k0_pay19])
    (fun c d => by pointwise [k0_pay20])
    (fun c d => by pointwise [k0_pay21])
    (fun c d => by pointwise [k0_pay22])
    (fun c d => by pointwise [k0_pay23])
    (fun c d => by pointwise [k0_pay24])
    (fun c d => by pointwise [k0_pay25])
    (fun c d => by pointwise [k0_pay26])
    (fun c d => by pointwise [k0_pay27])
    (fun c d => by pointwise [k0_pay28])
    (fun c d => by pointwise [k0_pay29])
    (fun c d => by pointwise [k0_pay30])
    (fun c d => by pointwise [k0_pay31])
    (fun c d => by pointwise [k0_pay32])
    (fun c d => by pointwise [k0_pay33])
    (fun c d => by pointwise) k d

/-- The combine, the residual and the norm, from the selection and the rows. -/
theorem pay2_apply (S : Vec Ideal S512x256 .bf16) (Y : Vec Ideal S512x1024 .f32) (x : Vec Ideal S256x1024 .f32) (g : Vec Ideal S1x1x1024 .f32)
    (gf : Vec Ideal S1x1024 .f32) (t : Fin 256) (d : Fin 1024) :
    k0_pay2 (F := Ideal) S Y x g gf (ix2 t d)
      = rms (fun d => x (ix2 t d) + g (ix3 (0 : Fin 1) (0 : Fin 1) d)
          * (∑ k : Fin 512, S (ix2 k t) * Y (ix2 k d) + ∑ k : Fin 512, S (ix2 k t) * (Y (ix2 k d) - Y (ix2 k d))))
        (fun d => gf (ix2 (0 : Fin 1) d)) d := by
  pointwise [k0_pay2, rms]

/-- The output block at an index. -/
theorem out_apply (x0 : Vec Ideal S16x256 .i32) (x1 : Vec Ideal S16x32x1024 .f32) (x2 : Vec Ideal S256x1024 .f32) (x3 : Vec Ideal S1x6x1024 .f32)
    (x4 : Vec Ideal S1x1024 .f32) (t : Fin 256) (d : Fin 1024) :
    out0_5 x0 x1 x2 x3 x4 (ix2 t d)
      = rms (fun d => x2 (ix2 t d) + x3 (ix3 (0 : Fin 1) (5 : Fin 6) d)
          * (∑ k : Fin 512, sel (x0 (ix2 ⟨k.val / 32, by omega⟩ t)) (k.val % 32) * x1 (ix3 ⟨k.val / 32, by omega⟩ ⟨k.val % 32, by omega⟩ d)
            + ∑ k : Fin 512, sel (x0 (ix2 ⟨k.val / 32, by omega⟩ t)) (k.val % 32)
              * (x1 (ix3 ⟨k.val / 32, by omega⟩ ⟨k.val % 32, by omega⟩ d) - x1 (ix3 ⟨k.val / 32, by omega⟩ ⟨k.val % 32, by omega⟩ d))))
        (fun d => x4 (ix2 (0 : Fin 1) d)) d := by
  frame_out
  rw [pay2_apply]
  simp only [sel_apply, rows_apply]
  have hg : ∀ d : Fin 1024, View.ld x3 r0_33 (ix3 (0 : Fin 1) (0 : Fin 1) d) = x3 (ix3 (0 : Fin 1) (5 : Fin 6) d) := fun d => by pointwise
  simp only [hg]

variable (m : (ℓ : Loc nD τ sig) → Buf (Elt Ideal) ℓ) (ρ : Dev nD → PrngReg)

/-- Where the block of window 0 lies at a grid point. -/
theorem idx0 : ∀ t : Fin cfg0.N, win0_0.index t = ![0, t.val] := (by decide +kernel : ∀ t : Fin grid0.N, win0_0.index t = ![0, t.val])
/-- Where the block of window 1 lies at a grid point. -/
theorem idx1 : ∀ t : Fin cfg0.N, win0_1.index t = ![0, t.val, 0] := (by decide +kernel : ∀ t : Fin grid0.N, win0_1.index t = ![0, t.val, 0])
/-- Where the block of window 2 lies at a grid point. -/
theorem idx2 : ∀ t : Fin cfg0.N, win0_2.index t = ![t.val, 0] := (by decide +kernel : ∀ t : Fin grid0.N, win0_2.index t = ![t.val, 0])
/-- Where the block of window 3 lies at a grid point. -/
theorem idx3 : ∀ t : Fin cfg0.N, win0_3.index t = ![0, 0, 0] := (by decide +kernel : ∀ t : Fin grid0.N, win0_3.index t = ![0, 0, 0])
/-- Where the block of window 4 lies at a grid point. -/
theorem idx4 : ∀ t : Fin cfg0.N, win0_4.index t = ![0, 0] := (by decide +kernel : ∀ t : Fin grid0.N, win0_4.index t = ![0, 0])
/-- Where the block of window 5 lies at a grid point. -/
theorem idx5 : ∀ t : Fin cfg0.N, win0_5.index t = ![t.val, 0] := (by decide +kernel : ∀ t : Fin grid0.N, win0_5.index t = ![t.val, 0])

/-- The block of window 0 at a grid point, read from the arguments. -/
theorem blk0 (c : Dev nD) (t : Fin cfg0.N) (e : Fin 16) (r : Fin 256) (h : t.val * 256 + r.val < 4096) :
    iblk m c 0 t (ix2 e r) = m ((c : Thread nD τ).loc main_arg0) (ix2 e ⟨t.val * 256 + r.val, h⟩) := by
  blk_ext [iblk, V, idx0]
/-- The block of window 1 at a grid point, read from the arguments. -/
theorem blk1 (c : Dev nD) (t : Fin cfg0.N) (e : Fin 16) (r : Fin 32) (d : Fin 1024) (h : t.val * 32 + r.val < 512) :
    iblk m c 1 t (ix3 e r d) = m ((c : Thread nD τ).loc main_arg1) (ix3 e ⟨t.val * 32 + r.val, h⟩ d) := by
  blk_ext [iblk, V, idx1]
/-- The block of window 2 at a grid point, read from the arguments. -/
theorem blk2 (c : Dev nD) (t : Fin cfg0.N) (r : Fin 256) (d : Fin 1024) (h : t.val * 256 + r.val < 4096) :
    iblk m c 2 t (ix2 r d) = m ((c : Thread nD τ).loc main_arg2) (ix2 ⟨t.val * 256 + r.val, h⟩ d) := by
  blk_ext [iblk, V, idx2]
/-- The block of window 3 at a grid point, read from the arguments. -/
theorem blk3 (c : Dev nD) (t : Fin cfg0.N) (j : Fin 6) (d : Fin 1024) :
    iblk m c 3 t (ix3 (0 : Fin 1) j d) = m ((c : Thread nD τ).loc main_arg3) (ix3 (0 : Fin 1) j d) := by
  blk_ext [iblk, V, idx3]
/-- The block of window 4 at a grid point, read from the arguments. -/
theorem blk4 (c : Dev nD) (t : Fin cfg0.N) (d : Fin 1024) :
    iblk m c 4 t (ix2 (0 : Fin 1) d) = m ((c : Thread nD τ).loc main_arg4) (ix1 d) := by
  refine Eq.trans (b := V m c main_v0 (ix2 (0 : Fin 1) d)) ?_ ?_
  · blk_ext [iblk, idx4]
  · show shapeCast S1x1024 (m ((c : Thread nD τ).loc main_arg4)) _ (ix2 (0 : Fin 1) d) = _
    pointwise

/-- Row `R` of the result: the rows that hold the token, the gated residual, the final norm. -/
def out (sp : Vec Ideal S16x4096 .i32) (ys : Vec Ideal S16x512x1024 .f32) (x : Vec Ideal S4096x1024 .f32) (g : Vec Ideal S1x6x1024 .f32)
    (gf : Vec Ideal S1024 .f32) (R : Fin 4096) (d : Fin 1024) : EReal :=
  rms (fun d => x (ix2 R d) + g (ix3 (0 : Fin 1) (5 : Fin 6) d)
      * (∑ k : Fin 512, sel (sp (ix2 ⟨k.val / 32, by omega⟩ R)) (k.val % 32)
            * ys (ix3 ⟨k.val / 32, by omega⟩ ⟨R.val / 256 * 32 + k.val % 32, by omega⟩ d)
        + ∑ k : Fin 512, sel (sp (ix2 ⟨k.val / 32, by omega⟩ R)) (k.val % 32)
          * (ys (ix3 ⟨k.val / 32, by omega⟩ ⟨R.val / 256 * 32 + k.val % 32, by omega⟩ d)
            - ys (ix3 ⟨k.val / 32, by omega⟩ ⟨R.val / 256 * 32 + k.val % 32, by omega⟩ d))))
    (fun d => gf (ix1 d)) d

/-- The kernel's result array. -/
def G (sp : Vec Ideal S16x4096 .i32) (ys : Vec Ideal S16x512x1024 .f32) (x : Vec Ideal S4096x1024 .f32) (g : Vec Ideal S1x6x1024 .f32)
    (gf : Vec Ideal S1024 .f32) : S4096x1024.Idx → EReal := fun i => out sp ys x g gf (i 0) (i 1)

/-- The result array after the run. -/
theorem final (c : Dev nD) : (dats m 0 c).arrAt 5 cfg0.N = G (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  have ht : t.val < 16 := lt_of_lt_of_eq t.isLt N_0
  obtain ⟨r, l, rfl⟩ : ∃ (r : Fin 256) (l : Fin 1024), y = ix2 r l := ⟨y 0, y 1, eq_ix2 y⟩
  have he : (win0_5.blk t).view.emb (ix2 r l) = ix2 (⟨t.val * 256 + r.val, by omega⟩ : Fin 4096) l := by
    blk_ext [idx5]
  rw [he]
  refine (out_apply _ _ _ _ _ r l).trans ?_
  have hd : (t.val * 256 + r.val) / 256 = t.val := by omega
  have hb : ∀ (e : Fin 16) (k : Fin 512) (d : Fin 1024), iblk m c 1 t (ix3 e (⟨k.val % 32, by omega⟩ : Fin 32) d)
      = m ((c : Thread nD τ).loc main_arg1) (ix3 e ⟨t.val * 32 + k.val % 32, by omega⟩ d) := fun e k d => blk1 m c t e _ d _
  show _ = out _ _ _ _ _ (⟨t.val * 256 + r.val, _⟩ : Fin 4096) l
  unfold out
  simp only [blk0 m c t _ r (by omega), hb, blk2 m c t r _ (by omega), blk3, blk4, hd]

/-- The run: the result array and the arguments. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.LastIdeal.RowValue

end
-- ==== Proof.LastRef.lean ====
module

public import proofs.«01_k».proof.Proof.LastMath
public import proofs.«01_k».proof.Proof.Gen.LastRefIdeal.Read
public import Idealize.ShloMosaic.Lib.Pipeline.ValueKit
public import Idealize.ShloMosaic.Lib.Pointwise

@[expose] public section

set_option maxRecDepth 16384

noncomputable section

namespace Cert.LastRefIdeal.RowValue

open Cert.LastRefIdeal Cert.LastRefIdeal.Gen Cert.LastRefIdeal.Read Idealize.ShloMosaic Idealize.ShloMosaic.TcCoe Cert.LastMath

/-- A clamped slot is not negative. -/
theorem slot_nonneg (s : BitVec 32) :
    Scalar.select (IntOp.cmpi CmpIPredicate.slt (IntOp.minsi 31#32 (IntOp.maxsi 0#32 s)) 0#32)
      (IntOp.addi (IntOp.minsi 31#32 (IntOp.maxsi 0#32 s)) 32#32) (IntOp.minsi 31#32 (IntOp.maxsi 0#32 s))
      = IntOp.minsi 31#32 (IntOp.maxsi 0#32 s) := by
  have h : (IntOp.minsi 31#32 (IntOp.maxsi 0#32 s)).slt 0#32 = false := by
    unfold IntOp.minsi IntOp.maxsi
    simp only [BitVec.slt, BitVec.sle]
    split_ifs <;> simp_all
  simp [Scalar.select, IntOp.cmpi, h]

/-- The gather at an index: the row that the three start indices name, each read signed and clamped. -/
theorem gather_apply (x : Vec Ideal S16x16x32x1024 .f32) (idx : IVec S16x16x256x3 32) (e b : Fin 16) (t : Fin 256) (d : Fin 1024) :
    Host.gather gather_S16x16x32x1024_S16x16x256x3_S16x16x256x1024_3_012_n_n_012_3_1111024 x idx (ix4 e b t d)
      = x (ix4 (⟨min (idx (ix4 e b t (0 : Fin 3))).toInt.toNat 15, by omega⟩ : Fin 16)
          (⟨min (idx (ix4 e b t (1 : Fin 3))).toInt.toNat 15, by omega⟩ : Fin 16)
          (⟨min (idx (ix4 e b t (2 : Fin 3))).toInt.toNat 31, by omega⟩ : Fin 32) d) := by
  unfold Host.gather
  refine congrArg x (funext fun a => Fin.ext ?_)
  match a with
  | ⟨0, _⟩ =>
    show min (idx (gather_S16x16x32x1024_S16x16x256x3_S16x16x256x1024_3_012_n_n_012_3_1111024.siIdx (ix4 e b t d) ⟨0, by decide⟩)).toInt.toNat 15 + 0 + 0
      = min (idx (ix4 e b t (0 : Fin 3))).toInt.toNat 15
    have h : gather_S16x16x32x1024_S16x16x256x3_S16x16x256x1024_3_012_n_n_012_3_1111024.siIdx (ix4 e b t d) ⟨0, by decide⟩ = ix4 e b t (0 : Fin 3) := by
      funext k
      refine Fin.ext ?_
      match k with
      | ⟨0, _⟩ => rfl
      | ⟨1, _⟩ => rfl
      | ⟨2, _⟩ => rfl
      | ⟨3, _⟩ => rfl
    rw [h]; omega
  | ⟨1, _⟩ =>
    show min (idx (gather_S16x16x32x1024_S16x16x256x3_S16x16x256x1024_3_012_n_n_012_3_1111024.siIdx (ix4 e b t d) ⟨1, by decide⟩)).toInt.toNat 15 + 0 + 0
      = min (idx (ix4 e b t (1 : Fin 3))).toInt.toNat 15
    have h : gather_S16x16x32x1024_S16x16x256x3_S16x16x256x1024_3_012_n_n_012_3_1111024.siIdx (ix4 e b t d) ⟨1, by decide⟩ = ix4 e b t (1 : Fin 3) := by
      funext k
      refine Fin.ext ?_
      match k with
      | ⟨0, _⟩ => rfl
      | ⟨1, _⟩ => rfl
      | ⟨2, _⟩ => rfl
      | ⟨3, _⟩ => rfl
    rw [h]; omega
  | ⟨2, _⟩ =>
    show min (idx (gather_S16x16x32x1024_S16x16x256x3_S16x16x256x1024_3_012_n_n_012_3_1111024.siIdx (ix4 e b t d) ⟨2, by decide⟩)).toInt.toNat 31 + 0 + 0
      = min (idx (ix4 e b t (2 : Fin 3))).toInt.toNat 31
    have h : gather_S16x16x32x1024_S16x16x256x3_S16x16x256x1024_3_012_n_n_012_3_1111024.siIdx (ix4 e b t d) ⟨2, by decide⟩ = ix4 e b t (2 : Fin 3) := by
      funext k
      refine Fin.ext ?_
      match k with
      | ⟨0, _⟩ => rfl
      | ⟨1, _⟩ => rfl
      | ⟨2, _⟩ => rfl
      | ⟨3, _⟩ => rfl
    rw [h]; omega
  | ⟨3, _⟩ =>
    show 0 + 0 + d.val = d.val
    omega

/-- The counter of experts along the first axis. -/
theorem v16_apply (e : Fin 16) : val_main_v16 (F := Ideal) (ix3 e (0 : Fin 1) (0 : Fin 1)) = BitVec.ofNat 32 e.val := by
  pointwise [val_main_v16, val_main_v13, val_main_v15, val_main_v12, val_main_v14, val_main_v8, val_main_v7, val_main_c_3, val_main_c_4]
  revert e
  decide +kernel
/-- The counter of experts along the second axis. -/
theorem v21_apply (e : Fin 16) : val_main_v21 (F := Ideal) (ix3 (0 : Fin 1) e (0 : Fin 1)) = BitVec.ofNat 32 e.val := by
  pointwise [val_main_v21, val_main_v18, val_main_v20, val_main_v17, val_main_v19, val_main_v10, val_main_v9, val_main_c_5, val_main_c_6]
  revert e
  decide +kernel
/-- The slots by expert, sequence and token. -/
theorem v0_apply (sp : Vec Ideal S16x4096 .i32) (e b : Fin 16) (t : Fin 256) :
    val_main_v0 (F := Ideal) sp (ix3 e b t) = sp (ix2 e ⟨b.val * 256 + t.val, by omega⟩) := by
  pointwise [val_main_v0]
/-- The experts' rows by expert, sequence and slot. -/
theorem v1_apply (ys : Vec Ideal S16x512x1024 .f32) (e b : Fin 16) (c : Fin 32) (d : Fin 1024) :
    val_main_v1 (F := Ideal) ys (ix4 e b c d) = ys (ix3 e ⟨b.val * 32 + c.val, by omega⟩ d) := by
  pointwise [val_main_v1]
/-- A slot, clamped into the range of slots. -/
theorem v11_apply (sp : Vec Ideal S16x4096 .i32) (e b : Fin 16) (t : Fin 256) :
    val_main_v11 (F := Ideal) sp (ix3 e b t) = IntOp.minsi 31#32 (IntOp.maxsi 0#32 (sp (ix2 e ⟨b.val * 256 + t.val, by omega⟩))) := by
  unfold val_main_v11 val_main_call0_v2
  rw [← v0_apply sp e b t]
  generalize val_main_v0 (F := Ideal) sp = z
  pointwise [val_main_call0_v1, val_main_call0_v4, val_main_call0_v0, val_main_call0_v3, val_main_c_1, val_main_c_2]
  rfl
/-- The same slot, clamped again for the second use. -/
theorem v26_apply (sp : Vec Ideal S16x4096 .i32) (e b : Fin 16) (t : Fin 256) :
    val_main_v26 (F := Ideal) sp (ix3 e b t) = IntOp.minsi 31#32 (IntOp.maxsi 0#32 (sp (ix2 e ⟨b.val * 256 + t.val, by omega⟩))) := by
  unfold val_main_v26 val_main_v23 val_main_v25
  have h11 := v11_apply sp e b t
  generalize val_main_v11 (F := Ideal) sp = z at h11 ⊢
  pointwise [val_main_v22, val_main_v24, val_main_c_7, val_main_c_8]
  rw [h11]
  exact slot_nonneg _

/-- The start indices: expert, sequence, slot. -/
theorem v32_apply (sp : Vec Ideal S16x4096 .i32) (e b : Fin 16) (t : Fin 256) :
    val_main_v32 (F := Ideal) sp (ix4 e b t (0 : Fin 3)) = BitVec.ofNat 32 e.val
    ∧ val_main_v32 (F := Ideal) sp (ix4 e b t (1 : Fin 3)) = BitVec.ofNat 32 b.val
    ∧ val_main_v32 (F := Ideal) sp (ix4 e b t (2 : Fin 3)) = IntOp.minsi 31#32 (IntOp.maxsi 0#32 (sp (ix2 e ⟨b.val * 256 + t.val, by omega⟩))) := by
  rw [← v16_apply e, ← v21_apply b, ← v26_apply sp e b t]
  unfold val_main_v32 val_main_v29 val_main_v30 val_main_v31 val_main_v27 val_main_v28
  generalize val_main_v26 (F := Ideal) sp = z
  generalize val_main_v16 (F := Ideal) = z1
  generalize val_main_v21 (F := Ideal) = z2
  refine ⟨?_, ?_, ?_⟩ <;> pointwise

/-- An expert's row for a token, or zero. -/
theorem v35_apply (sp : Vec Ideal S16x4096 .i32) (ys : Vec Ideal S16x512x1024 .f32) (e b : Fin 16) (t : Fin 256) (d : Fin 1024) :
    val_main_v35 (F := Ideal) sp ys (ix4 e b t d)
      = pick (sp (ix2 e ⟨b.val * 256 + t.val, by omega⟩)) fun c => ys (ix3 e ⟨b.val * 32 + c.val, by omega⟩ d) := by
  obtain ⟨h0, h1, h2⟩ := v32_apply sp e b t
  have hv : val_main_v33 (F := Ideal) sp ys (ix4 e b t d) = _ := gather_apply (val_main_v1 (F := Ideal) ys) (val_main_v32 (F := Ideal) sp) e b t d
  rw [v1_apply] at hv
  simp only [h0, h1, h2] at hv
  have hk : ∀ k : Fin 16, (⟨min (BitVec.ofNat 32 k.val).toInt.toNat 15, by omega⟩ : Fin 16) = k := by decide +kernel
  simp only [hk] at hv
  have hk' : ∀ k : Fin 16, min (BitVec.ofNat 32 k.val).toInt.toNat 15 = k := by decide +kernel
  simp only [hk'] at hv
  rw [← pick_select _ _ ⟨_, by omega⟩ rfl, ← hv]
  rw [← v0_apply sp e b t]
  unfold val_main_v35 val_main_call1_v1 val_main_v34 val_main_v6 val_main_v3 val_main_v5
  generalize val_main_v33 (F := Ideal) sp ys = w
  generalize val_main_v0 (F := Ideal) sp = z
  pointwise [val_main_v2, val_main_v4, val_main_c, val_main_c_0, val_main_call1_v2, val_main_call1_v0, val_main_cst]
  exact congrArg _ Ideal.ofBits_zero_f32

/-- The sum over the experts. -/
theorem v36_apply (sp : Vec Ideal S16x4096 .i32) (ys : Vec Ideal S16x512x1024 .f32) (b : Fin 16) (t : Fin 256) (d : Fin 1024) :
    val_main_v36 (F := Ideal) sp ys (ix3 b t d)
      = ∑ e : Fin 16, pick (sp (ix2 e ⟨b.val * 256 + t.val, by omega⟩)) fun c => ys (ix3 e ⟨b.val * 32 + c.val, by omega⟩ d) := by
  simp only [← v35_apply]
  unfold val_main_v36
  generalize val_main_v35 (F := Ideal) sp ys = w
  pointwise [val_main_cst_9, Ideal.ofBits_zero_f32]

/-- The residual. -/
theorem v43_apply (sp : Vec Ideal S16x4096 .i32) (ys : Vec Ideal S16x512x1024 .f32) (x : Vec Ideal S4096x1024 .f32) (g : Vec Ideal S1x6x1024 .f32)
    (b : Fin 16) (t : Fin 256) (d : Fin 1024) :
    val_main_v43 (F := Ideal) sp ys x g (ix3 b t d)
      = x (ix2 ⟨b.val * 256 + t.val, by omega⟩ d) + g (ix3 (0 : Fin 1) (5 : Fin 6) d)
        * ∑ e : Fin 16, pick (sp (ix2 e ⟨b.val * 256 + t.val, by omega⟩)) fun c => ys (ix3 e ⟨b.val * 32 + c.val, by omega⟩ d) := by
  rw [← v36_apply]
  unfold val_main_v43 val_main_v42
  generalize val_main_v36 (F := Ideal) sp ys = w
  pointwise [val_main_v37, val_main_v41, val_main_v40, val_main_v39, val_main_v38]

/-- The reference's result at an index. -/
theorem v57_apply (sp : Vec Ideal S16x4096 .i32) (ys : Vec Ideal S16x512x1024 .f32) (x : Vec Ideal S4096x1024 .f32) (g : Vec Ideal S1x6x1024 .f32)
    (gf : Vec Ideal S1024 .f32) (b : Fin 16) (t : Fin 256) (d : Fin 1024) :
    val_main_v57 (F := Ideal) sp ys x g gf (ix2 ⟨b.val * 256 + t.val, by omega⟩ d)
      = rms (fun d => x (ix2 ⟨b.val * 256 + t.val, by omega⟩ d) + g (ix3 (0 : Fin 1) (5 : Fin 6) d)
          * ∑ e : Fin 16, pick (sp (ix2 e ⟨b.val * 256 + t.val, by omega⟩)) fun c => ys (ix3 e ⟨b.val * 32 + c.val, by omega⟩ d))
        (fun d => gf (ix1 d)) d := by
  have h : ∀ k : Fin 1024, val_main_v43 (F := Ideal) sp ys x g (ix3 b t k) = _ := fun k => v43_apply sp ys x g b t k
  unfold val_main_v57 val_main_v56 val_main_v53 val_main_v52 val_main_v51 val_main_v50 val_main_v48 val_main_v46 val_main_v45 val_main_v44
  generalize val_main_v43 (F := Ideal) sp ys x g = y at h ⊢
  pointwise [rms, val_main_cst_10, val_main_v47, val_main_v49, val_main_v55, val_main_v54, val_main_cst_11, val_main_cst_12, Ideal.ofBits_zero_f32]
  simp only [h]

end Cert.LastRefIdeal.RowValue

end
-- ==== Proof.LastClaims.lean ====
module

public import proofs.«01_k».proof.Defs
public import proofs.«01_k».proof.Proof.LastKernel
public import proofs.«01_k».proof.Proof.LastRef
public import proofs.«01_k».proof.Proof.AttnMath
public import proofs.«01_k».proof.Proof.Gen.Last.Frame
public import proofs.«01_k».proof.Proof.Gen.LastIdeal.Frame
public import proofs.«01_k».proof.Proof.Gen.LastRefIdeal.Run
public import proofs.«01_k».proof.Proof.Gen.Pre_finite_last
public import Idealize.ShloMosaic.Lib.ReduceAll
public import Idealize.ShloMosaic.Adequacy

@[expose] public section

set_option maxRecDepth 16384

noncomputable section

/-! ## The claims about the experts' combine and the final norm -/

namespace Cert.Proof.LastClaims

open Idealize.ShloMosaic Idealize.SL.Sem Cert.LastMath

/-- The kernel runs, its arguments end unchanged and its semaphores at zero. -/
theorem frame_p : Cert.quiescent_Last := fun m ρ _ => Cert.Last.Gen.frame m ρ
/-- So does the kernel over the extended reals. -/
theorem frame_pi : Cert.quiescent_LastIdeal := fun m ρ _ => Cert.LastIdeal.Gen.frame m ρ
/-- The same under the precondition. -/
theorem frame_pi' : Cert.quiescent_LastIdeal_pre_finite_last := fun m ρ _ => Cert.LastIdeal.Gen.frame m ρ
/-- So does the reference. -/
theorem frame_ri : Cert.quiescent_LastRefIdeal := fun m ρ _ =>
  (θ_run Cert.LastRefIdeal.defs _ _).mono (fun r h => ⟨fun c => (h c).2, sem_eq_zero_of_no_sems (by decide) r.2⟩)
    (Cert.LastRefIdeal.Value.run (F := Ideal) m ρ)
/-- The same under the precondition. -/
theorem frame_ri' : Cert.quiescent_LastRefIdeal_pre_finite_last := fun m ρ _ => frame_ri m ρ trivial

/-- The idealization rewrites no operation. -/
theorem preserves : Cert.preserves_Last_LastIdeal := trivial

/-- Under the precondition an expert's row less itself is zero. -/
theorem sub_self_of_pre (sp : IVec Cert.Pre_finite_last.S16x4096 32) (ys : FVec Ideal Cert.Pre_finite_last.S16x512x1024 .f32)
    (x : FVec Ideal Cert.Pre_finite_last.S4096x1024 .f32) (g : FVec Ideal Cert.Pre_finite_last.S1x6x1024 .f32)
    (gf : FVec Ideal Cert.Pre_finite_last.S1024 .f32) (h : Cert.Pre_finite_last.fn (F := Ideal) sp ys x g gf = fun _ => 1#1)
    (e : Fin 16) (r : Fin 512) (d : Fin 1024) : ys (ix3 e r d) - ys (ix3 e r d) = 0 := by
  have h0 := congrFun h (Shape.Idx.first (by decide))
  unfold Cert.Pre_finite_last.fn at h0
  have : Subsingleton Cert.Pre_finite_last.S_.Idx := ⟨fun a b => funext fun x => x.elim0⟩
  have h1 := Host.reduce_andi_all _ _ _ _ _ h0 (ix3 e r d)
  pointwise at h1
  rw [Cert.AttnMath.pos_inf] at h1
  obtain ⟨z, hz⟩ := Cert.AttnMath.real_of_abs_lt _ h1
  rw [hz, ← EReal.coe_sub, sub_self, EReal.coe_zero]

/-- Over finite rows, the kernel's array is the reference's. -/
theorem value_eq (sp : Vec Ideal Cert.LastIdeal.S16x4096 .i32) (ys : Vec Ideal Cert.LastIdeal.S16x512x1024 .f32)
    (x : Vec Ideal Cert.LastIdeal.S4096x1024 .f32) (g : Vec Ideal Cert.LastIdeal.S1x6x1024 .f32) (gf : Vec Ideal Cert.LastIdeal.S1024 .f32)
    (h : ∀ (e : Fin 16) (r : Fin 512) (d : Fin 1024), ys (ix3 e r d) - ys (ix3 e r d) = 0) :
    Cert.LastRefIdeal.Read.val_main_v57 (F := Ideal) sp ys x g gf = Cert.LastIdeal.RowValue.G sp ys x g gf := by
  funext i
  obtain ⟨R, d, rfl⟩ : ∃ (R : Fin 4096) (d : Fin 1024), i = ix2 R d := ⟨i 0, i 1, eq_ix2 i⟩
  obtain ⟨b, t, rfl⟩ : ∃ (b : Fin 16) (t : Fin 256), R = ⟨b.val * 256 + t.val, by omega⟩ :=
    ⟨⟨R.val / 256, by omega⟩, ⟨R.val % 256, by omega⟩, Fin.ext (by show R.val = R.val / 256 * 256 + R.val % 256; omega)⟩
  refine (Cert.LastRefIdeal.RowValue.v57_apply sp ys x g gf b t d).trans ?_
  show _ = Cert.LastIdeal.RowValue.out sp ys x g gf ⟨b.val * 256 + t.val, _⟩ d
  unfold Cert.LastIdeal.RowValue.out
  refine congrFun (congrArg (fun y => rms y fun d => gf (ix1 d)) (funext fun l => ?_)) d
  refine congrArg (fun z => x (ix2 _ l) + g (ix3 (0 : Fin 1) (5 : Fin 6) l) * z) ?_
  have hR : (b.val * 256 + t.val) / 256 = b.val := by omega
  have hs := rows_eq (fun e => sp (ix2 e ⟨b.val * 256 + t.val, by omega⟩))
    (fun k => ys (ix3 ⟨k.val / 32, by omega⟩ ⟨b.val * 32 + k.val % 32, by omega⟩ l)) (fun k => h _ _ _)
  have hk : ∀ (e : Fin 16) (c : Fin 32) (h1 : _) (h2 : _), ys (ix3 (⟨(e.val * 32 + c.val) / 32, h1⟩ : Fin 16) (⟨b.val * 32 + (e.val * 32 + c.val) % 32, h2⟩ : Fin 512) l)
      = ys (ix3 e ⟨b.val * 32 + c.val, by omega⟩ l) := fun e c h1 h2 =>
    have he : (⟨(e.val * 32 + c.val) / 32, h1⟩ : Fin 16) = e := Fin.ext (by show (e.val * 32 + c.val) / 32 = e.val; omega)
    have hc : (⟨b.val * 32 + (e.val * 32 + c.val) % 32, h2⟩ : Fin 512) = ⟨b.val * 32 + c.val, by omega⟩ :=
      Fin.ext (by show b.val * 32 + (e.val * 32 + c.val) % 32 = b.val * 32 + c.val; omega)
    by rw [he, hc]
  simp only [hk] at hs
  rw [← hs]
  simp only [hR]

/-- With finite rows of the experts, the kernel and the reference end with the same array. -/
theorem algebraic : Cert.algebraic_LastIdeal_LastRefIdeal_pre_finite_last := by
  intro m ρ m' ρ' hpre hagree
  refine ⟨fun c => _, Cert.LastIdeal.RowValue.run m ρ, ?_⟩
  refine (θ_run Cert.LastRefIdeal.defs _ _).mono (fun _ h c => ⟨(h c).1.trans ?_, (h c).2⟩)
    (Cert.LastRefIdeal.Value.run (F := Ideal) m' ρ')
  obtain ⟨h0, h1, h2, h3, h4⟩ := hagree c
  rw [Cert.LastRefIdeal.Read.val_main_v57_eq, h0, h1, h2, h3, h4]
  exact value_eq _ _ _ _ _ (sub_self_of_pre _ _ _ _ _ (hpre c))

end Cert.Proof.LastClaims

end
-- ==== Proof.ProjMath.lean ====
module

public import Idealize.ShloMosaic.Lib.Pipeline.ValueKit
public import Idealize.ShloMosaic.Lib.Pointwise

@[expose] public section

set_option maxRecDepth 16384

noncomputable section

/-! ## The modulated norm of a row and its projection -/

namespace Cert.ProjMath

open Idealize.ShloMosaic

/-- A row divided by the root of its mean square, times `g`, scaled by `1 + s` and shifted by `b`. -/
def hrow (x g s b : Fin 1024 → EReal) (k : Fin 1024) : EReal :=
  x k * Ideal.rsqrt (Ideal.div (∑ d, x d * x d) (Ideal.ofBits FTy.f32 1149239296#32) + Ideal.ofBits FTy.f32 897988541#32) * g k
    * (Ideal.ofBits FTy.f32 1065353216#32 + s k) + b k

/-- Row `R` of the layer's input, normed and modulated. -/
def hid (x : (⟨3, ![16, 256, 1024]⟩ : Shape).Idx → EReal) (mod : (⟨3, ![1, 6, 1024]⟩ : Shape).Idx → EReal)
    (g : (⟨2, ![2, 1024]⟩ : Shape).Idx → EReal) (R : Fin 4096) (k : Fin 1024) : EReal :=
  hrow (fun d => x (ix3 (⟨R.val / 256, by omega⟩ : Fin 16) (⟨R.val % 256, by omega⟩ : Fin 256) d)) (fun d => g (ix2 (1 : Fin 2) d))
    (fun d => mod (ix3 (0 : Fin 1) (1 : Fin 6) d)) (fun d => mod (ix3 (0 : Fin 1) (0 : Fin 6) d)) k

/-- The projection of row `R` to column `j`. -/
def proj (x : (⟨3, ![16, 256, 1024]⟩ : Shape).Idx → EReal) (mod : (⟨3, ![1, 6, 1024]⟩ : Shape).Idx → EReal)
    (g : (⟨2, ![2, 1024]⟩ : Shape).Idx → EReal) (w : (⟨3, ![2, 1024, 2832]⟩ : Shape).Idx → EReal) (R : Fin 4096) (j : Fin 2832) : EReal :=
  ∑ k : Fin 1024, hid x mod g R k * w (ix3 (1 : Fin 2) k j)

/-- The bias of gate column `j`. -/
def bias (b : (⟨4, ![2, 2, 2, 4]⟩ : Shape).Idx → EReal) (j : Fin 16) : EReal :=
  b (ix4 (1 : Fin 2) (⟨j.val / 8, by omega⟩ : Fin 2) (⟨j.val / 4 % 2, by omega⟩ : Fin 2) (⟨j.val % 4, by omega⟩ : Fin 4))

end Cert.ProjMath

end
-- ==== Proof.ProjKernel.lean ====
module

public import proofs.«01_k».proof.Proof.ProjMath
public import proofs.«01_k».proof.Proof.Gen.ProjIdeal.Value

@[expose] public section

set_option maxRecDepth 16384

noncomputable section

/-! ## The kernel's projection: what each grid point writes, and the final arrays -/

namespace Cert.ProjIdeal.RowValue

open Cert.ProjIdeal Cert.ProjIdeal.Gen Idealize.ShloMosaic Idealize.ShloMosaic.TcCoe Idealize.SL.Sem Cert.ProjMath

/-- The normed and modulated rows of a block. -/
def hb (x0 : Vec Ideal S512x1024 .f32) (x1 : Vec Ideal S1x6x1024 .f32) (x2 : Vec Ideal S1x1x1024 .f32) : Vec Ideal S512x1024 .bf16 :=
  k0_pay4 x0 x2 (View.ld x1 (Rect.unit ![0, 1, 0] ![1, 1, 1024] inb_S1x6x1024_S1x1x1024_0_1_0))
    (View.ld x1 (Rect.unit ![0, 0, 0] ![1, 1, 1024] inb_S1x6x1024_S1x1x1024_0_0_0))

/-- A row of a block after norm and modulation. -/
theorem hb_apply (x0 : Vec Ideal S512x1024 .f32) (x1 : Vec Ideal S1x6x1024 .f32) (x2 : Vec Ideal S1x1x1024 .f32) (r : Fin 512) (k : Fin 1024) :
    hb x0 x1 x2 (ix2 r k) = hrow (fun d => x0 (ix2 r d)) (fun d => x2 (ix3 (0 : Fin 1) (0 : Fin 1) d))
      (fun d => x1 (ix3 (0 : Fin 1) (1 : Fin 6) d)) (fun d => x1 (ix3 (0 : Fin 1) (0 : Fin 6) d)) k := by
  pointwise [hb, k0_pay4, hrow]

/-- A tile of 256 projected columns, from column `o`. -/
theorem mm (H : Vec Ideal S512x1024 .bf16) (X : Vec Ideal S1x1024x2832 .bf16) (o : Nat)
    (inb : ∀ a, (![0, 0, o] : Fin 3 → Nat) a + (![1, 1024, 256] : Fin 3 → Nat) a ≤ S1x1024x2832.size a)
    (r : Fin 512) (b : Fin 256) (l : Fin 2832) (hl : l.val = o + b.val) :
    k0_pay9 (F := Ideal) H (View.ld X (Rect.unit (s := S1x1024x2832) ![0, 0, o] ![1, 1024, 256] inb)) (ix2 r b)
      = ∑ k : Fin 1024, H (ix2 r k) * X (ix3 (0 : Fin 1) k l) := by
  obtain ⟨l, hlt⟩ := l
  dsimp only at hl
  subst hl
  pointwise [k0_pay9, k0_pay8, Ideal.ofBits_zero_f32]

/-- The gates of a block. -/
theorem mm16 (H : Vec Ideal S512x1024 .bf16) (X : Vec Ideal S1x1024x2832 .bf16) (B : Vec Ideal S1x1x16 .f32) (r : Fin 512) (b : Fin 16) :
    k0_pay1 (F := Ideal) H (k0_pay31 (View.ld X (Rect.unit (s := S1x1024x2832) ![0, 0, 2816] ![1, 1024, 16] inb_S1x1024x2832_S1x1024x16_0_0_2816)))
        (constant S512x16 .f32 0x00000000#32) B (ix2 r b)
      = ∑ k : Fin 1024, H (ix2 r k) * X (ix3 (0 : Fin 1) k ⟨2816 + b.val, by omega⟩) + B (ix3 (0 : Fin 1) (0 : Fin 1) b) := by
  pointwise [k0_pay1, k0_pay31, Ideal.ofBits_zero_f32]

/-- The gates of a block, transposed. -/
theorem mmT16 (H : Vec Ideal S512x1024 .bf16) (X : Vec Ideal S1x16x1024 .bf16) (B : Vec Ideal S1x16x1 .f32) (b : Fin 16) (r : Fin 512) :
    k0_pay2 (F := Ideal) H X B (ix2 b r)
      = ∑ k : Fin 1024, X (ix3 (0 : Fin 1) b k) * H (ix2 r k) + B (ix3 (0 : Fin 1) b (0 : Fin 1)) := by
  pointwise [k0_pay2, Ideal.ofBits_zero_f32]

/-- The last columns of a block, transposed. -/
theorem mmT (H : Vec Ideal S512x1024 .bf16) (X : Vec Ideal S1x512x1024 .bf16) (b : Fin 512) (r : Fin 512) :
    k0_pay3 (F := Ideal) H X (ix2 b r) = ∑ k : Fin 1024, X (ix3 (0 : Fin 1) b k) * H (ix2 r k) := by
  pointwise [k0_pay3, Ideal.ofBits_zero_f32]

/-- The product of the channel transform on a block. -/
theorem mmC (H : Vec Ideal S512x1024 .bf16) (W : Vec Ideal S1x1024x256 .bf16) (C : Vec Ideal S256x512 .bf16) (r : Fin 512) (b : Fin 512) :
    k0_pay28 (F := Ideal) H W C (ix2 r b) = ∑ l : Fin 256, k0_pay9 (F := Ideal) H W (ix2 r l) * C (ix2 l b) := by
  show k0_pay28 (F := Ideal) H W C (ix2 r b) = ∑ l : Fin 256, k0_pay26 (F := Ideal) H W (ix2 r l) * C (ix2 l b)
  unfold k0_pay28
  generalize k0_pay26 (F := Ideal) H W = z
  pointwise [Ideal.ofBits_zero_f32]

variable (m : (ℓ : Loc nD τ sig) → Buf (Elt Ideal) ℓ) (ρ : Dev nD → PrngReg)

/-- The rows of grid point `t`. -/
abbrev hbt (c : Dev nD) (t : Fin cfg0.N) : Vec Ideal S512x1024 .bf16 := hb (iblk m c 0 t) (iblk m c 1 t) (iblk m c 2 t)

/-- The block of projected tokens. -/
theorem o9 (c : Dev nD) (t : Fin cfg0.N) (r : Fin 512) (l : Fin 2304) :
    (outsAt0 m c t).1 (ix2 r l) = ∑ k : Fin 1024, hbt m c t (ix2 r k) * iblk m c 3 t (ix3 (0 : Fin 1) k (⟨l.val, by omega⟩ : Fin 2832)) := by
  unfold outsAt0
  dsimp only
  frame_out
  canon_tiles x h
  · obtain ⟨a, b, rfl⟩ : ∃ (a : Fin 512) (b : Fin 256), x = ix2 a b := ⟨x 0, x 1, eq_ix2 x⟩
    obtain rfl : r = a := Fin.ext h0
    exact mm (hb (iblk m c 0 t) (iblk m c 1 t) (iblk m c 2 t)) (iblk m c 3 t) 2048 _ r b _ h1
  · obtain ⟨a, b, rfl⟩ : ∃ (a : Fin 512) (b : Fin 256), x = ix2 a b := ⟨x 0, x 1, eq_ix2 x⟩
    obtain rfl : r = a := Fin.ext h0
    exact mm (hb (iblk m c 0 t) (iblk m c 1 t) (iblk m c 2 t)) (iblk m c 3 t) 1792 _ r b _ h1
  · obtain ⟨a, b, rfl⟩ : ∃ (a : Fin 512) (b : Fin 256), x = ix2 a b := ⟨x 0, x 1, eq_ix2 x⟩
    obtain rfl : r = a := Fin.ext h0
    exact mm (hb (iblk m c 0 t) (iblk m c 1 t) (iblk m c 2 t)) (iblk m c 3 t) 1536 _ r b _ h1
  · obtain ⟨a, b, rfl⟩ : ∃ (a : Fin 512) (b : Fin 256), x = ix2 a b := ⟨x 0, x 1, eq_ix2 x⟩
    obtain rfl : r = a := Fin.ext h0
    exact mm (hb (iblk m c 0 t) (iblk m c 1 t) (iblk m c 2 t)) (iblk m c 3 t) 1280 _ r b _ h1
  · obtain ⟨a, b, rfl⟩ : ∃ (a : Fin 512) (b : Fin 256), x = ix2 a b := ⟨x 0, x 1, eq_ix2 x⟩
    obtain rfl : r = a := Fin.ext h0
    exact mm (hb (iblk m c 0 t) (iblk m c 1 t) (iblk m c 2 t)) (iblk m c 3 t) 1024 _ r b _ h1
  · obtain ⟨a, b, rfl⟩ : ∃ (a : Fin 512) (b : Fin 256), x = ix2 a b := ⟨x 0, x 1, eq_ix2 x⟩
    obtain rfl : r = a := Fin.ext h0
    exact mm (hb (iblk m c 0 t) (iblk m c 1 t) (iblk m c 2 t)) (iblk m c 3 t) 768 _ r b _ h1
  · obtain ⟨a, b, rfl⟩ : ∃ (a : Fin 512) (b : Fin 256), x = ix2 a b := ⟨x 0, x 1, eq_ix2 x⟩
    obtain rfl : r = a := Fin.ext h0
    exact mm (hb (iblk m c 0 t) (iblk m c 1 t) (iblk m c 2 t)) (iblk m c 3 t) 512 _ r b _ h1
  · obtain ⟨a, b, rfl⟩ : ∃ (a : Fin 512) (b : Fin 256), x = ix2 a b := ⟨x 0, x 1, eq_ix2 x⟩
    obtain rfl : r = a := Fin.ext h0
    exact mm (hb (iblk m c 0 t) (iblk m c 1 t) (iblk m c 2 t)) (iblk m c 3 t) 256 _ r b _ h1
  · obtain ⟨a, b, rfl⟩ : ∃ (a : Fin 512) (b : Fin 256), x = ix2 a b := ⟨x 0, x 1, eq_ix2 x⟩
    obtain rfl : r = a := Fin.ext h0
    exact mm (hb (iblk m c 0 t) (iblk m c 1 t) (iblk m c 2 t)) (iblk m c 3 t) 0 _ r b _ (h1.trans (Nat.zero_add _).symm)

/-- The block of gates. -/
theorem o10 (c : Dev nD) (t : Fin cfg0.N) (r : Fin 512) (l : Fin 16) :
    (outsAt0 m c t).2.1 (ix2 r l) = ∑ k : Fin 1024, hbt m c t (ix2 r k) * iblk m c 3 t (ix3 (0 : Fin 1) k (⟨2816 + l.val, by omega⟩ : Fin 2832))
      + iblk m c 6 t (ix3 (0 : Fin 1) (0 : Fin 1) l) := by
  unfold outsAt0
  dsimp only
  frame_out
  exact mm16 (hbt m c t) _ _ r l

/-- The block of gates, transposed. -/
theorem o11 (c : Dev nD) (t : Fin cfg0.N) (l : Fin 16) (r : Fin 512) :
    (outsAt0 m c t).2.2.1 (ix2 l r) = ∑ k : Fin 1024, hbt m c t (ix2 r k) * iblk m c 4 t (ix3 (0 : Fin 1) l k)
      + iblk m c 7 t (ix3 (0 : Fin 1) l (0 : Fin 1)) := by
  unfold outsAt0
  dsimp only
  frame_out
  refine (mmT16 (hbt m c t) _ _ l r).trans (congrArg (· + _) (Finset.sum_congr rfl fun k _ => mul_comm _ _))

/-- The block of last columns, transposed. -/
theorem o12 (c : Dev nD) (t : Fin cfg0.N) (l : Fin 512) (r : Fin 512) :
    (outsAt0 m c t).2.2.2.1 (ix2 l r) = ∑ k : Fin 1024, hbt m c t (ix2 r k) * iblk m c 5 t (ix3 (0 : Fin 1) l k) := by
  unfold outsAt0
  dsimp only
  frame_out
  exact (mmT (hbt m c t) _ l r).trans (Finset.sum_congr rfl fun k _ => mul_comm _ _)

/-- The block of the channel transform. -/
theorem o13 (c : Dev nD) (t : Fin cfg0.N) (r : Fin 512) (l : Fin 512) :
    (outsAt0 m c t).2.2.2.2.1 (ix2 r l) = ∑ j : Fin 256, (∑ k : Fin 1024, hbt m c t (ix2 r k)
      * iblk m c 3 t (ix3 (0 : Fin 1) k (⟨1536 + j.val, by omega⟩ : Fin 2832))) * iblk m c 8 t (ix2 j l) := by
  unfold outsAt0
  dsimp only
  frame_out
  refine (mmC (hbt m c t) _ _ r l).trans (Finset.sum_congr rfl fun j _ => ?_)
  rw [mm (hbt m c t) (iblk m c 3 t) 1536 _ r j ⟨1536 + j.val, by omega⟩ rfl]

/-- A stored half of a tile: the first 256 rows. -/
theorem kv_0 (H : Vec Ideal S512x1024 .bf16) (W : Vec Ideal S1x1024x256 .bf16) (a b : Fin 256) (a0 a1 : Fin 1) :
    k0_pay10 (F := Ideal) H W (ix4 a0 a1 a b) = k0_pay9 (F := Ideal) H W (ix2 ⟨a.val, by omega⟩ b) := by
  show k0_pay10 (F := Ideal) H W (ix4 a0 a1 a b) = k0_pay8 (F := Ideal) H W (ix2 ⟨a.val, by omega⟩ b)
  unfold k0_pay10
  generalize k0_pay8 (F := Ideal) H W = z
  pointwise
/-- The last 256 rows. -/
theorem kv_1 (H : Vec Ideal S512x1024 .bf16) (W : Vec Ideal S1x1024x256 .bf16) (a b : Fin 256) (a0 a1 : Fin 1) :
    k0_pay11 (F := Ideal) H W (ix4 a0 a1 a b) = k0_pay9 (F := Ideal) H W (ix2 ⟨256 + a.val, by omega⟩ b) := by
  show k0_pay11 (F := Ideal) H W (ix4 a0 a1 a b) = k0_pay8 (F := Ideal) H W (ix2 ⟨256 + a.val, by omega⟩ b)
  unfold k0_pay11
  generalize k0_pay8 (F := Ideal) H W = z
  pointwise

/-- The block of the first cache. -/
theorem o14 (c : Dev nD) (t : Fin cfg0.N) (q : Fin 2) (r : Fin 256) (l : Fin 512) :
    (outsAt0 m c t).2.2.2.2.2.1 (ix4 q (0 : Fin 1) r l) = ∑ k : Fin 1024, hbt m c t (ix2 (⟨q.val * 256 + r.val, by omega⟩ : Fin 512) k)
      * iblk m c 3 t (ix3 (0 : Fin 1) k (⟨512 + l.val, by omega⟩ : Fin 2832)) := by
  unfold outsAt0
  dsimp only
  frame_out
  canon_tiles x h
  · obtain ⟨a0, a1, a, b, rfl⟩ : ∃ (a0 a1 : Fin 1) (a b : Fin 256), x = ix4 a0 a1 a b := ⟨x 0, x 1, x 2, x 3, eq_ix4 x⟩
    refine Eq.trans ?_ (mm (hb (iblk m c 0 t) (iblk m c 1 t) (iblk m c 2 t)) (iblk m c 3 t) 768 inb_S1x1024x2832_S1x1024x256_0_0_768 ⟨q.val * 256 + r.val, by omega⟩ b _ (by change l.val = 256 + b.val at h3; show 512 + l.val = 768 + b.val; omega))
    have ha : (⟨q.val * 256 + r.val, by omega⟩ : Fin 512) = ⟨256 + a.val, by omega⟩ := Fin.ext (by
      change q.val = 1 + a0.val at h0; change r.val = a.val at h2; show q.val * 256 + r.val = 256 + a.val; omega)
    rw [ha]
    exact kv_1 _ _ a b a0 a1
  · obtain ⟨a0, a1, a, b, rfl⟩ : ∃ (a0 a1 : Fin 1) (a b : Fin 256), x = ix4 a0 a1 a b := ⟨x 0, x 1, x 2, x 3, eq_ix4 x⟩
    refine Eq.trans ?_ (mm (hb (iblk m c 0 t) (iblk m c 1 t) (iblk m c 2 t)) (iblk m c 3 t) 768 inb_S1x1024x2832_S1x1024x256_0_0_768 ⟨q.val * 256 + r.val, by omega⟩ b _ (by change l.val = 256 + b.val at h3; show 512 + l.val = 768 + b.val; omega))
    have ha : (⟨q.val * 256 + r.val, by omega⟩ : Fin 512) = ⟨a.val, by omega⟩ := Fin.ext (by
      change q.val = a0.val at h0; change r.val = a.val at h2; show q.val * 256 + r.val = a.val; omega)
    rw [ha]
    exact kv_0 _ _ a b a0 a1
  · obtain ⟨a0, a1, a, b, rfl⟩ : ∃ (a0 a1 : Fin 1) (a b : Fin 256), x = ix4 a0 a1 a b := ⟨x 0, x 1, x 2, x 3, eq_ix4 x⟩
    refine Eq.trans ?_ (mm (hb (iblk m c 0 t) (iblk m c 1 t) (iblk m c 2 t)) (iblk m c 3 t) 512 inb_S1x1024x2832_S1x1024x256_0_0_512 ⟨q.val * 256 + r.val, by omega⟩ b _ (by change l.val = b.val at h3; show 512 + l.val = 512 + b.val; omega))
    have ha : (⟨q.val * 256 + r.val, by omega⟩ : Fin 512) = ⟨256 + a.val, by omega⟩ := Fin.ext (by
      change q.val = 1 + a0.val at h0; change r.val = a.val at h2; show q.val * 256 + r.val = 256 + a.val; omega)
    rw [ha]
    exact kv_1 _ _ a b a0 a1
  · obtain ⟨a0, a1, a, b, rfl⟩ : ∃ (a0 a1 : Fin 1) (a b : Fin 256), x = ix4 a0 a1 a b := ⟨x 0, x 1, x 2, x 3, eq_ix4 x⟩
    refine Eq.trans ?_ (mm (hb (iblk m c 0 t) (iblk m c 1 t) (iblk m c 2 t)) (iblk m c 3 t) 512 inb_S1x1024x2832_S1x1024x256_0_0_512 ⟨q.val * 256 + r.val, by omega⟩ b _ (by change l.val = b.val at h3; show 512 + l.val = 512 + b.val; omega))
    have ha : (⟨q.val * 256 + r.val, by omega⟩ : Fin 512) = ⟨a.val, by omega⟩ := Fin.ext (by
      change q.val = a0.val at h0; change r.val = a.val at h2; show q.val * 256 + r.val = a.val; omega)
    rw [ha]
    exact kv_0 _ _ a b a0 a1

/-- The block of the second cache. -/
theorem o15 (c : Dev nD) (t : Fin cfg0.N) (q : Fin 2) (r : Fin 256) (l : Fin 512) :
    (outsAt0 m c t).2.2.2.2.2.2 (ix4 q (0 : Fin 1) r l) = ∑ k : Fin 1024, hbt m c t (ix2 (⟨q.val * 256 + r.val, by omega⟩ : Fin 512) k)
      * iblk m c 3 t (ix3 (0 : Fin 1) k (⟨1024 + l.val, by omega⟩ : Fin 2832)) := by
  unfold outsAt0
  dsimp only
  frame_out
  canon_tiles x h
  · obtain ⟨a0, a1, a, b, rfl⟩ : ∃ (a0 a1 : Fin 1) (a b : Fin 256), x = ix4 a0 a1 a b := ⟨x 0, x 1, x 2, x 3, eq_ix4 x⟩
    refine Eq.trans ?_ (mm (hb (iblk m c 0 t) (iblk m c 1 t) (iblk m c 2 t)) (iblk m c 3 t) 1280 inb_S1x1024x2832_S1x1024x256_0_0_1280 ⟨q.val * 256 + r.val, by omega⟩ b _ (by change l.val = 256 + b.val at h3; show 1024 + l.val = 1280 + b.val; omega))
    have ha : (⟨q.val * 256 + r.val, by omega⟩ : Fin 512) = ⟨256 + a.val, by omega⟩ := Fin.ext (by
      change q.val = 1 + a0.val at h0; change r.val = a.val at h2; show q.val * 256 + r.val = 256 + a.val; omega)
    rw [ha]
    exact kv_1 _ _ a b a0 a1
  · obtain ⟨a0, a1, a, b, rfl⟩ : ∃ (a0 a1 : Fin 1) (a b : Fin 256), x = ix4 a0 a1 a b := ⟨x 0, x 1, x 2, x 3, eq_ix4 x⟩
    refine Eq.trans ?_ (mm (hb (iblk m c 0 t) (iblk m c 1 t) (iblk m c 2 t)) (iblk m c 3 t) 1280 inb_S1x1024x2832_S1x1024x256_0_0_1280 ⟨q.val * 256 + r.val, by omega⟩ b _ (by change l.val = 256 + b.val at h3; show 1024 + l.val = 1280 + b.val; omega))
    have ha : (⟨q.val * 256 + r.val, by omega⟩ : Fin 512) = ⟨a.val, by omega⟩ := Fin.ext (by
      change q.val = a0.val at h0; change r.val = a.val at h2; show q.val * 256 + r.val = a.val; omega)
    rw [ha]
    exact kv_0 _ _ a b a0 a1
  · obtain ⟨a0, a1, a, b, rfl⟩ : ∃ (a0 a1 : Fin 1) (a b : Fin 256), x = ix4 a0 a1 a b := ⟨x 0, x 1, x 2, x 3, eq_ix4 x⟩
    refine Eq.trans ?_ (mm (hb (iblk m c 0 t) (iblk m c 1 t) (iblk m c 2 t)) (iblk m c 3 t) 1024 inb_S1x1024x2832_S1x1024x256_0_0_1024 ⟨q.val * 256 + r.val, by omega⟩ b _ (by change l.val = b.val at h3; show 1024 + l.val = 1024 + b.val; omega))
    have ha : (⟨q.val * 256 + r.val, by omega⟩ : Fin 512) = ⟨256 + a.val, by omega⟩ := Fin.ext (by
      change q.val = 1 + a0.val at h0; change r.val = a.val at h2; show q.val * 256 + r.val = 256 + a.val; omega)
    rw [ha]
    exact kv_1 _ _ a b a0 a1
  · obtain ⟨a0, a1, a, b, rfl⟩ : ∃ (a0 a1 : Fin 1) (a b : Fin 256), x = ix4 a0 a1 a b := ⟨x 0, x 1, x 2, x 3, eq_ix4 x⟩
    refine Eq.trans ?_ (mm (hb (iblk m c 0 t) (iblk m c 1 t) (iblk m c 2 t)) (iblk m c 3 t) 1024 inb_S1x1024x2832_S1x1024x256_0_0_1024 ⟨q.val * 256 + r.val, by omega⟩ b _ (by change l.val = b.val at h3; show 1024 + l.val = 1024 + b.val; omega))
    have ha : (⟨q.val * 256 + r.val, by omega⟩ : Fin 512) = ⟨a.val, by omega⟩ := Fin.ext (by
      change q.val = a0.val at h0; change r.val = a.val at h2; show q.val * 256 + r.val = a.val; omega)
    rw [ha]
    exact kv_0 _ _ a b a0 a1

end Cert.ProjIdeal.RowValue

end
-- ==== Proof.ProjFinal.lean ====
module

public import proofs.«01_k».proof.Proof.ProjKernel

@[expose] public section

set_option maxRecDepth 16384

noncomputable section

/-! ## The kernel's projection: the blocks it reads, and the final arrays -/

namespace Cert.ProjIdeal.RowValue

open Cert.ProjIdeal Cert.ProjIdeal.Gen Idealize.ShloMosaic Idealize.ShloMosaic.TcCoe Idealize.SL.Sem Cert.ProjMath

variable (m : (ℓ : Loc nD τ sig) → Buf (Elt Ideal) ℓ) (ρ : Dev nD → PrngReg)

/-- Where the block of window 0 lies at a grid point. -/
theorem idx0 : ∀ t : Fin cfg0.N, win0_0.index t = ![t.val, 0] := (by decide +kernel : ∀ t : Fin grid0.N, win0_0.index t = ![t.val, 0])
/-- Where the block of window 1 lies at a grid point. -/
theorem idx1 : ∀ t : Fin cfg0.N, win0_1.index t = ![0, 0, 0] := (by decide +kernel : ∀ t : Fin grid0.N, win0_1.index t = ![0, 0, 0])
/-- Where the block of window 2 lies at a grid point. -/
theorem idx2 : ∀ t : Fin cfg0.N, win0_2.index t = ![1, 0, 0] := (by decide +kernel : ∀ t : Fin grid0.N, win0_2.index t = ![1, 0, 0])
/-- Where the block of window 3 lies at a grid point. -/
theorem idx3 : ∀ t : Fin cfg0.N, win0_3.index t = ![1, 0, 0] := (by decide +kernel : ∀ t : Fin grid0.N, win0_3.index t = ![1, 0, 0])
/-- Where the block of window 4 lies at a grid point. -/
theorem idx4 : ∀ t : Fin cfg0.N, win0_4.index t = ![1, 0, 0] := (by decide +kernel : ∀ t : Fin grid0.N, win0_4.index t = ![1, 0, 0])
/-- Where the block of window 5 lies at a grid point. -/
theorem idx5 : ∀ t : Fin cfg0.N, win0_5.index t = ![1, 0, 0] := (by decide +kernel : ∀ t : Fin grid0.N, win0_5.index t = ![1, 0, 0])
/-- Where the block of window 6 lies at a grid point. -/
theorem idx6 : ∀ t : Fin cfg0.N, win0_6.index t = ![1, 0, 0] := (by decide +kernel : ∀ t : Fin grid0.N, win0_6.index t = ![1, 0, 0])
/-- Where the block of window 7 lies at a grid point. -/
theorem idx7 : ∀ t : Fin cfg0.N, win0_7.index t = ![1, 0, 0] := (by decide +kernel : ∀ t : Fin grid0.N, win0_7.index t = ![1, 0, 0])
/-- Where the block of window 8 lies at a grid point. -/
theorem idx8 : ∀ t : Fin cfg0.N, win0_8.index t = ![0, 0] := (by decide +kernel : ∀ t : Fin grid0.N, win0_8.index t = ![0, 0])
/-- Where the block of window 9 lies at a grid point. -/
theorem idx9 : ∀ t : Fin cfg0.N, win0_9.index t = ![t.val, 0] := (by decide +kernel : ∀ t : Fin grid0.N, win0_9.index t = ![t.val, 0])
/-- Where the block of window 10 lies at a grid point. -/
theorem idx10 : ∀ t : Fin cfg0.N, win0_10.index t = ![t.val, 0] := (by decide +kernel : ∀ t : Fin grid0.N, win0_10.index t = ![t.val, 0])
/-- Where the block of window 11 lies at a grid point. -/
theorem idx11 : ∀ t : Fin cfg0.N, win0_11.index t = ![0, t.val] := (by decide +kernel : ∀ t : Fin grid0.N, win0_11.index t = ![0, t.val])
/-- Where the block of window 12 lies at a grid point. -/
theorem idx12 : ∀ t : Fin cfg0.N, win0_12.index t = ![0, t.val] := (by decide +kernel : ∀ t : Fin grid0.N, win0_12.index t = ![0, t.val])
/-- Where the block of window 13 lies at a grid point. -/
theorem idx13 : ∀ t : Fin cfg0.N, win0_13.index t = ![t.val, 0] := (by decide +kernel : ∀ t : Fin grid0.N, win0_13.index t = ![t.val, 0])
/-- Where the block of window 14 lies at a grid point. -/
theorem idx14 : ∀ t : Fin cfg0.N, win0_14.index t = ![t.val, 1, 0, 0] := (by decide +kernel : ∀ t : Fin grid0.N, win0_14.index t = ![t.val, 1, 0, 0])
/-- Where the block of window 15 lies at a grid point. -/
theorem idx15 : ∀ t : Fin cfg0.N, win0_15.index t = ![t.val, 1, 0, 0] := (by decide +kernel : ∀ t : Fin grid0.N, win0_15.index t = ![t.val, 1, 0, 0])

/-- The input's rows in order. -/
theorem reshape_rows (x : Vec Ideal S16x256x1024 .f32) (hs : S16x256x1024.ShapeCasts S4096x1024) (R : Fin 4096) (d : Fin 1024) :
    shapeCast S4096x1024 x hs (ix2 R d) = x (ix3 (⟨R.val / 256, by omega⟩ : Fin 16) (⟨R.val % 256, by omega⟩ : Fin 256) d) := by
  pointwise

/-- The block of window 0 at a grid point, read from the arguments. -/
theorem blk0 (c : Dev nD) (t : Fin cfg0.N) (r : Fin 512) (d : Fin 1024) (h : t.val * 512 + r.val < 4096) :
    iblk m c 0 t (ix2 r d) = m ((c : Thread nD τ).loc main_arg0) (ix3 (⟨(t.val * 512 + r.val) / 256, by omega⟩ : Fin 16) (⟨(t.val * 512 + r.val) % 256, by omega⟩ : Fin 256) d) := by
  refine Eq.trans (b := V m c main_v12 (ix2 (⟨t.val * 512 + r.val, h⟩ : Fin 4096) d)) ?_ ?_
  · blk_ext [iblk, idx0]
  · show shapeCast S4096x1024 (m ((c : Thread nD τ).loc main_arg0)) _ (ix2 _ d) = _
    exact reshape_rows _ _ ⟨t.val * 512 + r.val, h⟩ d
/-- The block of window 1 at a grid point, read from the arguments. -/
theorem blk1 (c : Dev nD) (t : Fin cfg0.N) (j : Fin 6) (d : Fin 1024) :
    iblk m c 1 t (ix3 (0 : Fin 1) j d) = m ((c : Thread nD τ).loc main_arg1) (ix3 (0 : Fin 1) j d) := by
  blk_ext [iblk, V, idx1]
/-- The block of window 2 at a grid point, read from the arguments. -/
theorem blk2 (c : Dev nD) (t : Fin cfg0.N) (d : Fin 1024) :
    iblk m c 2 t (ix3 (0 : Fin 1) (0 : Fin 1) d) = m ((c : Thread nD τ).loc main_arg2) (ix2 (1 : Fin 2) d) := by
  refine Eq.trans (b := V m c main_v11 (ix3 (1 : Fin 2) (0 : Fin 1) d)) ?_ ?_
  · blk_ext [iblk, idx2]
  · show shapeCast S2x1x1024 (m ((c : Thread nD τ).loc main_arg2)) _ (ix3 _ _ d) = _
    pointwise
/-- The block of window 3 at a grid point, read from the arguments. -/
theorem blk3 (c : Dev nD) (t : Fin cfg0.N) (k : Fin 1024) (j : Fin 2832) :
    iblk m c 3 t (ix3 (0 : Fin 1) k j) = m ((c : Thread nD τ).loc main_arg3) (ix3 (1 : Fin 2) k j) := by
  refine Eq.trans (b := V m c main_v0 (ix3 (1 : Fin 2) k j)) ?_ rfl
  blk_ext [iblk, idx3]
/-- The block of window 4 at a grid point, read from the arguments. -/
theorem blk4 (c : Dev nD) (t : Fin cfg0.N) (l : Fin 16) (k : Fin 1024) :
    iblk m c 4 t (ix3 (0 : Fin 1) l k) = m ((c : Thread nD τ).loc main_arg3) (ix3 (1 : Fin 2) k (⟨2816 + l.val, by omega⟩ : Fin 2832)) := by
  refine Eq.trans (b := V m c main_v3 (ix3 (1 : Fin 2) l k)) ?_ ?_
  · blk_ext [iblk, idx4]
  · show transpose S2x16x1024 [0, 2, 1] (extractStridedSlice S2x1024x16 ![0, 0, 2816] (m ((c : Thread nD τ).loc main_arg3)) slices_S2x1024x2832_S2x1024x16_0_0_2816)
      transposes_S2x1024x16_S2x16x1024_0_2_1 (ix3 _ l k) = _
    pointwise
/-- The block of window 5 at a grid point, read from the arguments. -/
theorem blk5 (c : Dev nD) (t : Fin cfg0.N) (l : Fin 512) (k : Fin 1024) :
    iblk m c 5 t (ix3 (0 : Fin 1) l k) = m ((c : Thread nD τ).loc main_arg3) (ix3 (1 : Fin 2) k (⟨2304 + l.val, by omega⟩ : Fin 2832)) := by
  refine Eq.trans (b := V m c main_v8 (ix3 (1 : Fin 2) l k)) ?_ ?_
  · blk_ext [iblk, idx5]
  · show transpose S2x512x1024 [0, 2, 1] (concatenate S2x1024x512 2
      [⟨S2x1024x256, extractStridedSlice S2x1024x256 ![0, 0, 2304] (m ((c : Thread nD τ).loc main_arg3)) slices_S2x1024x2832_S2x1024x256_0_0_2304⟩,
       ⟨S2x1024x256, extractStridedSlice S2x1024x256 ![0, 0, 2560] (m ((c : Thread nD τ).loc main_arg3)) slices_S2x1024x2832_S2x1024x256_0_0_2560⟩]
      concatenates_S2x1024x256_S2x1024x256_S2x1024x512_d2) transposes_S2x1024x512_S2x512x1024_0_2_1 (ix3 _ l k) = _
    pointwise
    split_ifs
    all_goals first
      | rfl
      | exact congrArg (fun z => (m ((c : Thread nD τ).loc main_arg3)) (ix3 (1 : Fin 2) k z)) (Fin.ext (by show 2560 + (l.val - 256) = 2304 + l.val; omega))
/-- The block of window 6 at a grid point, read from the arguments. -/
theorem blk6 (c : Dev nD) (t : Fin cfg0.N) (j : Fin 16) :
    iblk m c 6 t (ix3 (0 : Fin 1) (0 : Fin 1) j) = bias (m ((c : Thread nD τ).loc main_arg4)) j := by
  refine Eq.trans (b := V m c main_v9 (ix3 (1 : Fin 2) (0 : Fin 1) j)) ?_ ?_
  · blk_ext [iblk, idx6]
  · show shapeCast S2x1x16 (m ((c : Thread nD τ).loc main_arg4)) _ (ix3 _ _ j) = _
    pointwise [bias]
/-- The block of window 7 at a grid point, read from the arguments. -/
theorem blk7 (c : Dev nD) (t : Fin cfg0.N) (j : Fin 16) :
    iblk m c 7 t (ix3 (0 : Fin 1) j (0 : Fin 1)) = bias (m ((c : Thread nD τ).loc main_arg4)) j := by
  refine Eq.trans (b := V m c main_v10 (ix3 (1 : Fin 2) j (0 : Fin 1))) ?_ ?_
  · blk_ext [iblk, idx7]
  · show shapeCast S2x16x1 (m ((c : Thread nD τ).loc main_arg4)) _ (ix3 _ j _) = _
    pointwise [bias]
/-- The block of window 8 at a grid point, read from the arguments. -/
theorem blk8 (c : Dev nD) (t : Fin cfg0.N) (j : Fin 256) (l : Fin 512) :
    iblk m c 8 t (ix2 j l) = m ((c : Thread nD τ).loc main_arg5) (ix2 j l) := by
  blk_ext [iblk, V, idx8]

/-- Row `r` of grid point `t` is row `512 t + r` of the layer's input. -/
theorem hbt_apply (c : Dev nD) (t : Fin cfg0.N) (r : Fin 512) (k : Fin 1024) (h : t.val * 512 + r.val < 4096) :
    hbt m c t (ix2 r k) = hid (m ((c : Thread nD τ).loc main_arg0)) (m ((c : Thread nD τ).loc main_arg1)) (m ((c : Thread nD τ).loc main_arg2)) ⟨t.val * 512 + r.val, h⟩ k := by
  unfold hbt
  rw [hb_apply]
  simp only [blk0 m c t r _ h, blk1, blk2]
  rfl

/-- The projection, from a block. -/
theorem proj_apply (c : Dev nD) (t : Fin cfg0.N) (r : Fin 512) (j : Fin 2832) (h : t.val * 512 + r.val < 4096) :
    ∑ k : Fin 1024, hbt m c t (ix2 r k) * iblk m c 3 t (ix3 (0 : Fin 1) k j)
      = proj (m ((c : Thread nD τ).loc main_arg0)) (m ((c : Thread nD τ).loc main_arg1)) (m ((c : Thread nD τ).loc main_arg2)) (m ((c : Thread nD τ).loc main_arg3)) ⟨t.val * 512 + r.val, h⟩ j := by
  unfold proj
  refine Finset.sum_congr rfl fun k _ => ?_
  rw [hbt_apply m c t r k h, blk3]

/-- The projected columns kept for the attention and the recurrence. -/
def Gp (x : Vec Ideal S16x256x1024 .f32) (mod : Vec Ideal S1x6x1024 .f32) (g : Vec Ideal S2x1024 .f32) (w : Vec Ideal S2x1024x2832 .f32) :
    S4096x2304.Idx → EReal := fun i => proj x mod g w (i 0) ⟨(i 1).val, lt_of_lt_of_le (i 1).isLt (by decide)⟩
/-- The gates. -/
def Gg (x : Vec Ideal S16x256x1024 .f32) (mod : Vec Ideal S1x6x1024 .f32) (g : Vec Ideal S2x1024 .f32) (w : Vec Ideal S2x1024x2832 .f32)
    (b : Vec Ideal S2x2x2x4 .f32) (R : Fin 4096) (j : Fin 16) : EReal := proj x mod g w R ⟨2816 + j.val, by omega⟩ + bias b j
/-- The columns from 2304, transposed. -/
def Gv (x : Vec Ideal S16x256x1024 .f32) (mod : Vec Ideal S1x6x1024 .f32) (g : Vec Ideal S2x1024 .f32) (w : Vec Ideal S2x1024x2832 .f32)
    (j : Fin 512) (R : Fin 4096) : EReal := proj x mod g w R ⟨2304 + j.val, by omega⟩
/-- The columns from 1536 times the table. -/
def Ga (x : Vec Ideal S16x256x1024 .f32) (mod : Vec Ideal S1x6x1024 .f32) (g : Vec Ideal S2x1024 .f32) (w : Vec Ideal S2x1024x2832 .f32)
    (csc : Vec Ideal S256x512 .bf16) (R : Fin 4096) (j : Fin 512) : EReal := ∑ l : Fin 256, proj x mod g w R ⟨1536 + l.val, by omega⟩ * csc (ix2 l j)
/-- A cache: layer 0 as given, layer 1 the columns from `o`. -/
def Gc (x : Vec Ideal S16x256x1024 .f32) (mod : Vec Ideal S1x6x1024 .f32) (g : Vec Ideal S2x1024 .f32) (w : Vec Ideal S2x1024x2832 .f32)
    (nk : Vec Ideal S16x2x256x512 .f32) (o : Nat) (ho : o + 512 ≤ 2832) (b : Fin 16) (l : Fin 2) (t : Fin 256) (j : Fin 512) : EReal :=
  if l.val < 1 then nk (ix4 b (0 : Fin 2) t j) else proj x mod g w ⟨b.val * 256 + t.val, by omega⟩ ⟨o + j.val, by omega⟩

/-- The kernel ends with the projected tokens. -/
theorem final9 (c : Dev nD) : (dats m 0 c).arrAt 9 cfg0.N = Gp (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  blk_simp
  rw [after0_9]
  have ht : t.val < 8 := lt_of_lt_of_eq t.isLt N_0
  obtain ⟨r, l, rfl⟩ : ∃ (r : Fin 512) (l : Fin 2304), y = ix2 r l := ⟨y 0, y 1, eq_ix2 y⟩
  have he : (win0_9.blk t).view.emb (ix2 r l) = ix2 (⟨t.val * 512 + r.val, by omega⟩ : Fin 4096) l := by
    blk_ext [idx9]
  rw [he]
  refine (o9 m c t r l).trans ?_
  exact proj_apply m c t r _ (by omega)

/-- The kernel ends with the gates. -/
theorem final10 (c : Dev nD) : (dats m 0 c).arrAt 10 cfg0.N = fun i => Gg (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 10 _ (by decide +kernel) fun t hf y => ?_
  blk_simp
  rw [after0_10]
  have ht : t.val < 8 := lt_of_lt_of_eq t.isLt N_0
  obtain ⟨r, l, rfl⟩ : ∃ (r : Fin 512) (l : Fin 16), y = ix2 r l := ⟨y 0, y 1, eq_ix2 y⟩
  have he : (win0_10.blk t).view.emb (ix2 r l) = ix2 (⟨t.val * 512 + r.val, by omega⟩ : Fin 4096) l := by
    blk_ext [idx10]
  rw [he]
  refine (o10 m c t r l).trans ?_
  rw [proj_apply m c t r _ (by omega), blk6]
  rfl

/-- The kernel ends with the gates, transposed. -/
theorem final11 (c : Dev nD) : (dats m 0 c).arrAt 11 cfg0.N = fun i => Gg (m ((c : Thread nD τ).loc main_arg0)) (m ((c : Thread nD τ).loc main_arg1)) (m ((c : Thread nD τ).loc main_arg2)) (m ((c : Thread nD τ).loc main_arg3)) (m ((c : Thread nD τ).loc main_arg4)) (i 1) (i 0) := by
  refine (dats m 0 c).arrAt_eq_of_covers 11 _ (by decide +kernel) fun t hf y => ?_
  blk_simp
  rw [after0_11]
  have ht : t.val < 8 := lt_of_lt_of_eq t.isLt N_0
  obtain ⟨l, r, rfl⟩ : ∃ (l : Fin 16) (r : Fin 512), y = ix2 l r := ⟨y 0, y 1, eq_ix2 y⟩
  have he : (win0_11.blk t).view.emb (ix2 l r) = ix2 l (⟨t.val * 512 + r.val, by omega⟩ : Fin 4096) := by
    blk_ext [idx11]
  rw [he]
  refine (o11 m c t l r).trans ?_
  rw [blk7]
  refine congrArg (· + bias (m ((c : Thread nD τ).loc main_arg4)) l) (Finset.sum_congr rfl fun k _ => ?_)
  rw [hbt_apply m c t r k (by omega), blk4]
  rfl

/-- The kernel ends with the last columns, transposed. -/
theorem final12 (c : Dev nD) : (dats m 0 c).arrAt 12 cfg0.N = fun i => Gv (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 12 _ (by decide +kernel) fun t hf y => ?_
  blk_simp
  rw [after0_12]
  have ht : t.val < 8 := lt_of_lt_of_eq t.isLt N_0
  obtain ⟨l, r, rfl⟩ : ∃ (l : Fin 512) (r : Fin 512), y = ix2 l r := ⟨y 0, y 1, eq_ix2 y⟩
  have he : (win0_12.blk t).view.emb (ix2 l r) = ix2 l (⟨t.val * 512 + r.val, by omega⟩ : Fin 4096) := by
    blk_ext [idx12]
  rw [he]
  refine (o12 m c t l r).trans ?_
  show _ = proj _ _ _ _ _ _
  unfold proj
  refine Finset.sum_congr rfl fun k _ => ?_
  rw [hbt_apply m c t r k (by omega), blk5]
  rfl

/-- The kernel ends with the product of the channel transform. -/
theorem final13 (c : Dev nD) : (dats m 0 c).arrAt 13 cfg0.N = fun i => Ga (m ((c : Thread nD τ).loc main_arg0)) (m ((c : Thread nD τ).loc main_arg1)) (m ((c : Thread nD τ).loc main_arg2)) (m ((c : Thread nD τ).loc main_arg3)) (m ((c : Thread nD τ).loc main_arg5)) (i 0) (i 1) := by
  refine (dats m 0 c).arrAt_eq_of_covers 13 _ (by decide +kernel) fun t hf y => ?_
  blk_simp
  rw [after0_13]
  have ht : t.val < 8 := lt_of_lt_of_eq t.isLt N_0
  obtain ⟨r, l, rfl⟩ : ∃ (r : Fin 512) (l : Fin 512), y = ix2 r l := ⟨y 0, y 1, eq_ix2 y⟩
  have he : (win0_13.blk t).view.emb (ix2 r l) = ix2 (⟨t.val * 512 + r.val, by omega⟩ : Fin 4096) l := by
    blk_ext [idx13]
  rw [he]
  refine (o13 m c t r l).trans ?_
  refine Finset.sum_congr rfl fun j _ => ?_
  rw [proj_apply m c t r _ (by omega), blk8]
  rfl

/-- The kernel ends with the first cache. -/
theorem final14 (c : Dev nD) :
    (dats m 0 c).arrAt 14 cfg0.N = fun i => Gc (m ((c : Thread nD τ).loc main_arg0)) (m ((c : Thread nD τ).loc main_arg1)) (m ((c : Thread nD τ).loc main_arg2)) (m ((c : Thread nD τ).loc main_arg3)) (m ((c : Thread nD τ).loc main_arg6)) 512 (by decide) (i 0) (i 1) (i 2) (i 3) := by
  funext i
  obtain ⟨b, l, r, j, rfl⟩ : ∃ (b : Fin 16) (l : Fin 2) (r : Fin 256) (j : Fin 512), i = ix4 b l r j := ⟨i 0, i 1, i 2, i 3, eq_ix4 i⟩
  show _ = Gc (m ((c : Thread nD τ).loc main_arg0)) (m ((c : Thread nD τ).loc main_arg1)) (m ((c : Thread nD τ).loc main_arg2)) (m ((c : Thread nD τ).loc main_arg3)) (m ((c : Thread nD τ).loc main_arg6)) 512 _ b l r j
  unfold Gc
  split_ifs with hl
  · obtain rfl : l = 0 := Fin.ext (by show l.val = 0; omega)
    refine (Value.entry14 m c _ fun t ht hm => ?_).trans rfl
    have h1 := ((win0_14.emb_mem_blk_iff t (ix4 b (0 : Fin 2) r j)).mp hm 1).1
    rw [idx14 t] at h1
    exact absurd (show 1 ≤ 0 from h1) (by decide)
  · obtain rfl : l = 1 := Fin.ext (by show l.val = 1; omega)
    have ht : b.val / 2 < cfg0.N := lt_of_lt_of_eq (by omega) N_0.symm
    have hb := congrFun (Value.blocks14 m c ⟨b.val / 2, ht⟩ (flush0_14 _)) (ix4 (⟨b.val % 2, by omega⟩ : Fin 2) (0 : Fin 1) r j)
    have he : (win0_14.blk ⟨b.val / 2, ht⟩).view.emb (ix4 (⟨b.val % 2, by omega⟩ : Fin 2) (0 : Fin 1) r j) = ix4 b (1 : Fin 2) r j := by
      blk_ext [idx14]
    rw [Value.flushed14] at hb
    rw [← he]
    refine hb.trans ?_
    have hv : b.val / 2 * 512 + (b.val % 2 * 256 + r.val) < 4096 := by omega
    refine (o14 m c ⟨b.val / 2, ht⟩ ⟨b.val % 2, by omega⟩ r j).trans ?_
    refine (proj_apply m c ⟨b.val / 2, ht⟩ ⟨b.val % 2 * 256 + r.val, by omega⟩ _ hv).trans ?_
    exact congrArg (fun z => proj _ _ _ _ z _) (Fin.ext (by show b.val / 2 * 512 + (b.val % 2 * 256 + r.val) = b.val * 256 + r.val; omega))

/-- The kernel ends with the second cache. -/
theorem final15 (c : Dev nD) :
    (dats m 0 c).arrAt 15 cfg0.N = fun i => Gc (m ((c : Thread nD τ).loc main_arg0)) (m ((c : Thread nD τ).loc main_arg1)) (m ((c : Thread nD τ).loc main_arg2)) (m ((c : Thread nD τ).loc main_arg3)) (m ((c : Thread nD τ).loc main_arg7)) 1024 (by decide) (i 0) (i 1) (i 2) (i 3) := by
  funext i
  obtain ⟨b, l, r, j, rfl⟩ : ∃ (b : Fin 16) (l : Fin 2) (r : Fin 256) (j : Fin 512), i = ix4 b l r j := ⟨i 0, i 1, i 2, i 3, eq_ix4 i⟩
  show _ = Gc (m ((c : Thread nD τ).loc main_arg0)) (m ((c : Thread nD τ).loc main_arg1)) (m ((c : Thread nD τ).loc main_arg2)) (m ((c : Thread nD τ).loc main_arg3)) (m ((c : Thread nD τ).loc main_arg7)) 1024 _ b l r j
  unfold Gc
  split_ifs with hl
  · obtain rfl : l = 0 := Fin.ext (by show l.val = 0; omega)
    refine (Value.entry15 m c _ fun t ht hm => ?_).trans rfl
    have h1 := ((win0_15.emb_mem_blk_iff t (ix4 b (0 : Fin 2) r j)).mp hm 1).1
    rw [idx15 t] at h1
    exact absurd (show 1 ≤ 0 from h1) (by decide)
  · obtain rfl : l = 1 := Fin.ext (by show l.val = 1; omega)
    have ht : b.val / 2 < cfg0.N := lt_of_lt_of_eq (by omega) N_0.symm
    have hb := congrFun (Value.blocks15 m c ⟨b.val / 2, ht⟩ (flush0_15 _)) (ix4 (⟨b.val % 2, by omega⟩ : Fin 2) (0 : Fin 1) r j)
    have he : (win0_15.blk ⟨b.val / 2, ht⟩).view.emb (ix4 (⟨b.val % 2, by omega⟩ : Fin 2) (0 : Fin 1) r j) = ix4 b (1 : Fin 2) r j := by
      blk_ext [idx15]
    rw [Value.flushed15] at hb
    rw [← he]
    refine hb.trans ?_
    have hv : b.val / 2 * 512 + (b.val % 2 * 256 + r.val) < 4096 := by omega
    refine (o15 m c ⟨b.val / 2, ht⟩ ⟨b.val % 2, by omega⟩ r j).trans ?_
    refine (proj_apply m c ⟨b.val / 2, ht⟩ ⟨b.val % 2 * 256 + r.val, by omega⟩ _ hv).trans ?_
    exact congrArg (fun z => proj _ _ _ _ z _) (Fin.ext (by show b.val / 2 * 512 + (b.val % 2 * 256 + r.val) = b.val * 256 + r.val; omega))

end Cert.ProjIdeal.RowValue

end
-- ==== Proof.ProjRef.lean ====
module

public import proofs.«01_k».proof.Proof.ProjMath
public import proofs.«01_k».proof.Proof.Gen.ProjRefIdeal.Read

@[expose] public section

set_option maxRecDepth 16384

noncomputable section

/-! ## The reference's projection, read at an index -/

namespace Cert.ProjRefIdeal.RefValue

open Cert.ProjRefIdeal Cert.ProjRefIdeal.Gen Cert.ProjRefIdeal.Read Idealize.ShloMosaic Idealize.ShloMosaic.TcCoe Cert.ProjMath

variable (x : Vec Ideal S16x256x1024 .f32) (mod : Vec Ideal S1x6x1024 .f32) (g : Vec Ideal S2x1024 .f32) (w : Vec Ideal S2x1024x2832 .f32)
  (bg : Vec Ideal S2x2x2x4 .f32) (csc : Vec Ideal S256x512 .bf16) (nk : Vec Ideal S16x2x256x512 .f32)

/-- The normed and modulated row. -/
theorem v26_apply (b : Fin 16) (t : Fin 256) (k : Fin 1024) :
    val_main_v26 (F := Ideal) x mod g (ix3 b t k)
      = hrow (fun d => x (ix3 b t d)) (fun d => g (ix2 (1 : Fin 2) d)) (fun d => mod (ix3 (0 : Fin 1) (1 : Fin 6) d))
        (fun d => mod (ix3 (0 : Fin 1) (0 : Fin 6) d)) k := by
  have h7 : val_main_v7 (F := Ideal) x (ix3 b t (0 : Fin 1))
      = Ideal.rsqrt (Ideal.div (∑ d : Fin 1024, x (ix3 b t d) * x (ix3 b t d)) (Ideal.ofBits FTy.f32 1149239296#32) + Ideal.ofBits FTy.f32 897988541#32) := by
    pointwise [val_main_v7, val_main_v6, val_main_v4, val_main_v2, val_main_v1, val_main_v0, val_main_v3, val_main_v5, val_main_cst, val_main_cst_0,
      val_main_cst_1, Ideal.ofBits_zero_f32]
  unfold val_main_v26 val_main_v21 val_main_v14 val_main_v9 val_main_v8
  generalize val_main_v7 (F := Ideal) x = z at h7 ⊢
  pointwise [hrow, val_main_v25, val_main_v24, val_main_v23, val_main_v22, val_main_v20, val_main_v19, val_main_v18, val_main_v17, val_main_v16,
    val_main_v15, val_main_cst_2, val_main_v13, val_main_v12, val_main_v11, val_main_v10]
  rw [h7]

/-- The projection. -/
theorem v30_apply (R : Fin 4096) (j : Fin 2832) : val_main_v30 (F := Ideal) x mod g w (ix2 R j) = proj x mod g w R j := by
  unfold proj hid
  simp only [← v26_apply]
  unfold val_main_v30 val_main_v29
  generalize val_main_v26 (F := Ideal) x mod g = z
  pointwise [val_main_v28, val_main_v27]

/-- The reference's projected tokens. -/
theorem v46_apply (R : Fin 4096) (j : Fin 2304) : val_main_v46 (F := Ideal) x mod g w (ix2 R j) = proj x mod g w R ⟨j.val, by omega⟩ := by
  rw [← v30_apply]
  unfold val_main_v46 val_main_v45
  generalize val_main_v30 (F := Ideal) x mod g w = z
  pointwise

/-- The reference's gates. -/
theorem v37_apply (R : Fin 4096) (j : Fin 16) : val_main_v37 (F := Ideal) x mod g w bg (ix2 R j) = proj x mod g w R ⟨2816 + j.val, by omega⟩ + bias bg j := by
  rw [← v30_apply]
  unfold val_main_v37 val_main_v31
  generalize val_main_v30 (F := Ideal) x mod g w = z
  pointwise [val_main_v36, val_main_v35, val_main_v34, val_main_v33, val_main_v32, bias]

/-- The reference's gates, transposed. -/
theorem v47_apply (j : Fin 16) (R : Fin 4096) : val_main_v47 (F := Ideal) x mod g w bg (ix2 j R) = proj x mod g w R ⟨2816 + j.val, by omega⟩ + bias bg j := by
  rw [← v37_apply]
  unfold val_main_v47
  generalize val_main_v37 (F := Ideal) x mod g w bg = z
  pointwise

/-- The reference's last columns, transposed. -/
theorem v49_apply (j : Fin 512) (R : Fin 4096) : val_main_v49 (F := Ideal) x mod g w (ix2 j R) = proj x mod g w R ⟨2304 + j.val, by omega⟩ := by
  rw [← v30_apply]
  unfold val_main_v49 val_main_v48
  generalize val_main_v30 (F := Ideal) x mod g w = z
  pointwise

/-- The reference's channel transform. -/
theorem v50_apply (R : Fin 4096) (j : Fin 512) : val_main_v50 (F := Ideal) x mod g w csc (ix2 R j)
    = ∑ l : Fin 256, proj x mod g w R ⟨1536 + l.val, by omega⟩ * csc (ix2 l j) := by
  simp only [← v30_apply]
  unfold val_main_v50 val_main_v40 val_main_v38
  generalize val_main_v30 (F := Ideal) x mod g w = z
  pointwise [val_main_v39]

/-- The cache: layer 0 as given, layer 1 the projected columns from `512`. -/
theorem v55_apply (b : Fin 16) (l : Fin 2) (t : Fin 256) (j : Fin 512) : val_main_v55 (F := Ideal) x mod g w nk (ix4 b l t j)
    = if l.val < 1 then nk (ix4 b (0 : Fin 2) t j) else proj x mod g w ⟨b.val * 256 + t.val, by omega⟩ ⟨512 + j.val, by omega⟩ := by
  rw [← v30_apply]
  unfold val_main_v55 val_main_v54 val_main_v42 val_main_v41
  generalize val_main_v30 (F := Ideal) x mod g w = z
  pointwise [val_main_v53, val_main_v52, val_main_v51]
  split_ifs <;> rfl

/-- The reference's second cache. -/
theorem v60_apply (b : Fin 16) (l : Fin 2) (t : Fin 256) (j : Fin 512) : val_main_v60 (F := Ideal) x mod g w nk (ix4 b l t j)
    = if l.val < 1 then nk (ix4 b (0 : Fin 2) t j) else proj x mod g w ⟨b.val * 256 + t.val, by omega⟩ ⟨1024 + j.val, by omega⟩ := by
  rw [← v30_apply]
  unfold val_main_v60 val_main_v59 val_main_v44 val_main_v43
  generalize val_main_v30 (F := Ideal) x mod g w = z
  pointwise [val_main_v58, val_main_v57, val_main_v56]
  split_ifs <;> rfl

end Cert.ProjRefIdeal.RefValue

end
-- ==== Proof.ProjClaims.lean ====
module

public import proofs.«01_k».proof.Defs
public import proofs.«01_k».proof.Proof.ProjFinal
public import proofs.«01_k».proof.Proof.ProjRef
public import proofs.«01_k».proof.Proof.Gen.Proj.Frame
public import Idealize.ShloMosaic.Adequacy

@[expose] public section

noncomputable section

/-! ## The claims about the projection -/

namespace Cert.Proof.ProjClaims

open Idealize.ShloMosaic Idealize.SL.Sem

/-- The projection runs, its arguments end unchanged and its semaphores at zero. -/
theorem frame_p : Cert.quiescent_Proj := fun m ρ _ => Cert.Proj.Gen.frame m ρ
/-- So does the projection over the extended reals. -/
theorem frame_pi : Cert.quiescent_ProjIdeal := fun m ρ _ => Cert.ProjIdeal.Gen.frame m ρ
/-- So does the reference. -/
theorem frame_ri : Cert.quiescent_ProjRefIdeal := fun m ρ _ =>
  (θ_run Cert.ProjRefIdeal.defs _ _).mono (fun r h => ⟨fun c => (h c).2.2.2.2.2.2.2, sem_eq_zero_of_no_sems (by decide) r.2⟩)
    (Cert.ProjRefIdeal.Value.run (F := Ideal) m ρ)

/-- The idealization rewrites no operation. -/
theorem preserves : Cert.preserves_Proj_ProjIdeal := trivial

set_option maxHeartbeats 2000000 in
/-- The kernel and the reference end with the same seven arrays. -/
theorem algebraic : Cert.algebraic_ProjIdeal_ProjRefIdeal := by
  intro m ρ m' ρ' _ hagree
  refine ⟨fun c => (Cert.ProjIdeal.Gen.dats m 0 c).arrAt 9 Cert.ProjIdeal.cfg0.N,
    fun c => (Cert.ProjIdeal.Gen.dats m 0 c).arrAt 10 Cert.ProjIdeal.cfg0.N,
    fun c => (Cert.ProjIdeal.Gen.dats m 0 c).arrAt 11 Cert.ProjIdeal.cfg0.N,
    fun c => (Cert.ProjIdeal.Gen.dats m 0 c).arrAt 12 Cert.ProjIdeal.cfg0.N,
    fun c => (Cert.ProjIdeal.Gen.dats m 0 c).arrAt 13 Cert.ProjIdeal.cfg0.N,
    fun c => (Cert.ProjIdeal.Gen.dats m 0 c).arrAt 14 Cert.ProjIdeal.cfg0.N,
    fun c => (Cert.ProjIdeal.Gen.dats m 0 c).arrAt 15 Cert.ProjIdeal.cfg0.N,
    Cert.ProjIdeal.Value.run_blocks m ρ, ?_⟩
  refine (θ_run Cert.ProjRefIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩)
    (Cert.ProjRefIdeal.Value.run (F := Ideal) m' ρ')
  · obtain ⟨h0, h1, h2, h3, h4, h5, h6, h7⟩ := hagree c
    rw [Cert.ProjRefIdeal.Read.val_main_v46_eq, h0, h1, h2, h3]
    refine Eq.trans ?_ (Cert.ProjIdeal.RowValue.final9 m c).symm
    funext i
    obtain ⟨a, b, rfl⟩ : ∃ (a : Fin 4096) (b : Fin 2304), i = ix2 a b := ⟨i 0, i 1, eq_ix2 i⟩
    exact Cert.ProjRefIdeal.RefValue.v46_apply _ _ _ _ a b
  · obtain ⟨h0, h1, h2, h3, h4, h5, h6, h7⟩ := hagree c
    rw [Cert.ProjRefIdeal.Read.val_main_v37_eq, h0, h1, h2, h3, h4]
    refine Eq.trans ?_ (Cert.ProjIdeal.RowValue.final10 m c).symm
    funext i
    obtain ⟨a, b, rfl⟩ : ∃ (a : Fin 4096) (b : Fin 16), i = ix2 a b := ⟨i 0, i 1, eq_ix2 i⟩
    exact Cert.ProjRefIdeal.RefValue.v37_apply _ _ _ _ _ a b
  · obtain ⟨h0, h1, h2, h3, h4, h5, h6, h7⟩ := hagree c
    rw [Cert.ProjRefIdeal.Read.val_main_v47_eq, h0, h1, h2, h3, h4]
    refine Eq.trans ?_ (Cert.ProjIdeal.RowValue.final11 m c).symm
    funext i
    obtain ⟨a, b, rfl⟩ : ∃ (a : Fin 16) (b : Fin 4096), i = ix2 a b := ⟨i 0, i 1, eq_ix2 i⟩
    exact Cert.ProjRefIdeal.RefValue.v47_apply _ _ _ _ _ a b
  · obtain ⟨h0, h1, h2, h3, h4, h5, h6, h7⟩ := hagree c
    rw [Cert.ProjRefIdeal.Read.val_main_v49_eq, h0, h1, h2, h3]
    refine Eq.trans ?_ (Cert.ProjIdeal.RowValue.final12 m c).symm
    funext i
    obtain ⟨a, b, rfl⟩ : ∃ (a : Fin 512) (b : Fin 4096), i = ix2 a b := ⟨i 0, i 1, eq_ix2 i⟩
    exact Cert.ProjRefIdeal.RefValue.v49_apply _ _ _ _ a b
  · obtain ⟨h0, h1, h2, h3, h4, h5, h6, h7⟩ := hagree c
    rw [Cert.ProjRefIdeal.Read.val_main_v50_eq, h0, h1, h2, h3, h5]
    refine Eq.trans ?_ (Cert.ProjIdeal.RowValue.final13 m c).symm
    funext i
    obtain ⟨a, b, rfl⟩ : ∃ (a : Fin 4096) (b : Fin 512), i = ix2 a b := ⟨i 0, i 1, eq_ix2 i⟩
    exact Cert.ProjRefIdeal.RefValue.v50_apply _ _ _ _ _ a b
  · obtain ⟨h0, h1, h2, h3, h4, h5, h6, h7⟩ := hagree c
    rw [Cert.ProjRefIdeal.Read.val_main_v55_eq, h0, h1, h2, h3, h6]
    refine Eq.trans ?_ (Cert.ProjIdeal.RowValue.final14 m c).symm
    funext i
    obtain ⟨a, b, d, e, rfl⟩ : ∃ (a : Fin 16) (b : Fin 2) (d : Fin 256) (e : Fin 512), i = ix4 a b d e := ⟨i 0, i 1, i 2, i 3, eq_ix4 i⟩
    exact Cert.ProjRefIdeal.RefValue.v55_apply _ _ _ _ _ a b d e
  · obtain ⟨h0, h1, h2, h3, h4, h5, h6, h7⟩ := hagree c
    rw [Cert.ProjRefIdeal.Read.val_main_v60_eq, h0, h1, h2, h3, h7]
    refine Eq.trans ?_ (Cert.ProjIdeal.RowValue.final15 m c).symm
    funext i
    obtain ⟨a, b, d, e, rfl⟩ : ∃ (a : Fin 16) (b : Fin 2) (d : Fin 256) (e : Fin 512), i = ix4 a b d e := ⟨i 0, i 1, i 2, i 3, eq_ix4 i⟩
    exact Cert.ProjRefIdeal.RefValue.v60_apply _ _ _ _ _ a b d e

end Cert.Proof.ProjClaims

end
-- ==== Proof.MlstmMath.lean ====
module

public import Idealize.ShloMosaic.Lib.Pipeline.ValueKit
public import Idealize.ShloMosaic.Lib.Pointwise

@[expose] public section

noncomputable section

namespace Cert.MlstmMath

open Idealize.ShloMosaic

/-- The value that stands where a token does not see another. -/
def neg : EReal := Ideal.ofBits FTy.f32 4048155338#32

/-- The largest of a chunk's 128 values. -/
def top (f : Fin 128 → EReal) : EReal := Finset.univ.fold max (Ideal.ofBits FTy.f32 4286578688#32) f

/-- The absolute value. -/
def absE (x : EReal) : EReal := max x (-x)

variable (keep : Fin 128 → Fin 128 → Bool) (b ig : Fin 128 → EReal) (bl : EReal)
  (q k v : Fin 128 → Fin 64 → EReal) (C : Fin 64 → Fin 64 → EReal) (n : Fin 64 → EReal) (m : EReal)

/-- The sum of the forget gates that token `r` has behind it. -/
def cum (lf : Fin 128 → EReal) (r : Fin 128) : EReal := ∑ s, if keep r s then lf s else 0

/-- The weight's exponent between tokens `r` and `s`. -/
def gap (r s : Fin 128) : EReal := if keep r s then b r - b s + ig s else neg

/-- The stabilizer of token `r`. -/
def stab (r : Fin 128) : EReal := max (b r + m) (top (gap keep b ig r))

/-- The weight between tokens `r` and `s` of the chunk. -/
def wt (r s : Fin 128) : EReal := (∑ x, q r x * k s x) * Ideal.exp (gap keep b ig r s - stab keep b ig m r)

/-- The weight of the state that the chunk begins with. -/
def old (r : Fin 128) : EReal := Ideal.exp (b r + m - stab keep b ig m r)

/-- What token `r` reads in channel `e`. -/
def out (r : Fin 128) (e : Fin 64) : EReal :=
  Ideal.div ((∑ s, wt keep b ig q k m r s * v s e) + old keep b ig m r * ∑ x, q r x * C e x)
    (max (absE ((∑ s, wt keep b ig q k m r s) + old keep b ig m r * ∑ x, q r x * n x))
      (Ideal.exp (0 - stab keep b ig m r)))

/-- The stabilizer after the chunk. -/
def mNew : EReal := max (bl + m) (top fun s => bl - b s + ig s)

/-- How much of the state before the chunk remains. -/
def keepOld : EReal := Ideal.exp (bl + m - mNew b ig bl m)

/-- How much token `s` adds. -/
def add (s : Fin 128) : EReal := Ideal.exp (bl - b s + ig s - mNew b ig bl m)

/-- The matrix state after the chunk. -/
def cNew (e x : Fin 64) : EReal := keepOld b ig bl m * C e x + ∑ s, v s e * add b ig bl m s * k s x

/-- The normalizer after the chunk. -/
def nNew (x : Fin 64) : EReal := keepOld b ig bl m * n x + ∑ s, k s x * add b ig bl m s

/-- A chunk read from its other end. -/
theorem sum_rev (f : Fin 128 → EReal) : (∑ s, f (Fin.rev s)) = ∑ s, f s := Equiv.sum_comp Fin.revPerm f

/-- A maximum over the tokens in reverse order. -/
theorem top_rev (f : Fin 128 → EReal) : top (fun s => f (Fin.rev s)) = top f := by
  have e : (Finset.univ : Finset (Fin 128)).map Fin.revPerm.toEmbedding = Finset.univ := Finset.map_univ_equiv _
  unfold top
  conv_rhs => rw [← e, Finset.fold_map]
  rfl

/-- A running sum over the tokens in reverse order. -/
theorem cum_rev (lf : Fin 128 → EReal) (r : Fin 128) :
    cum (fun r s => keep (Fin.rev r) (Fin.rev s)) (fun s => lf (Fin.rev s)) r = cum keep lf (Fin.rev r) :=
  sum_rev fun s => if keep (Fin.rev r) s then lf s else 0

/-- A token's stabilizer, the tokens in reverse order. -/
theorem stab_rev (r : Fin 128) :
    stab (fun r s => keep (Fin.rev r) (Fin.rev s)) (fun s => b (Fin.rev s)) (fun s => ig (Fin.rev s)) m r
      = stab keep b ig m (Fin.rev r) :=
  congrArg (max (b (Fin.rev r) + m)) (top_rev (gap keep b ig (Fin.rev r)))

/-- The new stabilizer, the tokens in reverse order. -/
theorem mNew_rev : mNew (fun s => b (Fin.rev s)) (fun s => ig (Fin.rev s)) bl m = mNew b ig bl m :=
  congrArg (max (bl + m)) (top_rev fun s => bl - b s + ig s)

/-- What a token reads, the tokens in reverse order. -/
theorem out_rev (r : Fin 128) (e : Fin 64) :
    out (fun r s => keep (Fin.rev r) (Fin.rev s)) (fun s => b (Fin.rev s)) (fun s => ig (Fin.rev s))
        (fun s => q (Fin.rev s)) (fun s => k (Fin.rev s)) (fun s => v (Fin.rev s)) C n m r e
      = out keep b ig q k v C n m (Fin.rev r) e := by
  have hw : ∀ s, wt (fun r s => keep (Fin.rev r) (Fin.rev s)) (fun s => b (Fin.rev s)) (fun s => ig (Fin.rev s))
      (fun s => q (Fin.rev s)) (fun s => k (Fin.rev s)) m r s = wt keep b ig q k m (Fin.rev r) (Fin.rev s) := fun s => by
    unfold wt; rw [stab_rev]; rfl
  have ho : old (fun r s => keep (Fin.rev r) (Fin.rev s)) (fun s => b (Fin.rev s)) (fun s => ig (Fin.rev s)) m r
      = old keep b ig m (Fin.rev r) := by unfold old; rw [stab_rev]
  unfold out
  simp only [hw, ho, stab_rev]
  rw [sum_rev fun s => wt keep b ig q k m (Fin.rev r) s * v s e, sum_rev fun s => wt keep b ig q k m (Fin.rev r) s]

/-- The new matrix state, the tokens in reverse order. -/
theorem cNew_rev (e x : Fin 64) :
    cNew (fun s => b (Fin.rev s)) (fun s => ig (Fin.rev s)) bl (fun s => k (Fin.rev s)) (fun s => v (Fin.rev s)) C m e x
      = cNew b ig bl k v C m e x := by
  unfold cNew keepOld add
  rw [mNew_rev, sum_rev fun s => v s e * Ideal.exp (bl - b s + ig s - mNew b ig bl m) * k s x]

/-- The new normalizer, the tokens in reverse order. -/
theorem nNew_rev (x : Fin 64) :
    nNew (fun s => b (Fin.rev s)) (fun s => ig (Fin.rev s)) bl (fun s => k (Fin.rev s)) n m x = nNew b ig bl k n m x := by
  unfold nNew keepOld add
  rw [mNew_rev, sum_rev fun s => k s x * Ideal.exp (bl - b s + ig s - mNew b ig bl m)]

/-- The scale of the keys. -/
def eighth : EReal := Ideal.ofBits FTy.f32 1040187392#32

/-- The logarithm of the logistic function. -/
def lsg (x : EReal) : EReal := min x 0 - Ideal.log1p (Ideal.exp (0 - absE x))

/-- Head `h` of direction `d` among the eight, and its gate columns. -/
def hd (d : Fin 2) (h : Fin 4) : Fin 8 := ⟨4 * d.val + h.val, by omega⟩

/-- The column of a head's input gate. -/
def igc (d : Fin 2) (h : Fin 4) : Fin 16 := ⟨8 * d.val + h.val, by omega⟩

/-- The column of a head's forget gate. -/
def fgc (d : Fin 2) (h : Fin 4) : Fin 16 := ⟨8 * d.val + 4 + h.val, by omega⟩

/-- Column `e` of head `h`. -/
def col (h : Fin 4) (e : Fin 64) : Fin 256 := ⟨64 * h.val + e.val, by omega⟩

/-- Token `s` of chunk `c` of sequence `b`. -/
def tok (b : Fin 16) (c : Fin 2) (s : Fin 128) : Fin 4096 := ⟨256 * b.val + 128 * c.val + s.val, by omega⟩

/-- The tokens that a direction has behind it. -/
def keepD (d : Fin 2) (r s : Fin 128) : Bool := if d = 0 then decide (s.val ≤ r.val) else decide (r.val ≤ s.val)

/-- The chunk that a direction takes at step `i`. -/
def blkOf (d i : Fin 2) : Fin 2 := if d = 0 then i else Fin.rev i

section
variable (P : Fin 4096 → Fin 2816 → EReal) (G : Fin 4096 → Fin 16 → EReal) (d : Fin 2) (b : Fin 16) (c : Fin 2) (h : Fin 4)

/-- The queries of a head in a chunk. -/
def qs (s : Fin 128) (x : Fin 64) : EReal := P (tok b c s) ⟨1792 + (col h x).val, by have := (col h x).isLt; omega⟩

/-- The keys of a head in a chunk, scaled. -/
def ks (s : Fin 128) (x : Fin 64) : EReal := P (tok b c s) ⟨2048 + (col h x).val, by have := (col h x).isLt; omega⟩ * eighth

/-- The values of a head in a chunk. -/
def vs (s : Fin 128) (x : Fin 64) : EReal := P (tok b c s) ⟨2304 + (col h x).val, by have := (col h x).isLt; omega⟩

/-- The input gates of a head in a chunk. -/
def igs (s : Fin 128) : EReal := G (tok b c s) (igc d h)

/-- The logarithms of the forget gates of a head in a chunk. -/
def lfs (s : Fin 128) : EReal := lsg (G (tok b c s) (fgc d h))

/-- Their running sum in the direction's order. -/
def bs (r : Fin 128) : EReal := cum (keepD d) (lfs G d b c h) r

/-- Their sum over the chunk. -/
def bls : EReal := ∑ s, lfs G d b c h s

/-- One step of a head: its tokens, and the state after it. -/
def oStep (C : Fin 64 → Fin 64 → EReal) (n : Fin 64 → EReal) (m : EReal) : Fin 128 → Fin 64 → EReal :=
  out (keepD d) (bs G d b c h) (igs G d b c h) (qs P b c h) (ks P b c h) (vs P b c h) C n m

/-- The matrix state after one step. -/
def cStep (C : Fin 64 → Fin 64 → EReal) (m : EReal) : Fin 64 → Fin 64 → EReal :=
  cNew (bs G d b c h) (igs G d b c h) (bls G d b c h) (ks P b c h) (vs P b c h) C m

/-- The normalizer after one step. -/
def nStep (n : Fin 64 → EReal) (m : EReal) : Fin 64 → EReal :=
  nNew (bs G d b c h) (igs G d b c h) (bls G d b c h) (ks P b c h) n m

/-- The stabilizer after one step. -/
def mStep (m : EReal) : EReal := mNew (bs G d b c h) (igs G d b c h) (bls G d b c h) m

/-- The state after the first step, and after the second. -/
def c1 : Fin 64 → Fin 64 → EReal := cStep P G d b (blkOf d 0) h (fun _ _ => 0) 0

/-- The normalizer after the first step. -/
def n1 : Fin 64 → EReal := nStep P G d b (blkOf d 0) h (fun _ => 0) 0

/-- The stabilizer after the first step. -/
def m1 : EReal := mStep G d b (blkOf d 0) h 0

/-- The matrix state after the second step. -/
def c2 : Fin 64 → Fin 64 → EReal := cStep P G d b (blkOf d 1) h (c1 P G d b h) (m1 G d b h)

/-- The normalizer after the second step. -/
def n2 : Fin 64 → EReal := nStep P G d b (blkOf d 1) h (n1 P G d b h) (m1 G d b h)

/-- The stabilizer after the second step. -/
def m2 : EReal := mStep G d b (blkOf d 1) h (m1 G d b h)

/-- What a direction writes at step `i`. -/
def oAt (i : Fin 2) : Fin 128 → Fin 64 → EReal :=
  if i = 0 then oStep P G d b (blkOf d 0) h (fun _ _ => 0) (fun _ => 0) 0
  else oStep P G d b (blkOf d 1) h (c1 P G d b h) (n1 P G d b h) (m1 G d b h)

/-- The rows of one direction, and the states of the eight heads. -/
def outRow (r : Fin 4096) (y : Fin 256) : EReal :=
  oAt P G d ⟨r.val / 256, by omega⟩ ⟨y.val / 64, by omega⟩ (blkOf d ⟨r.val % 256 / 128, by omega⟩) ⟨r.val % 128, by omega⟩ ⟨y.val % 64, by omega⟩

/-- The normalizer by the index that runs over directions and heads. -/
def nRow (j : Fin 8) (x : Fin 64) : EReal := n2 P G ⟨j.val / 4, by omega⟩ b ⟨j.val % 4, by omega⟩ x

/-- The stabilizer by the index that runs over directions and heads. -/
def mRow (j : Fin 8) : EReal := m2 G ⟨j.val / 4, by omega⟩ b ⟨j.val % 4, by omega⟩

/-- The chunk a direction visits at the step at which it visits a given chunk. -/
theorem blkOf_blkOf (i : Fin 2) : blkOf d (blkOf d i) = i := by
  revert d i
  decide

/-- A direction's row at a token and head. -/
theorem outRow_tok (s : Fin 128) (e : Fin 64) : outRow P G d (tok b c s) (col h e) = oAt P G d b h (blkOf d c) s e := by
  unfold outRow
  have h1 : (⟨(tok b c s).val / 256, by omega⟩ : Fin 16) = b := Fin.ext (by show (256 * b.val + 128 * c.val + s.val) / 256 = b.val; omega)
  have h2 : (⟨(tok b c s).val % 256 / 128, by omega⟩ : Fin 2) = c := Fin.ext (by show (256 * b.val + 128 * c.val + s.val) % 256 / 128 = c.val; omega)
  have h3 : (⟨(tok b c s).val % 128, by omega⟩ : Fin 128) = s := Fin.ext (by show (256 * b.val + 128 * c.val + s.val) % 128 = s.val; omega)
  have h4 : (⟨(col h e).val / 64, by omega⟩ : Fin 4) = h := Fin.ext (by show (64 * h.val + e.val) / 64 = h.val; omega)
  have h5 : (⟨(col h e).val % 64, by omega⟩ : Fin 64) = e := Fin.ext (by show (64 * h.val + e.val) % 64 = e.val; omega)
  rw [h1, h2, h3, h4, h5]

/-- The normalizer of a direction and head. -/
theorem nRow_hd (x : Fin 64) : nRow P G b (hd d h) x = n2 P G d b h x := by
  unfold nRow
  have h1 : (⟨(hd d h).val / 4, by omega⟩ : Fin 2) = d := Fin.ext (by show (4 * d.val + h.val) / 4 = d.val; omega)
  have h2 : (⟨(hd d h).val % 4, by omega⟩ : Fin 4) = h := Fin.ext (by show (4 * d.val + h.val) % 4 = h.val; omega)
  rw [h1, h2]

/-- The stabilizer of a direction and head. -/
theorem mRow_hd : mRow G b (hd d h) = m2 G d b h := by
  unfold mRow
  have h1 : (⟨(hd d h).val / 4, by omega⟩ : Fin 2) = d := Fin.ext (by show (4 * d.val + h.val) / 4 = d.val; omega)
  have h2 : (⟨(hd d h).val % 4, by omega⟩ : Fin 4) = h := Fin.ext (by show (4 * d.val + h.val) % 4 = h.val; omega)
  rw [h1, h2]

end

/-- Every row is a token of a chunk of a sequence, every column a channel of a head, and so for the heads. -/
theorem exTok (r : Fin 4096) : ∃ (b : Fin 16) (c : Fin 2) (s : Fin 128), r = tok b c s :=
  ⟨⟨r.val / 256, by omega⟩, ⟨r.val % 256 / 128, by omega⟩, ⟨r.val % 128, by omega⟩,
    Fin.ext (by show r.val = 256 * (r.val / 256) + 128 * (r.val % 256 / 128) + r.val % 128; omega)⟩

/-- Every column belongs to a head. -/
theorem exCol (y : Fin 256) : ∃ (h : Fin 4) (e : Fin 64), y = col h e :=
  ⟨⟨y.val / 64, by omega⟩, ⟨y.val % 64, by omega⟩, Fin.ext (by show y.val = 64 * (y.val / 64) + y.val % 64; omega)⟩

/-- Every index over directions and heads is that of a direction and a head. -/
theorem exHd (j : Fin 8) : ∃ (d : Fin 2) (h : Fin 4), j = hd d h :=
  ⟨⟨j.val / 4, by omega⟩, ⟨j.val % 4, by omega⟩, Fin.ext (by show j.val = 4 * (j.val / 4) + j.val % 4; omega)⟩

end Cert.MlstmMath

end
-- ==== Proof.MlstmHead.lean ====
module

public import proofs.«01_k».proof.Proof.Gen.MlstmIdeal.Frame
public import proofs.«01_k».proof.Proof.MlstmMath
public import Idealize.ShloMosaic.Lib.Pipeline.ValueKit
public import Idealize.ShloMosaic.Lib.Pointwise

@[expose] public section

set_option maxRecDepth 16384

noncomputable section

namespace Cert.MlstmIdeal.Head

open Cert.MlstmIdeal Cert.MlstmIdeal.Gen Cert.MlstmMath Idealize.ShloMosaic Idealize.ShloMosaic.TcCoe Idealize.SL.Sem

/-- What one head's step of one chunk takes: the mask, the sums of the forget gates as a column and as a row, the input gates
    as a row and as a column, the forget gates' sum over the chunk, the queries, keys and values, and the state. -/
structure Args where
  keep : IVec S128x128 1
  bc : FVec Ideal S128x1 .f32
  br : FVec Ideal S1x128 .f32
  ir : FVec Ideal S1x128 .f32
  ic : FVec Ideal S128x1 .f32
  bl : FVec Ideal S1x1 .f32
  q : FVec Ideal S128x64 .f32
  k : FVec Ideal S128x64 .f32
  v : FVec Ideal S128x64 .f32
  c : FVec Ideal S1x1x64x64 .f32
  n : FVec Ideal S1x64 .f32
  m : FVec Ideal S1x1 .f32

variable (a : Args)

/-- The exponents between two tokens, masked. -/
def gGap : FVec Ideal S128x128 .f32 :=
  select a.keep (addf (subf (broadcastTo S128x128 a.bc broadcasts_S128x1_S128x128) (broadcastTo S128x128 a.br broadcasts_S1x128_S128x128))
    (broadcastTo S128x128 a.ir broadcasts_S1x128_S128x128)) (broadcast S128x128 (Scalar.ofBits (F := Ideal) .f32 0xF149F2CA#32))

/-- The running sum of the forget gates plus the old stabilizer. -/
def gInter : FVec Ideal S128x1 .f32 := addf a.bc (broadcastTo S128x1 a.m broadcasts_S1x1_S128x1)

/-- The stabilizers of the tokens. -/
def gStab : FVec Ideal S128x1 .f32 :=
  maximumf (gInter a) (shapeCast S128x1 (multiReduction (F := Ideal) .maximumf [1] S128 (gGap a) 0xFF800000#32 reduces_S128x128_S128 (.inl rfl) rfl) shapeCasts_S128_S128x1)

/-- The keys, scaled. -/
def gKey : FVec Ideal S128x64 .f32 := mulf a.k (broadcast S128x64 (Scalar.ofBits (F := Ideal) .f32 0x3E000000#32))

/-- The weights between two tokens. -/
def gWt : FVec Ideal S128x128 .f32 :=
  mulf (matmul dot_S128x64_S128x64_S128x128_1_1_0_0_n_n none (truncf .bf16 a.q bitsLt_bf16_f32) (truncf .bf16 (gKey a) bitsLt_bf16_f32)
      (constant S128x128 .f32 0x00000000#32))
    (exp (subf (gGap a) (broadcastTo S128x128 (gStab a) broadcasts_S128x1_S128x128)))

/-- The weights of the old state. -/
def gOld : FVec Ideal S128x1 .f32 := exp (subf (gInter a) (gStab a))

/-- The numerators. -/
def gNum : FVec Ideal S128x64 .f32 :=
  addf (matmul dot_S128x128_S128x64_S128x64_1_0_0_1_n_n none (truncf .bf16 (gWt a) bitsLt_bf16_f32) (truncf .bf16 a.v bitsLt_bf16_f32)
      (constant S128x64 .f32 0x00000000#32))
    (mulf (broadcastTo S128x64 (gOld a) broadcasts_S128x1_S128x64)
      (matmul dot_S128x64_S64x64_S128x64_1_1_0_0_n_n none (truncf .bf16 a.q bitsLt_bf16_f32)
        (truncf .bf16 (shapeCast S64x64 a.c shapeCasts_S1x1x64x64_S64x64) bitsLt_bf16_f32) (constant S128x64 .f32 0x00000000#32)))

/-- The denominators. -/
def gDen : FVec Ideal S128x1 .f32 :=
  addf (shapeCast S128x1 (multiReduction (F := Ideal) .add [1] S128 (gWt a) 0x00000000#32 reduces_S128x128_S128 (.inl rfl) rfl) shapeCasts_S128_S128x1)
    (mulf (gOld a) (shapeCast S128x1 (multiReduction (F := Ideal) .add [1] S128 (mulf a.q (broadcastTo S128x64 a.n broadcasts_S1x64_S128x64))
      0x00000000#32 reduces_S128x64_S128 (.inl rfl) rfl) shapeCasts_S128_S128x1))

/-- What the head writes of its tokens. -/
def gOut : FVec Ideal S128x64 .f32 :=
  divf (gNum a) (broadcastTo S128x64 (maximumf (absf (gDen a))
    (exp (subf (broadcast S128x1 (Scalar.ofBits (F := Ideal) .f32 0x00000000#32)) (gStab a)))) broadcasts_S128x1_S128x64)

/-- The new stabilizer. -/
def gTop : FVec Ideal S1x1 .f32 :=
  maximumf (addf a.bl a.m) (shapeCast S1x1 (multiReduction (F := Ideal) .maximumf [1] S1 (addf (subf (broadcastTo S1x128 a.bl broadcasts_S1x1_S1x128) a.br) a.ir)
    0xFF800000#32 reduces_S1x128_S1 (.inl rfl) rfl) shapeCasts_S1_S1x1)

/-- The weight the old state keeps. -/
def gKeep : FVec Ideal S1x1 .f32 := exp (subf (addf a.bl a.m) (gTop a))

/-- The weights with which the tokens enter the state. -/
def gAdd : FVec Ideal S128x1 .f32 :=
  exp (subf (addf (subf (broadcastTo S128x1 a.bl broadcasts_S1x1_S128x1) a.bc) a.ic) (broadcastTo S128x1 (gTop a) broadcasts_S1x1_S128x1))

/-- The head's matrix state after the chunk. -/
def gC : FVec Ideal S1x1x64x64 .f32 :=
  shapeCast S1x1x64x64 (addf (mulf (broadcastTo S64x64 (gKeep a) broadcasts_S1x1_S64x64) (shapeCast S64x64 a.c shapeCasts_S1x1x64x64_S64x64))
    (matmul dot_S128x64_S128x64_S64x64_0_0_1_1_n_n none (truncf .bf16 (mulf a.v (broadcastTo S128x64 (gAdd a) broadcasts_S128x1_S128x64)) bitsLt_bf16_f32)
      (truncf .bf16 (gKey a) bitsLt_bf16_f32) (constant S64x64 .f32 0x00000000#32))) shapeCasts_S64x64_S1x1x64x64

/-- The head's normalizer after the chunk. -/
def gN : FVec Ideal S1x64 .f32 :=
  shapeCast S1x64 (addf (mulf (broadcastTo S1x64 (gKeep a) broadcasts_S1x1_S1x64) a.n)
    (shapeCast S1x64 (multiReduction (F := Ideal) .add [0] S64 (mulf (gKey a) (broadcastTo S128x64 (gAdd a) broadcasts_S128x1_S128x64))
      0x00000000#32 reduces_S128x64_S64 (.inl rfl) rfl) shapeCasts_S64_S1x64)) shapeCasts_S1x64_S1x64

/-- The head's stabilizer after the chunk. -/
def gM : FVec Ideal S1x1 .f32 := shapeCast S1x1 (gTop a) shapeCasts_S1x1_S1x1

/-- The mask, read. -/
def rKeep (r s : Fin 128) : Bool := a.keep (ix2 r s) = 1#1

variable (b ig : Fin 128 → EReal) (hbc : ∀ s, a.bc (ix2 s 0) = b s) (hbr : ∀ s, a.br (ix2 0 s) = b s)
  (hic : ∀ s, a.ic (ix2 s 0) = ig s) (hir : ∀ s, a.ir (ix2 0 s) = ig s)

/-- The exponent between two tokens. -/
theorem gGap_apply (r s : Fin 128) : gGap a (ix2 r s) = if a.keep (ix2 r s) = 1#1 then a.bc (ix2 r 0) - a.br (ix2 0 s) + a.ir (ix2 0 s) else neg := by
  unfold gGap neg
  pointwise
  rfl

/-- The stabilizer of a token. -/
theorem gStab_apply (r : Fin 128) : gStab a (ix2 r 0) = max (a.bc (ix2 r 0) + a.m (ix2 0 0)) (top fun s => gGap a (ix2 r s)) := by
  unfold gStab gInter top
  generalize gGap a = g
  pointwise

/-- The weight between two tokens. -/
theorem gWt_apply (r s : Fin 128) : gWt a (ix2 r s) = (∑ x : Fin 64, a.q (ix2 r x) * (a.k (ix2 s x) * Ideal.ofBits FTy.f32 1040187392#32)) * Ideal.exp (gGap a (ix2 r s) - gStab a (ix2 r 0)) := by
  unfold gWt gKey
  generalize gGap a = g
  generalize gStab a = t
  pointwise

/-- The weight of the old state at a token. -/
theorem gOld_apply (r : Fin 128) : gOld a (ix2 r 0) = Ideal.exp (a.bc (ix2 r 0) + a.m (ix2 0 0) - gStab a (ix2 r 0)) := by
  unfold gOld gInter
  generalize gStab a = t
  pointwise

/-- What a token reads. -/
theorem gOut_apply (r : Fin 128) (e : Fin 64) : gOut a (ix2 r e) = Ideal.div ((∑ s : Fin 128, gWt a (ix2 r s) * a.v (ix2 s e)) + gOld a (ix2 r 0) * ∑ x : Fin 64, a.q (ix2 r x) * a.c (ix4 0 0 e x))
    (max (absE ((∑ s : Fin 128, gWt a (ix2 r s)) + gOld a (ix2 r 0) * ∑ x : Fin 64, a.q (ix2 r x) * a.n (ix2 0 x))) (Ideal.exp (0 - gStab a (ix2 r 0)))) := by
  unfold gOut gNum gDen absE
  generalize gStab a = t
  generalize gOld a = o
  generalize gWt a = w
  pointwise
  rfl

/-- The new stabilizer as a maximum. -/
theorem gTop_apply : gTop a (ix2 0 0) = max (a.bl (ix2 0 0) + a.m (ix2 0 0)) (top fun s => a.bl (ix2 0 0) - a.br (ix2 0 s) + a.ir (ix2 0 s)) := by
  unfold gTop top
  pointwise

/-- The weight with which a token enters the state. -/
theorem gAdd_apply (s : Fin 128) : gAdd a (ix2 s 0) = Ideal.exp (a.bl (ix2 0 0) - a.bc (ix2 s 0) + a.ic (ix2 s 0) - gTop a (ix2 0 0)) := by
  unfold gAdd
  generalize gTop a = t
  pointwise

/-- The weight the old state keeps, written out. -/
theorem gKeep_apply : gKeep a (ix2 0 0) = Ideal.exp (a.bl (ix2 0 0) + a.m (ix2 0 0) - gTop a (ix2 0 0)) := by
  unfold gKeep
  generalize gTop a = t
  pointwise

/-- The matrix state after the chunk, at an entry. -/
theorem gC_apply (e x : Fin 64) : gC a (ix4 0 0 e x) = gKeep a (ix2 0 0) * a.c (ix4 0 0 e x)
    + ∑ s : Fin 128, a.v (ix2 s e) * gAdd a (ix2 s 0) * (a.k (ix2 s x) * Ideal.ofBits FTy.f32 1040187392#32) := by
  unfold gC gKey
  generalize gKeep a = t
  generalize gAdd a = w
  pointwise

/-- The normalizer after the chunk, at an entry. -/
theorem gN_apply (x : Fin 64) : gN a (ix2 0 x) = gKeep a (ix2 0 0) * a.n (ix2 0 x)
    + ∑ s : Fin 128, (a.k (ix2 s x) * Ideal.ofBits FTy.f32 1040187392#32) * gAdd a (ix2 s 0) := by
  unfold gN gKey
  generalize gKeep a = t
  generalize gAdd a = w
  pointwise

/-- The stabilizer after the chunk. -/
theorem gM_apply : gM a (ix2 0 0) = gTop a (ix2 0 0) := by
  unfold gM
  generalize gTop a = t
  pointwise

end Cert.MlstmIdeal.Head

end
-- ==== Proof.MlstmArgs.lean ====
module

public import proofs.«01_k».proof.Proof.MlstmHead
public import Idealize.ShloMosaic.Lib.Pipeline.ValueKit.Tiles
public import Idealize.ShloMosaic.Lib.Pipeline.ReadBack

@[expose] public section

set_option maxRecDepth 16384

noncomputable section

namespace Cert.MlstmIdeal.Head

open Cert.MlstmIdeal Cert.MlstmIdeal.Gen Cert.MlstmMath Idealize.ShloMosaic Idealize.ShloMosaic.TcCoe Idealize.SL.Sem

/-- One direction's blocks of one chunk: the mask, the gates by columns and by rows, the queries, keys and values. -/
structure Inp where
  mask : Vec Ideal S128x128 .f32
  g : Vec Ideal S128x16 .f32
  gt : Vec Ideal S16x128 .f32
  q : Vec Ideal S128x256 .f32
  k : Vec Ideal S128x256 .f32
  v : Vec Ideal S128x256 .f32

/-- The state of all eight heads. -/
structure St where
  c : Vec Ideal S2x4x64x64 .f32
  n : Vec Ideal S8x64 .f32
  m : Vec Ideal S8x1 .f32

variable (f b : Inp) (w : St)

/-- The input gates of the forward direction, a column for each head. -/
def cols0 : FVec Ideal S128x4 .f32 := View.ld (Val := Elt Ideal) (e' := .f32) f.g (Rect.unit (s := S128x16) ![0, 0] ![128, 4] inb_S128x16_S128x4_0_0)

/-- The input gates of the backward direction, a column for each head. -/
def cols8 : FVec Ideal S128x4 .f32 := View.ld (Val := Elt Ideal) (e' := .f32) b.g (Rect.unit (s := S128x16) ![0, 8] ![128, 4] inb_S128x16_S128x4_0_8)

/-- What head 0 of the forward direction reads. -/
def a0 : Args where
  keep := k0_pay10 f.mask
  bc := extractStridedSlice S128x1 ![0, 0] (k0_pay13 f.mask (View.ld (Val := Elt Ideal) (e' := .f32) f.g (Rect.unit (s := S128x16) ![0, 4] ![128, 4] inb_S128x16_S128x4_0_4))) slices_S128x4_o0_0_S128x1
  br := extractStridedSlice S1x128 ![0, 0] (k0_pay14 f.mask (View.ld (Val := Elt Ideal) (e' := .f32) f.gt (Rect.unit (s := S16x128) ![4, 0] ![4, 128] inb_S16x128_S4x128_4_0))) slices_S4x128_o0_0_S1x128
  ir := extractStridedSlice S1x128 ![0, 0] (k0_pay11 (View.ld (Val := Elt Ideal) (e' := .f32) f.gt (Rect.unit (s := S16x128) ![0, 0] ![4, 128] inb_S16x128_S4x128_0_0))) slices_S4x128_o0_0_S1x128
  ic := extractStridedSlice S128x1 ![0, 0] (cols0 f) slices_S128x4_o0_0_S128x1
  bl := extractStridedSlice S1x1 ![0, 0] (k0_pay15 (View.ld (Val := Elt Ideal) (e' := .f32) f.gt (Rect.unit (s := S16x128) ![4, 0] ![4, 128] inb_S16x128_S4x128_4_0))) slices_S4x1_o0_0_S1x1
  q := View.ld (Val := Elt Ideal) (e' := .f32) f.q (Rect.unit (s := S128x256) ![0, 0] ![128, 64] inb_S128x256_S128x64_0_0)
  k := View.ld (Val := Elt Ideal) (e' := .f32) f.k (Rect.unit (s := S128x256) ![0, 0] ![128, 64] inb_S128x256_S128x64_0_0)
  v := View.ld (Val := Elt Ideal) (e' := .f32) f.v (Rect.unit (s := S128x256) ![0, 0] ![128, 64] inb_S128x256_S128x64_0_0)
  c := View.ld (Val := Elt Ideal) (e' := .f32) w.c (Rect.unit (s := S2x4x64x64) ![0, 0, 0, 0] ![1, 1, 64, 64] inb_S2x4x64x64_S1x1x64x64_0_0_0_0)
  n := View.ld (Val := Elt Ideal) (e' := .f32) w.n (Rect.unit (s := S8x64) ![0, 0] ![1, 64] inb_S8x64_S1x64_0_0)
  m := View.ld (Val := Elt Ideal) (e' := .f32) w.m (Rect.unit (s := S8x1) ![0, 0] ![1, 1] inb_S8x1_S1x1_0_0)

/-- What head 1 of the forward direction reads. -/
def a1 : Args where
  keep := k0_pay10 f.mask
  bc := extractStridedSlice S128x1 ![0, 1] (k0_pay13 f.mask (View.ld (Val := Elt Ideal) (e' := .f32) f.g (Rect.unit (s := S128x16) ![0, 4] ![128, 4] inb_S128x16_S128x4_0_4))) slices_S128x4_o0_1_S128x1
  br := extractStridedSlice S1x128 ![1, 0] (k0_pay14 f.mask (View.ld (Val := Elt Ideal) (e' := .f32) f.gt (Rect.unit (s := S16x128) ![4, 0] ![4, 128] inb_S16x128_S4x128_4_0))) slices_S4x128_o1_0_S1x128
  ir := extractStridedSlice S1x128 ![1, 0] (k0_pay11 (View.ld (Val := Elt Ideal) (e' := .f32) f.gt (Rect.unit (s := S16x128) ![0, 0] ![4, 128] inb_S16x128_S4x128_0_0))) slices_S4x128_o1_0_S1x128
  ic := extractStridedSlice S128x1 ![0, 1] (cols0 f) slices_S128x4_o0_1_S128x1
  bl := extractStridedSlice S1x1 ![1, 0] (k0_pay15 (View.ld (Val := Elt Ideal) (e' := .f32) f.gt (Rect.unit (s := S16x128) ![4, 0] ![4, 128] inb_S16x128_S4x128_4_0))) slices_S4x1_o1_0_S1x1
  q := View.ld (Val := Elt Ideal) (e' := .f32) f.q (Rect.unit (s := S128x256) ![0, 64] ![128, 64] inb_S128x256_S128x64_0_64)
  k := View.ld (Val := Elt Ideal) (e' := .f32) f.k (Rect.unit (s := S128x256) ![0, 64] ![128, 64] inb_S128x256_S128x64_0_64)
  v := View.ld (Val := Elt Ideal) (e' := .f32) f.v (Rect.unit (s := S128x256) ![0, 64] ![128, 64] inb_S128x256_S128x64_0_64)
  c := View.ld (Val := Elt Ideal) (e' := .f32) w.c (Rect.unit (s := S2x4x64x64) ![0, 1, 0, 0] ![1, 1, 64, 64] inb_S2x4x64x64_S1x1x64x64_0_1_0_0)
  n := View.ld (Val := Elt Ideal) (e' := .f32) w.n (Rect.unit (s := S8x64) ![1, 0] ![1, 64] inb_S8x64_S1x64_1_0)
  m := View.ld (Val := Elt Ideal) (e' := .f32) w.m (Rect.unit (s := S8x1) ![1, 0] ![1, 1] inb_S8x1_S1x1_1_0)

/-- What head 2 of the forward direction reads. -/
def a2 : Args where
  keep := k0_pay10 f.mask
  bc := extractStridedSlice S128x1 ![0, 2] (k0_pay13 f.mask (View.ld (Val := Elt Ideal) (e' := .f32) f.g (Rect.unit (s := S128x16) ![0, 4] ![128, 4] inb_S128x16_S128x4_0_4))) slices_S128x4_o0_2_S128x1
  br := extractStridedSlice S1x128 ![2, 0] (k0_pay14 f.mask (View.ld (Val := Elt Ideal) (e' := .f32) f.gt (Rect.unit (s := S16x128) ![4, 0] ![4, 128] inb_S16x128_S4x128_4_0))) slices_S4x128_o2_0_S1x128
  ir := extractStridedSlice S1x128 ![2, 0] (k0_pay11 (View.ld (Val := Elt Ideal) (e' := .f32) f.gt (Rect.unit (s := S16x128) ![0, 0] ![4, 128] inb_S16x128_S4x128_0_0))) slices_S4x128_o2_0_S1x128
  ic := extractStridedSlice S128x1 ![0, 2] (cols0 f) slices_S128x4_o0_2_S128x1
  bl := extractStridedSlice S1x1 ![2, 0] (k0_pay15 (View.ld (Val := Elt Ideal) (e' := .f32) f.gt (Rect.unit (s := S16x128) ![4, 0] ![4, 128] inb_S16x128_S4x128_4_0))) slices_S4x1_o2_0_S1x1
  q := View.ld (Val := Elt Ideal) (e' := .f32) f.q (Rect.unit (s := S128x256) ![0, 128] ![128, 64] inb_S128x256_S128x64_0_128)
  k := View.ld (Val := Elt Ideal) (e' := .f32) f.k (Rect.unit (s := S128x256) ![0, 128] ![128, 64] inb_S128x256_S128x64_0_128)
  v := View.ld (Val := Elt Ideal) (e' := .f32) f.v (Rect.unit (s := S128x256) ![0, 128] ![128, 64] inb_S128x256_S128x64_0_128)
  c := View.ld (Val := Elt Ideal) (e' := .f32) w.c (Rect.unit (s := S2x4x64x64) ![0, 2, 0, 0] ![1, 1, 64, 64] inb_S2x4x64x64_S1x1x64x64_0_2_0_0)
  n := View.ld (Val := Elt Ideal) (e' := .f32) w.n (Rect.unit (s := S8x64) ![2, 0] ![1, 64] inb_S8x64_S1x64_2_0)
  m := View.ld (Val := Elt Ideal) (e' := .f32) w.m (Rect.unit (s := S8x1) ![2, 0] ![1, 1] inb_S8x1_S1x1_2_0)

/-- What head 3 of the forward direction reads. -/
def a3 : Args where
  keep := k0_pay10 f.mask
  bc := extractStridedSlice S128x1 ![0, 3] (k0_pay13 f.mask (View.ld (Val := Elt Ideal) (e' := .f32) f.g (Rect.unit (s := S128x16) ![0, 4] ![128, 4] inb_S128x16_S128x4_0_4))) slices_S128x4_o0_3_S128x1
  br := extractStridedSlice S1x128 ![3, 0] (k0_pay14 f.mask (View.ld (Val := Elt Ideal) (e' := .f32) f.gt (Rect.unit (s := S16x128) ![4, 0] ![4, 128] inb_S16x128_S4x128_4_0))) slices_S4x128_o3_0_S1x128
  ir := extractStridedSlice S1x128 ![3, 0] (k0_pay11 (View.ld (Val := Elt Ideal) (e' := .f32) f.gt (Rect.unit (s := S16x128) ![0, 0] ![4, 128] inb_S16x128_S4x128_0_0))) slices_S4x128_o3_0_S1x128
  ic := extractStridedSlice S128x1 ![0, 3] (cols0 f) slices_S128x4_o0_3_S128x1
  bl := extractStridedSlice S1x1 ![3, 0] (k0_pay15 (View.ld (Val := Elt Ideal) (e' := .f32) f.gt (Rect.unit (s := S16x128) ![4, 0] ![4, 128] inb_S16x128_S4x128_4_0))) slices_S4x1_o3_0_S1x1
  q := View.ld (Val := Elt Ideal) (e' := .f32) f.q (Rect.unit (s := S128x256) ![0, 192] ![128, 64] inb_S128x256_S128x64_0_192)
  k := View.ld (Val := Elt Ideal) (e' := .f32) f.k (Rect.unit (s := S128x256) ![0, 192] ![128, 64] inb_S128x256_S128x64_0_192)
  v := View.ld (Val := Elt Ideal) (e' := .f32) f.v (Rect.unit (s := S128x256) ![0, 192] ![128, 64] inb_S128x256_S128x64_0_192)
  c := View.ld (Val := Elt Ideal) (e' := .f32) w.c (Rect.unit (s := S2x4x64x64) ![0, 3, 0, 0] ![1, 1, 64, 64] inb_S2x4x64x64_S1x1x64x64_0_3_0_0)
  n := View.ld (Val := Elt Ideal) (e' := .f32) w.n (Rect.unit (s := S8x64) ![3, 0] ![1, 64] inb_S8x64_S1x64_3_0)
  m := View.ld (Val := Elt Ideal) (e' := .f32) w.m (Rect.unit (s := S8x1) ![3, 0] ![1, 1] inb_S8x1_S1x1_3_0)

/-- What head 0 of the backward direction reads. -/
def a4 : Args where
  keep := k0_pay104 b.mask
  bc := extractStridedSlice S128x1 ![0, 0] (k0_pay107 b.mask (View.ld (Val := Elt Ideal) (e' := .f32) b.g (Rect.unit (s := S128x16) ![0, 12] ![128, 4] inb_S128x16_S128x4_0_12))) slices_S128x4_o0_0_S128x1
  br := extractStridedSlice S1x128 ![0, 0] (k0_pay108 b.mask (View.ld (Val := Elt Ideal) (e' := .f32) b.gt (Rect.unit (s := S16x128) ![12, 0] ![4, 128] inb_S16x128_S4x128_12_0))) slices_S4x128_o0_0_S1x128
  ir := extractStridedSlice S1x128 ![0, 0] (k0_pay105 (View.ld (Val := Elt Ideal) (e' := .f32) b.gt (Rect.unit (s := S16x128) ![8, 0] ![4, 128] inb_S16x128_S4x128_8_0))) slices_S4x128_o0_0_S1x128
  ic := extractStridedSlice S128x1 ![0, 0] (cols8 b) slices_S128x4_o0_0_S128x1
  bl := extractStridedSlice S1x1 ![0, 0] (k0_pay109 (View.ld (Val := Elt Ideal) (e' := .f32) b.gt (Rect.unit (s := S16x128) ![12, 0] ![4, 128] inb_S16x128_S4x128_12_0))) slices_S4x1_o0_0_S1x1
  q := View.ld (Val := Elt Ideal) (e' := .f32) b.q (Rect.unit (s := S128x256) ![0, 0] ![128, 64] inb_S128x256_S128x64_0_0)
  k := View.ld (Val := Elt Ideal) (e' := .f32) b.k (Rect.unit (s := S128x256) ![0, 0] ![128, 64] inb_S128x256_S128x64_0_0)
  v := View.ld (Val := Elt Ideal) (e' := .f32) b.v (Rect.unit (s := S128x256) ![0, 0] ![128, 64] inb_S128x256_S128x64_0_0)
  c := View.ld (Val := Elt Ideal) (e' := .f32) w.c (Rect.unit (s := S2x4x64x64) ![1, 0, 0, 0] ![1, 1, 64, 64] inb_S2x4x64x64_S1x1x64x64_1_0_0_0)
  n := View.ld (Val := Elt Ideal) (e' := .f32) w.n (Rect.unit (s := S8x64) ![4, 0] ![1, 64] inb_S8x64_S1x64_4_0)
  m := View.ld (Val := Elt Ideal) (e' := .f32) w.m (Rect.unit (s := S8x1) ![4, 0] ![1, 1] inb_S8x1_S1x1_4_0)

/-- What head 1 of the backward direction reads. -/
def a5 : Args where
  keep := k0_pay104 b.mask
  bc := extractStridedSlice S128x1 ![0, 1] (k0_pay107 b.mask (View.ld (Val := Elt Ideal) (e' := .f32) b.g (Rect.unit (s := S128x16) ![0, 12] ![128, 4] inb_S128x16_S128x4_0_12))) slices_S128x4_o0_1_S128x1
  br := extractStridedSlice S1x128 ![1, 0] (k0_pay108 b.mask (View.ld (Val := Elt Ideal) (e' := .f32) b.gt (Rect.unit (s := S16x128) ![12, 0] ![4, 128] inb_S16x128_S4x128_12_0))) slices_S4x128_o1_0_S1x128
  ir := extractStridedSlice S1x128 ![1, 0] (k0_pay105 (View.ld (Val := Elt Ideal) (e' := .f32) b.gt (Rect.unit (s := S16x128) ![8, 0] ![4, 128] inb_S16x128_S4x128_8_0))) slices_S4x128_o1_0_S1x128
  ic := extractStridedSlice S128x1 ![0, 1] (cols8 b) slices_S128x4_o0_1_S128x1
  bl := extractStridedSlice S1x1 ![1, 0] (k0_pay109 (View.ld (Val := Elt Ideal) (e' := .f32) b.gt (Rect.unit (s := S16x128) ![12, 0] ![4, 128] inb_S16x128_S4x128_12_0))) slices_S4x1_o1_0_S1x1
  q := View.ld (Val := Elt Ideal) (e' := .f32) b.q (Rect.unit (s := S128x256) ![0, 64] ![128, 64] inb_S128x256_S128x64_0_64)
  k := View.ld (Val := Elt Ideal) (e' := .f32) b.k (Rect.unit (s := S128x256) ![0, 64] ![128, 64] inb_S128x256_S128x64_0_64)
  v := View.ld (Val := Elt Ideal) (e' := .f32) b.v (Rect.unit (s := S128x256) ![0, 64] ![128, 64] inb_S128x256_S128x64_0_64)
  c := View.ld (Val := Elt Ideal) (e' := .f32) w.c (Rect.unit (s := S2x4x64x64) ![1, 1, 0, 0] ![1, 1, 64, 64] inb_S2x4x64x64_S1x1x64x64_1_1_0_0)
  n := View.ld (Val := Elt Ideal) (e' := .f32) w.n (Rect.unit (s := S8x64) ![5, 0] ![1, 64] inb_S8x64_S1x64_5_0)
  m := View.ld (Val := Elt Ideal) (e' := .f32) w.m (Rect.unit (s := S8x1) ![5, 0] ![1, 1] inb_S8x1_S1x1_5_0)

/-- What head 2 of the backward direction reads. -/
def a6 : Args where
  keep := k0_pay104 b.mask
  bc := extractStridedSlice S128x1 ![0, 2] (k0_pay107 b.mask (View.ld (Val := Elt Ideal) (e' := .f32) b.g (Rect.unit (s := S128x16) ![0, 12] ![128, 4] inb_S128x16_S128x4_0_12))) slices_S128x4_o0_2_S128x1
  br := extractStridedSlice S1x128 ![2, 0] (k0_pay108 b.mask (View.ld (Val := Elt Ideal) (e' := .f32) b.gt (Rect.unit (s := S16x128) ![12, 0] ![4, 128] inb_S16x128_S4x128_12_0))) slices_S4x128_o2_0_S1x128
  ir := extractStridedSlice S1x128 ![2, 0] (k0_pay105 (View.ld (Val := Elt Ideal) (e' := .f32) b.gt (Rect.unit (s := S16x128) ![8, 0] ![4, 128] inb_S16x128_S4x128_8_0))) slices_S4x128_o2_0_S1x128
  ic := extractStridedSlice S128x1 ![0, 2] (cols8 b) slices_S128x4_o0_2_S128x1
  bl := extractStridedSlice S1x1 ![2, 0] (k0_pay109 (View.ld (Val := Elt Ideal) (e' := .f32) b.gt (Rect.unit (s := S16x128) ![12, 0] ![4, 128] inb_S16x128_S4x128_12_0))) slices_S4x1_o2_0_S1x1
  q := View.ld (Val := Elt Ideal) (e' := .f32) b.q (Rect.unit (s := S128x256) ![0, 128] ![128, 64] inb_S128x256_S128x64_0_128)
  k := View.ld (Val := Elt Ideal) (e' := .f32) b.k (Rect.unit (s := S128x256) ![0, 128] ![128, 64] inb_S128x256_S128x64_0_128)
  v := View.ld (Val := Elt Ideal) (e' := .f32) b.v (Rect.unit (s := S128x256) ![0, 128] ![128, 64] inb_S128x256_S128x64_0_128)
  c := View.ld (Val := Elt Ideal) (e' := .f32) w.c (Rect.unit (s := S2x4x64x64) ![1, 2, 0, 0] ![1, 1, 64, 64] inb_S2x4x64x64_S1x1x64x64_1_2_0_0)
  n := View.ld (Val := Elt Ideal) (e' := .f32) w.n (Rect.unit (s := S8x64) ![6, 0] ![1, 64] inb_S8x64_S1x64_6_0)
  m := View.ld (Val := Elt Ideal) (e' := .f32) w.m (Rect.unit (s := S8x1) ![6, 0] ![1, 1] inb_S8x1_S1x1_6_0)

/-- What head 3 of the backward direction reads. -/
def a7 : Args where
  keep := k0_pay104 b.mask
  bc := extractStridedSlice S128x1 ![0, 3] (k0_pay107 b.mask (View.ld (Val := Elt Ideal) (e' := .f32) b.g (Rect.unit (s := S128x16) ![0, 12] ![128, 4] inb_S128x16_S128x4_0_12))) slices_S128x4_o0_3_S128x1
  br := extractStridedSlice S1x128 ![3, 0] (k0_pay108 b.mask (View.ld (Val := Elt Ideal) (e' := .f32) b.gt (Rect.unit (s := S16x128) ![12, 0] ![4, 128] inb_S16x128_S4x128_12_0))) slices_S4x128_o3_0_S1x128
  ir := extractStridedSlice S1x128 ![3, 0] (k0_pay105 (View.ld (Val := Elt Ideal) (e' := .f32) b.gt (Rect.unit (s := S16x128) ![8, 0] ![4, 128] inb_S16x128_S4x128_8_0))) slices_S4x128_o3_0_S1x128
  ic := extractStridedSlice S128x1 ![0, 3] (cols8 b) slices_S128x4_o0_3_S128x1
  bl := extractStridedSlice S1x1 ![3, 0] (k0_pay109 (View.ld (Val := Elt Ideal) (e' := .f32) b.gt (Rect.unit (s := S16x128) ![12, 0] ![4, 128] inb_S16x128_S4x128_12_0))) slices_S4x1_o3_0_S1x1
  q := View.ld (Val := Elt Ideal) (e' := .f32) b.q (Rect.unit (s := S128x256) ![0, 192] ![128, 64] inb_S128x256_S128x64_0_192)
  k := View.ld (Val := Elt Ideal) (e' := .f32) b.k (Rect.unit (s := S128x256) ![0, 192] ![128, 64] inb_S128x256_S128x64_0_192)
  v := View.ld (Val := Elt Ideal) (e' := .f32) b.v (Rect.unit (s := S128x256) ![0, 192] ![128, 64] inb_S128x256_S128x64_0_192)
  c := View.ld (Val := Elt Ideal) (e' := .f32) w.c (Rect.unit (s := S2x4x64x64) ![1, 3, 0, 0] ![1, 1, 64, 64] inb_S2x4x64x64_S1x1x64x64_1_3_0_0)
  n := View.ld (Val := Elt Ideal) (e' := .f32) w.n (Rect.unit (s := S8x64) ![7, 0] ![1, 64] inb_S8x64_S1x64_7_0)
  m := View.ld (Val := Elt Ideal) (e' := .f32) w.m (Rect.unit (s := S8x1) ![7, 0] ![1, 1] inb_S8x1_S1x1_7_0)

/-- The eight heads: four forward, four backward. -/
def args : Fin 8 → Args
  | 0 => a0 f w
  | 1 => a1 f w
  | 2 => a2 f w
  | 3 => a3 f w
  | 4 => a4 b w
  | 5 => a5 b w
  | 6 => a6 b w
  | 7 => a7 b w

/-- Where the rows of the state and the heads' columns of a block lie. -/
theorem embM (i : Fin 8) (inb : _) (x : (Rect.unit (s := S8x1) ![i.val, 0] ![1, 1] inb).shape.Idx) :
    (Rect.unit (s := S8x1) ![i.val, 0] ![1, 1] inb).emb x = ix2 i 0 := by
  have h0 : (x 0).val < 1 := (x 0).isLt
  have h1 : (x 1).val < 1 := (x 1).isLt
  funext a
  refine Fin.ext ?_
  fin_cases a
  · show i.val + 1 * (x 0).val = i.val
    omega
  · show 0 + 1 * (x 1).val = 0
    omega

/-- A row of the normalizers' scratch array: where its entries lie. -/
theorem embN (i : Fin 8) (inb : _) (x : (Rect.unit (s := S8x64) ![i.val, 0] ![1, 64] inb).shape.Idx) :
    (Rect.unit (s := S8x64) ![i.val, 0] ![1, 64] inb).emb x = ix2 i (x 1) := by
  have h0 : (x 0).val < 1 := (x 0).isLt
  funext a
  refine Fin.ext ?_
  fin_cases a
  · show i.val + 1 * (x 0).val = i.val
    omega
  · show 0 + 1 * (x 1).val = (x 1).val
    omega

/-- A head's matrix in the scratch array of matrices: where its entries lie. -/
theorem embC (d : Fin 2) (h : Fin 4) (inb : _) (x : (Rect.unit (s := S2x4x64x64) ![d.val, h.val, 0, 0] ![1, 1, 64, 64] inb).shape.Idx) :
    (Rect.unit (s := S2x4x64x64) ![d.val, h.val, 0, 0] ![1, 1, 64, 64] inb).emb x = ix4 d h (x 2) (x 3) := by
  have h0 : (x 0).val < 1 := (x 0).isLt
  have h1 : (x 1).val < 1 := (x 1).isLt
  funext a
  refine Fin.ext ?_
  fin_cases a
  · show d.val + 1 * (x 0).val = d.val
    omega
  · show h.val + 1 * (x 1).val = h.val
    omega
  · show 0 + 1 * (x 2).val = (x 2).val
    omega
  · show 0 + 1 * (x 3).val = (x 3).val
    omega

/-- A head's columns in a block of tokens: where its entries lie. -/
theorem embH (h : Fin 4) (o : ℕ) (ho : o = 64 * h.val) (inb : _) (x : (Rect.unit (s := S128x256) ![0, o] ![128, 64] inb).shape.Idx) :
    (Rect.unit (s := S128x256) ![0, o] ![128, 64] inb).emb x = ix2 (x 0) (col h (x 1)) := by
  subst ho
  funext a
  refine Fin.ext ?_
  fin_cases a
  · show 0 + 1 * (x 0).val = (x 0).val
    omega
  · show 64 * h.val + 1 * (x 1).val = 64 * h.val + (x 1).val
    omega

/-- Eight rows as one array, and so on for the other shapes. -/
def tabM (T : Fin 8 → FVec Ideal S1x1 .f32) : FVec Ideal S8x1 .f32 := fun y => T (y 0) (ix2 0 0)

/-- The normalizers of all heads in one array. -/
def tabN (T : Fin 8 → FVec Ideal S1x64 .f32) : FVec Ideal S8x64 .f32 := fun y => T (y 0) (ix2 0 (y 1))

/-- The matrices of all heads in one array. -/
def tabC (T : Fin 8 → FVec Ideal S1x1x64x64 .f32) : FVec Ideal S2x4x64x64 .f32 := fun y => T (hd (y 0) (y 1)) (ix4 0 0 (y 2) (y 3))

/-- The heads' outputs side by side in one block. -/
def tabH (T : Fin 4 → FVec Ideal S128x64 .f32) : FVec Ideal S128x256 .f32 := fun y =>
  T ⟨(y 1).val / 64, by have h : (y 1).val < 256 := (y 1).isLt; omega⟩ (ix2 (y 0) ⟨(y 1).val % 64, by omega⟩)

/-- The table of stabilizers at an index. -/
theorem tabM_apply (T : Fin 8 → FVec Ideal S1x1 .f32) (j : Fin 8) : tabM T (ix2 j 0) = T j (ix2 0 0) := rfl

/-- The table of normalizers at an index. -/
theorem tabN_apply (T : Fin 8 → FVec Ideal S1x64 .f32) (j : Fin 8) (e : Fin 64) : tabN T (ix2 j e) = T j (ix2 0 e) := rfl

/-- The table of matrices at an index. -/
theorem tabC_apply (T : Fin 8 → FVec Ideal S1x1x64x64 .f32) (d : Fin 2) (h : Fin 4) (e x : Fin 64) :
    tabC T (ix4 d h e x) = T (hd d h) (ix4 0 0 e x) := rfl

/-- The table of outputs at an index. -/
theorem tabH_apply (T : Fin 4 → FVec Ideal S128x64 .f32) (r : Fin 128) (h : Fin 4) (e : Fin 64) :
    tabH T (ix2 r (col h e)) = T h (ix2 r e) := by
  have h1 : (⟨(64 * h.val + e.val) / 64, by omega⟩ : Fin 4) = h := Fin.ext (by show (64 * h.val + e.val) / 64 = h.val; omega)
  have h2 : (⟨(64 * h.val + e.val) % 64, by omega⟩ : Fin 64) = e := Fin.ext (by show (64 * h.val + e.val) % 64 = e.val; omega)
  show T ⟨(64 * h.val + e.val) / 64, _⟩ (ix2 r ⟨(64 * h.val + e.val) % 64, _⟩) = _
  rw [h1, h2]

/-- What is written for a head is that head's entry of the table of stabilizers. -/
theorem pieceM (T : Fin 8 → FVec Ideal S1x1 .f32) (i : Fin 8) (inb : _) (p : FVec Ideal S1x1 .f32) (hp : p = T i)
    (x : (Rect.unit (s := S8x1) ![i.val, 0] ![1, 1] inb).shape.Idx) :
    p x = tabM T ((Rect.unit (s := S8x1) ![i.val, 0] ![1, 1] inb).emb x) := by
  rw [embM, tabM_apply, hp]
  refine congrArg (T i) (funext fun a => Fin.ext ?_)
  fin_cases a
  · exact Nat.lt_one_iff.mp (x 0).isLt
  · exact Nat.lt_one_iff.mp (x 1).isLt

/-- What is written for a head is that head's row of the table of normalizers. -/
theorem pieceN (T : Fin 8 → FVec Ideal S1x64 .f32) (i : Fin 8) (inb : _) (p : FVec Ideal S1x64 .f32) (hp : p = T i)
    (x : (Rect.unit (s := S8x64) ![i.val, 0] ![1, 64] inb).shape.Idx) :
    p x = tabN T ((Rect.unit (s := S8x64) ![i.val, 0] ![1, 64] inb).emb x) := by
  rw [embN, hp]
  refine congrArg (T i) (funext fun a => Fin.ext ?_)
  fin_cases a
  · exact Nat.lt_one_iff.mp (x 0).isLt
  · rfl

/-- What is written for a head is that head's matrix of the table of matrices. -/
theorem pieceC (T : Fin 8 → FVec Ideal S1x1x64x64 .f32) (d : Fin 2) (h : Fin 4) (inb : _) (p : FVec Ideal S1x1x64x64 .f32) (hp : p = T (hd d h))
    (x : (Rect.unit (s := S2x4x64x64) ![d.val, h.val, 0, 0] ![1, 1, 64, 64] inb).shape.Idx) :
    p x = tabC T ((Rect.unit (s := S2x4x64x64) ![d.val, h.val, 0, 0] ![1, 1, 64, 64] inb).emb x) := by
  rw [embC, hp]
  refine congrArg (T (hd d h)) (funext fun a => Fin.ext ?_)
  fin_cases a
  · exact Nat.lt_one_iff.mp (x 0).isLt
  · exact Nat.lt_one_iff.mp (x 1).isLt
  · rfl
  · rfl

/-- What is written for a head is that head's columns of the block. -/
theorem pieceH (T : Fin 4 → FVec Ideal S128x64 .f32) (h : Fin 4) (o : ℕ) (ho : o = 64 * h.val) (inb : _) (p : FVec Ideal S128x64 .f32) (hp : p = T h)
    (x : (Rect.unit (s := S128x256) ![0, o] ![128, 64] inb).shape.Idx) :
    p x = tabH T ((Rect.unit (s := S128x256) ![0, o] ![128, 64] inb).emb x) := by
  rw [embH h o ho, hp]
  refine Eq.trans (congrArg (T h) (funext fun a => Fin.ext ?_)) (tabH_apply T (x 0) h (x 1)).symm
  fin_cases a
  · rfl
  · rfl

/-- An entry of a rectangle lies in the rectangle. -/
theorem emb_mem {s : Shape} (r : Rect s) (x : r.shape.Idx) : r.emb x ∈ r.set := by
  rw [← Rect.map_emb_univ r]
  exact Finset.mem_map_of_mem _ (Finset.mem_univ x)

/-- A head's stabilizer lies in the rectangle written for it. -/
theorem memM (i : Fin 8) (inb : _) : ix2 i 0 ∈ (Rect.unit (s := S8x1) ![i.val, 0] ![1, 1] inb).set :=
  embM i inb (ix2 0 0) ▸ emb_mem _ _

/-- A head's normalizer lies in the rectangle written for it. -/
theorem memN (i : Fin 8) (e : Fin 64) (inb : _) : ix2 i e ∈ (Rect.unit (s := S8x64) ![i.val, 0] ![1, 64] inb).set :=
  embN i inb (ix2 0 e) ▸ emb_mem _ _

/-- A head's matrix lies in the rectangle written for it. -/
theorem memC (d : Fin 2) (h : Fin 4) (e x : Fin 64) (inb : _) : ix4 d h e x ∈ (Rect.unit (s := S2x4x64x64) ![d.val, h.val, 0, 0] ![1, 1, 64, 64] inb).set :=
  embC d h inb (ix4 0 0 e x) ▸ emb_mem _ _

/-- A head's columns lie in the rectangle written for it. -/
theorem memH (r : Fin 128) (h : Fin 4) (e : Fin 64) (o : ℕ) (ho : o = 64 * h.val) (inb : _) : ix2 r (col h e) ∈ (Rect.unit (s := S128x256) ![0, o] ![128, 64] inb).set :=
  embH h o ho inb (ix2 r e) ▸ emb_mem _ _

/-- An index of the stabilizers, by head. -/
theorem exM (y : S8x1.Idx) : ∃ j : Fin 8, y = ix2 j 0 := by
  refine ⟨y 0, funext fun a => Fin.ext ?_⟩
  fin_cases a
  · rfl
  · exact Nat.lt_one_iff.mp (y 1).isLt

/-- An index of the normalizers, by head and column. -/
theorem exN (y : S8x64.Idx) : ∃ (j : Fin 8) (e : Fin 64), y = ix2 j e := by
  refine ⟨y 0, y 1, funext fun a => ?_⟩
  fin_cases a <;> rfl

/-- An index of the matrices, by direction, head, row and column. -/
theorem exC (y : S2x4x64x64.Idx) : ∃ (d : Fin 2) (h : Fin 4) (e x : Fin 64), y = ix4 d h e x := by
  refine ⟨y 0, y 1, y 2, y 3, funext fun a => ?_⟩
  fin_cases a <;> rfl

/-- An index of a block of tokens, by row, head and column. -/
theorem exH (y : S128x256.Idx) : ∃ (r : Fin 128) (h : Fin 4) (e : Fin 64), y = ix2 r (col h e) := by
  have hy : (y 1).val < 256 := (y 1).isLt
  refine ⟨y 0, ⟨(y 1).val / 64, by omega⟩, ⟨(y 1).val % 64, by omega⟩, funext fun a => Fin.ext ?_⟩
  fin_cases a
  · rfl
  · show (y 1).val = 64 * ((y 1).val / 64) + (y 1).val % 64
    omega

variable (mm : (ℓ : Loc nD τ sig) → Buf (Elt Ideal) ℓ)

/-- The blocks that a grid point sees of the two directions. -/
def fwd (c : Dev nD) (t : Fin cfg0.N) : Inp :=
  ⟨iblk mm c 13 t, iblk mm c 3 t, iblk mm c 4 t, iblk mm c 0 t, iblk mm c 1 t, iblk mm c 2 t⟩

/-- What the backward direction reads at a grid point. -/
def bwd (c : Dev nD) (t : Fin cfg0.N) : Inp :=
  ⟨iblk mm c 14 t, iblk mm c 8 t, iblk mm c 9 t, iblk mm c 5 t, iblk mm c 6 t, iblk mm c 7 t⟩

end Cert.MlstmIdeal.Head

end
-- ==== Proof.MlstmRead.lean ====
module

public import proofs.«01_k».proof.Proof.MlstmArgs

@[expose] public section

set_option maxRecDepth 16384

noncomputable section

namespace Cert.MlstmIdeal.Head

open Cert.MlstmIdeal Cert.MlstmIdeal.Gen Cert.MlstmMath Idealize.ShloMosaic Idealize.ShloMosaic.TcCoe Idealize.SL.Sem

/-- The vectors that a head takes hold the values of the mathematics. -/
structure Reads (a : Args) (keep : Fin 128 → Fin 128 → Bool) (b ig : Fin 128 → EReal) (bl : EReal)
    (q k v : Fin 128 → Fin 64 → EReal) (C : Fin 64 → Fin 64 → EReal) (n : Fin 64 → EReal) (mm : EReal) : Prop where
  keep : ∀ r s, a.keep (ix2 r s) = 1#1 ↔ keep r s = true
  bc : ∀ s, a.bc (ix2 s 0) = b s
  br : ∀ s, a.br (ix2 0 s) = b s
  ic : ∀ s, a.ic (ix2 s 0) = ig s
  ir : ∀ s, a.ir (ix2 0 s) = ig s
  bl : a.bl (ix2 0 0) = bl
  q : ∀ s x, a.q (ix2 s x) = q s x
  k : ∀ s x, a.k (ix2 s x) * eighth = k s x
  v : ∀ s x, a.v (ix2 s x) = v s x
  c : ∀ e x, a.c (ix4 0 0 e x) = C e x
  n : ∀ x, a.n (ix2 0 x) = n x
  m : a.m (ix2 0 0) = mm

section
variable {a : Args} {keep : Fin 128 → Fin 128 → Bool} {b ig : Fin 128 → EReal} {bl : EReal}
    {q k v : Fin 128 → Fin 64 → EReal} {C : Fin 64 → Fin 64 → EReal} {n : Fin 64 → EReal} {mm : EReal}
    (h : Reads a keep b ig bl q k v C n mm)
include h

/-- The exponents are those of the recurrence. -/
theorem Reads.gGap (r s : Fin 128) : gGap a (ix2 r s) = gap keep b ig r s := by
  rw [gGap_apply, h.bc, h.br, h.ir]
  exact if_congr (h.keep r s) rfl rfl

/-- The stabilizers of the tokens are those of the recurrence. -/
theorem Reads.gStab (r : Fin 128) : gStab a (ix2 r 0) = stab keep b ig mm r := by
  rw [gStab_apply, h.bc, h.m]
  simp only [h.gGap]
  rfl

/-- The weights between tokens are those of the recurrence. -/
theorem Reads.gWt (r s : Fin 128) : gWt a (ix2 r s) = wt keep b ig q k mm r s := by
  rw [gWt_apply, h.gGap, h.gStab]
  simp only [h.q]
  unfold wt
  refine congrArg (· * _) (Finset.sum_congr rfl fun x _ => ?_)
  exact congrArg (q r x * ·) (h.k s x)

/-- The weights of the old state are those of the recurrence. -/
theorem Reads.gOld (r : Fin 128) : gOld a (ix2 r 0) = old keep b ig mm r := by
  rw [gOld_apply, h.bc, h.m, h.gStab]
  rfl

/-- What the head writes of its tokens. -/
theorem Reads.gOut (r : Fin 128) (e : Fin 64) : gOut a (ix2 r e) = out keep b ig q k v C n mm r e := by
  rw [gOut_apply]
  simp only [h.gWt, h.gOld, h.gStab, h.q, h.v, h.c, h.n]
  rfl

/-- The head's stabilizer after the chunk. -/
theorem Reads.gTop : gTop a (ix2 0 0) = mNew b ig bl mm := by
  rw [gTop_apply]
  simp only [h.bl, h.m, h.br, h.ir]
  rfl

/-- The new stabilizer is that of the recurrence. -/
theorem Reads.gM : gM a (ix2 0 0) = mNew b ig bl mm := by rw [gM_apply, h.gTop]

/-- The weight the old state keeps is that of the recurrence. -/
theorem Reads.gKeep : gKeep a (ix2 0 0) = keepOld b ig bl mm := by
  rw [gKeep_apply, h.bl, h.m, h.gTop]
  rfl

/-- The weights with which tokens enter the state are those of the recurrence. -/
theorem Reads.gAdd (s : Fin 128) : gAdd a (ix2 s 0) = add b ig bl mm s := by
  rw [gAdd_apply, h.bl, h.bc, h.ic, h.gTop]
  rfl

/-- The head's matrix state after the chunk. -/
theorem Reads.gC (e x : Fin 64) : gC a (ix4 0 0 e x) = cNew b ig bl k v C mm e x := by
  rw [gC_apply, h.gKeep, h.c]
  unfold cNew
  refine congrArg (_ + ·) (Finset.sum_congr rfl fun s _ => ?_)
  rw [h.v, h.gAdd]
  exact congrArg (v s e * add b ig bl mm s * ·) (h.k s x)

/-- The head's normalizer after the chunk. -/
theorem Reads.gN (x : Fin 64) : gN a (ix2 0 x) = nNew b ig bl k n mm x := by
  rw [gN_apply, h.gKeep, h.n]
  unfold nNew
  refine congrArg (_ + ·) (Finset.sum_congr rfl fun s _ => ?_)
  rw [h.gAdd]
  exact congrArg (· * add b ig bl mm s) (h.k s x)

end

variable (f b : Inp) (w : St)

/-- The blocks of a direction. -/
def side (d : Fin 2) : Inp := if d = 0 then f else b

/-- The mask. -/
theorem args_keep (d : Fin 2) (h : Fin 4) (r s : Fin 128) :
    (args f b w (hd d h)).keep (ix2 r s) = Ideal.cmp .ogt ((side f b d).mask (ix2 r s)) (Ideal.ofBits FTy.f32 1056964608#32) := by
  fin_cases d <;> fin_cases h
  · show (a0 f w).keep (ix2 r s) = Ideal.cmp .ogt (f.mask (ix2 r s)) (Ideal.ofBits FTy.f32 1056964608#32)
    unfold a0
    try unfold_payloads
    pointwise
  · show (a1 f w).keep (ix2 r s) = Ideal.cmp .ogt (f.mask (ix2 r s)) (Ideal.ofBits FTy.f32 1056964608#32)
    unfold a1
    try unfold_payloads
    pointwise
  · show (a2 f w).keep (ix2 r s) = Ideal.cmp .ogt (f.mask (ix2 r s)) (Ideal.ofBits FTy.f32 1056964608#32)
    unfold a2
    try unfold_payloads
    pointwise
  · show (a3 f w).keep (ix2 r s) = Ideal.cmp .ogt (f.mask (ix2 r s)) (Ideal.ofBits FTy.f32 1056964608#32)
    unfold a3
    try unfold_payloads
    pointwise
  · show (a4 b w).keep (ix2 r s) = Ideal.cmp .ogt (b.mask (ix2 r s)) (Ideal.ofBits FTy.f32 1056964608#32)
    unfold a4
    try unfold_payloads
    pointwise
  · show (a5 b w).keep (ix2 r s) = Ideal.cmp .ogt (b.mask (ix2 r s)) (Ideal.ofBits FTy.f32 1056964608#32)
    unfold a5
    try unfold_payloads
    pointwise
  · show (a6 b w).keep (ix2 r s) = Ideal.cmp .ogt (b.mask (ix2 r s)) (Ideal.ofBits FTy.f32 1056964608#32)
    unfold a6
    try unfold_payloads
    pointwise
  · show (a7 b w).keep (ix2 r s) = Ideal.cmp .ogt (b.mask (ix2 r s)) (Ideal.ofBits FTy.f32 1056964608#32)
    unfold a7
    try unfold_payloads
    pointwise

/-- The sums of the forget gates, as a column. -/
theorem args_bc (d : Fin 2) (h : Fin 4) (s : Fin 128) :
    (args f b w (hd d h)).bc (ix2 s 0) = ∑ x : Fin 128, (side f b d).mask (ix2 s x) * lsg ((side f b d).g (ix2 x (fgc d h))) := by
  fin_cases d <;> fin_cases h
  · show (a0 f w).bc (ix2 s 0) = ∑ x : Fin 128, f.mask (ix2 s x) * lsg (f.g (ix2 x (4)))
    unfold a0 lsg absE
    try unfold_payloads
    pointwise
    rfl
  · show (a1 f w).bc (ix2 s 0) = ∑ x : Fin 128, f.mask (ix2 s x) * lsg (f.g (ix2 x (5)))
    unfold a1 lsg absE
    try unfold_payloads
    pointwise
    rfl
  · show (a2 f w).bc (ix2 s 0) = ∑ x : Fin 128, f.mask (ix2 s x) * lsg (f.g (ix2 x (6)))
    unfold a2 lsg absE
    try unfold_payloads
    pointwise
    rfl
  · show (a3 f w).bc (ix2 s 0) = ∑ x : Fin 128, f.mask (ix2 s x) * lsg (f.g (ix2 x (7)))
    unfold a3 lsg absE
    try unfold_payloads
    pointwise
    rfl
  · show (a4 b w).bc (ix2 s 0) = ∑ x : Fin 128, b.mask (ix2 s x) * lsg (b.g (ix2 x (12)))
    unfold a4 lsg absE
    try unfold_payloads
    pointwise
    rfl
  · show (a5 b w).bc (ix2 s 0) = ∑ x : Fin 128, b.mask (ix2 s x) * lsg (b.g (ix2 x (13)))
    unfold a5 lsg absE
    try unfold_payloads
    pointwise
    rfl
  · show (a6 b w).bc (ix2 s 0) = ∑ x : Fin 128, b.mask (ix2 s x) * lsg (b.g (ix2 x (14)))
    unfold a6 lsg absE
    try unfold_payloads
    pointwise
    rfl
  · show (a7 b w).bc (ix2 s 0) = ∑ x : Fin 128, b.mask (ix2 s x) * lsg (b.g (ix2 x (15)))
    unfold a7 lsg absE
    try unfold_payloads
    pointwise
    rfl

/-- The sums of the forget gates, as a row. -/
theorem args_br (d : Fin 2) (h : Fin 4) (s : Fin 128) :
    (args f b w (hd d h)).br (ix2 0 s) = ∑ x : Fin 128, lsg ((side f b d).gt (ix2 (fgc d h) x)) * (side f b d).mask (ix2 s x) := by
  fin_cases d <;> fin_cases h
  · show (a0 f w).br (ix2 0 s) = ∑ x : Fin 128, lsg (f.gt (ix2 (4) x)) * f.mask (ix2 s x)
    unfold a0 lsg absE
    try unfold_payloads
    pointwise
    rfl
  · show (a1 f w).br (ix2 0 s) = ∑ x : Fin 128, lsg (f.gt (ix2 (5) x)) * f.mask (ix2 s x)
    unfold a1 lsg absE
    try unfold_payloads
    pointwise
    rfl
  · show (a2 f w).br (ix2 0 s) = ∑ x : Fin 128, lsg (f.gt (ix2 (6) x)) * f.mask (ix2 s x)
    unfold a2 lsg absE
    try unfold_payloads
    pointwise
    rfl
  · show (a3 f w).br (ix2 0 s) = ∑ x : Fin 128, lsg (f.gt (ix2 (7) x)) * f.mask (ix2 s x)
    unfold a3 lsg absE
    try unfold_payloads
    pointwise
    rfl
  · show (a4 b w).br (ix2 0 s) = ∑ x : Fin 128, lsg (b.gt (ix2 (12) x)) * b.mask (ix2 s x)
    unfold a4 lsg absE
    try unfold_payloads
    pointwise
    rfl
  · show (a5 b w).br (ix2 0 s) = ∑ x : Fin 128, lsg (b.gt (ix2 (13) x)) * b.mask (ix2 s x)
    unfold a5 lsg absE
    try unfold_payloads
    pointwise
    rfl
  · show (a6 b w).br (ix2 0 s) = ∑ x : Fin 128, lsg (b.gt (ix2 (14) x)) * b.mask (ix2 s x)
    unfold a6 lsg absE
    try unfold_payloads
    pointwise
    rfl
  · show (a7 b w).br (ix2 0 s) = ∑ x : Fin 128, lsg (b.gt (ix2 (15) x)) * b.mask (ix2 s x)
    unfold a7 lsg absE
    try unfold_payloads
    pointwise
    rfl

/-- The sum of the forget gates over the chunk. -/
theorem args_bl (d : Fin 2) (h : Fin 4) :
    (args f b w (hd d h)).bl (ix2 0 0) = ∑ x : Fin 128, lsg ((side f b d).gt (ix2 (fgc d h) x)) := by
  fin_cases d <;> fin_cases h
  · show (a0 f w).bl (ix2 0 0) = ∑ x : Fin 128, lsg (f.gt (ix2 (4) x))
    unfold a0 lsg absE
    try unfold_payloads
    pointwise
    rfl
  · show (a1 f w).bl (ix2 0 0) = ∑ x : Fin 128, lsg (f.gt (ix2 (5) x))
    unfold a1 lsg absE
    try unfold_payloads
    pointwise
    rfl
  · show (a2 f w).bl (ix2 0 0) = ∑ x : Fin 128, lsg (f.gt (ix2 (6) x))
    unfold a2 lsg absE
    try unfold_payloads
    pointwise
    rfl
  · show (a3 f w).bl (ix2 0 0) = ∑ x : Fin 128, lsg (f.gt (ix2 (7) x))
    unfold a3 lsg absE
    try unfold_payloads
    pointwise
    rfl
  · show (a4 b w).bl (ix2 0 0) = ∑ x : Fin 128, lsg (b.gt (ix2 (12) x))
    unfold a4 lsg absE
    try unfold_payloads
    pointwise
    rfl
  · show (a5 b w).bl (ix2 0 0) = ∑ x : Fin 128, lsg (b.gt (ix2 (13) x))
    unfold a5 lsg absE
    try unfold_payloads
    pointwise
    rfl
  · show (a6 b w).bl (ix2 0 0) = ∑ x : Fin 128, lsg (b.gt (ix2 (14) x))
    unfold a6 lsg absE
    try unfold_payloads
    pointwise
    rfl
  · show (a7 b w).bl (ix2 0 0) = ∑ x : Fin 128, lsg (b.gt (ix2 (15) x))
    unfold a7 lsg absE
    try unfold_payloads
    pointwise
    rfl

/-- The input gates, as a row. -/
theorem args_ir (d : Fin 2) (h : Fin 4) (s : Fin 128) :
    (args f b w (hd d h)).ir (ix2 0 s) = (side f b d).gt (ix2 (igc d h) s) := by
  fin_cases d <;> fin_cases h
  · show (a0 f w).ir (ix2 0 s) = f.gt (ix2 (0) s)
    unfold a0
    try unfold_payloads
    pointwise
  · show (a1 f w).ir (ix2 0 s) = f.gt (ix2 (1) s)
    unfold a1
    try unfold_payloads
    pointwise
  · show (a2 f w).ir (ix2 0 s) = f.gt (ix2 (2) s)
    unfold a2
    try unfold_payloads
    pointwise
  · show (a3 f w).ir (ix2 0 s) = f.gt (ix2 (3) s)
    unfold a3
    try unfold_payloads
    pointwise
  · show (a4 b w).ir (ix2 0 s) = b.gt (ix2 (8) s)
    unfold a4
    try unfold_payloads
    pointwise
  · show (a5 b w).ir (ix2 0 s) = b.gt (ix2 (9) s)
    unfold a5
    try unfold_payloads
    pointwise
  · show (a6 b w).ir (ix2 0 s) = b.gt (ix2 (10) s)
    unfold a6
    try unfold_payloads
    pointwise
  · show (a7 b w).ir (ix2 0 s) = b.gt (ix2 (11) s)
    unfold a7
    try unfold_payloads
    pointwise

/-- The input gates, as a column. -/
theorem args_ic (d : Fin 2) (h : Fin 4) (s : Fin 128) :
    (args f b w (hd d h)).ic (ix2 s 0) = (side f b d).g (ix2 s (igc d h)) := by
  fin_cases d <;> fin_cases h
  · show (a0 f w).ic (ix2 s 0) = f.g (ix2 s (0))
    unfold a0 cols0
    try unfold_payloads
    pointwise
  · show (a1 f w).ic (ix2 s 0) = f.g (ix2 s (1))
    unfold a1 cols0
    try unfold_payloads
    pointwise
  · show (a2 f w).ic (ix2 s 0) = f.g (ix2 s (2))
    unfold a2 cols0
    try unfold_payloads
    pointwise
  · show (a3 f w).ic (ix2 s 0) = f.g (ix2 s (3))
    unfold a3 cols0
    try unfold_payloads
    pointwise
  · show (a4 b w).ic (ix2 s 0) = b.g (ix2 s (8))
    unfold a4 cols8
    try unfold_payloads
    pointwise
  · show (a5 b w).ic (ix2 s 0) = b.g (ix2 s (9))
    unfold a5 cols8
    try unfold_payloads
    pointwise
  · show (a6 b w).ic (ix2 s 0) = b.g (ix2 s (10))
    unfold a6 cols8
    try unfold_payloads
    pointwise
  · show (a7 b w).ic (ix2 s 0) = b.g (ix2 s (11))
    unfold a7 cols8
    try unfold_payloads
    pointwise

/-- The queries. -/
theorem args_q (d : Fin 2) (h : Fin 4) (s : Fin 128) (x : Fin 64) :
    (args f b w (hd d h)).q (ix2 s x) = (side f b d).q (ix2 s (col h x)) := by
  fin_cases d <;> fin_cases h
  · show (a0 f w).q (ix2 s x) = f.q (ix2 s (col 0 x))
    unfold a0 col
    try unfold_payloads
    pointwise
    try rfl
  · show (a1 f w).q (ix2 s x) = f.q (ix2 s (col 1 x))
    unfold a1 col
    try unfold_payloads
    pointwise
    try rfl
  · show (a2 f w).q (ix2 s x) = f.q (ix2 s (col 2 x))
    unfold a2 col
    try unfold_payloads
    pointwise
    try rfl
  · show (a3 f w).q (ix2 s x) = f.q (ix2 s (col 3 x))
    unfold a3 col
    try unfold_payloads
    pointwise
    try rfl
  · show (a4 b w).q (ix2 s x) = b.q (ix2 s (col 0 x))
    unfold a4 col
    try unfold_payloads
    pointwise
    try rfl
  · show (a5 b w).q (ix2 s x) = b.q (ix2 s (col 1 x))
    unfold a5 col
    try unfold_payloads
    pointwise
    try rfl
  · show (a6 b w).q (ix2 s x) = b.q (ix2 s (col 2 x))
    unfold a6 col
    try unfold_payloads
    pointwise
    try rfl
  · show (a7 b w).q (ix2 s x) = b.q (ix2 s (col 3 x))
    unfold a7 col
    try unfold_payloads
    pointwise
    try rfl

/-- The keys. -/
theorem args_k (d : Fin 2) (h : Fin 4) (s : Fin 128) (x : Fin 64) :
    (args f b w (hd d h)).k (ix2 s x) = (side f b d).k (ix2 s (col h x)) := by
  fin_cases d <;> fin_cases h
  · show (a0 f w).k (ix2 s x) = f.k (ix2 s (col 0 x))
    unfold a0 col
    try unfold_payloads
    pointwise
    try rfl
  · show (a1 f w).k (ix2 s x) = f.k (ix2 s (col 1 x))
    unfold a1 col
    try unfold_payloads
    pointwise
    try rfl
  · show (a2 f w).k (ix2 s x) = f.k (ix2 s (col 2 x))
    unfold a2 col
    try unfold_payloads
    pointwise
    try rfl
  · show (a3 f w).k (ix2 s x) = f.k (ix2 s (col 3 x))
    unfold a3 col
    try unfold_payloads
    pointwise
    try rfl
  · show (a4 b w).k (ix2 s x) = b.k (ix2 s (col 0 x))
    unfold a4 col
    try unfold_payloads
    pointwise
    try rfl
  · show (a5 b w).k (ix2 s x) = b.k (ix2 s (col 1 x))
    unfold a5 col
    try unfold_payloads
    pointwise
    try rfl
  · show (a6 b w).k (ix2 s x) = b.k (ix2 s (col 2 x))
    unfold a6 col
    try unfold_payloads
    pointwise
    try rfl
  · show (a7 b w).k (ix2 s x) = b.k (ix2 s (col 3 x))
    unfold a7 col
    try unfold_payloads
    pointwise
    try rfl

/-- The values. -/
theorem args_v (d : Fin 2) (h : Fin 4) (s : Fin 128) (x : Fin 64) :
    (args f b w (hd d h)).v (ix2 s x) = (side f b d).v (ix2 s (col h x)) := by
  fin_cases d <;> fin_cases h
  · show (a0 f w).v (ix2 s x) = f.v (ix2 s (col 0 x))
    unfold a0 col
    try unfold_payloads
    pointwise
    try rfl
  · show (a1 f w).v (ix2 s x) = f.v (ix2 s (col 1 x))
    unfold a1 col
    try unfold_payloads
    pointwise
    try rfl
  · show (a2 f w).v (ix2 s x) = f.v (ix2 s (col 2 x))
    unfold a2 col
    try unfold_payloads
    pointwise
    try rfl
  · show (a3 f w).v (ix2 s x) = f.v (ix2 s (col 3 x))
    unfold a3 col
    try unfold_payloads
    pointwise
    try rfl
  · show (a4 b w).v (ix2 s x) = b.v (ix2 s (col 0 x))
    unfold a4 col
    try unfold_payloads
    pointwise
    try rfl
  · show (a5 b w).v (ix2 s x) = b.v (ix2 s (col 1 x))
    unfold a5 col
    try unfold_payloads
    pointwise
    try rfl
  · show (a6 b w).v (ix2 s x) = b.v (ix2 s (col 2 x))
    unfold a6 col
    try unfold_payloads
    pointwise
    try rfl
  · show (a7 b w).v (ix2 s x) = b.v (ix2 s (col 3 x))
    unfold a7 col
    try unfold_payloads
    pointwise
    try rfl

/-- The matrix state. -/
theorem args_c (d : Fin 2) (h : Fin 4) (e x : Fin 64) :
    (args f b w (hd d h)).c (ix4 0 0 e x) = w.c (ix4 d h e x) := by
  fin_cases d <;> fin_cases h
  · show (a0 f w).c (ix4 0 0 e x) = w.c (ix4 0 0 e x)
    unfold a0
    try unfold_payloads
    pointwise
  · show (a1 f w).c (ix4 0 0 e x) = w.c (ix4 0 1 e x)
    unfold a1
    try unfold_payloads
    pointwise
  · show (a2 f w).c (ix4 0 0 e x) = w.c (ix4 0 2 e x)
    unfold a2
    try unfold_payloads
    pointwise
  · show (a3 f w).c (ix4 0 0 e x) = w.c (ix4 0 3 e x)
    unfold a3
    try unfold_payloads
    pointwise
  · show (a4 b w).c (ix4 0 0 e x) = w.c (ix4 1 0 e x)
    unfold a4
    try unfold_payloads
    pointwise
  · show (a5 b w).c (ix4 0 0 e x) = w.c (ix4 1 1 e x)
    unfold a5
    try unfold_payloads
    pointwise
  · show (a6 b w).c (ix4 0 0 e x) = w.c (ix4 1 2 e x)
    unfold a6
    try unfold_payloads
    pointwise
  · show (a7 b w).c (ix4 0 0 e x) = w.c (ix4 1 3 e x)
    unfold a7
    try unfold_payloads
    pointwise

/-- The normalizer. -/
theorem args_n (d : Fin 2) (h : Fin 4) (x : Fin 64) :
    (args f b w (hd d h)).n (ix2 0 x) = w.n (ix2 (hd d h) x) := by
  fin_cases d <;> fin_cases h
  · show (a0 f w).n (ix2 0 x) = w.n (ix2 0 x)
    unfold a0
    try unfold_payloads
    pointwise
  · show (a1 f w).n (ix2 0 x) = w.n (ix2 1 x)
    unfold a1
    try unfold_payloads
    pointwise
  · show (a2 f w).n (ix2 0 x) = w.n (ix2 2 x)
    unfold a2
    try unfold_payloads
    pointwise
  · show (a3 f w).n (ix2 0 x) = w.n (ix2 3 x)
    unfold a3
    try unfold_payloads
    pointwise
  · show (a4 b w).n (ix2 0 x) = w.n (ix2 4 x)
    unfold a4
    try unfold_payloads
    pointwise
  · show (a5 b w).n (ix2 0 x) = w.n (ix2 5 x)
    unfold a5
    try unfold_payloads
    pointwise
  · show (a6 b w).n (ix2 0 x) = w.n (ix2 6 x)
    unfold a6
    try unfold_payloads
    pointwise
  · show (a7 b w).n (ix2 0 x) = w.n (ix2 7 x)
    unfold a7
    try unfold_payloads
    pointwise

/-- The stabilizer. -/
theorem args_m (d : Fin 2) (h : Fin 4) :
    (args f b w (hd d h)).m (ix2 0 0) = w.m (ix2 (hd d h) 0) := by
  fin_cases d <;> fin_cases h
  · show (a0 f w).m (ix2 0 0) = w.m (ix2 0 0)
    unfold a0
    try unfold_payloads
    pointwise
  · show (a1 f w).m (ix2 0 0) = w.m (ix2 1 0)
    unfold a1
    try unfold_payloads
    pointwise
  · show (a2 f w).m (ix2 0 0) = w.m (ix2 2 0)
    unfold a2
    try unfold_payloads
    pointwise
  · show (a3 f w).m (ix2 0 0) = w.m (ix2 3 0)
    unfold a3
    try unfold_payloads
    pointwise
  · show (a4 b w).m (ix2 0 0) = w.m (ix2 4 0)
    unfold a4
    try unfold_payloads
    pointwise
  · show (a5 b w).m (ix2 0 0) = w.m (ix2 5 0)
    unfold a5
    try unfold_payloads
    pointwise
  · show (a6 b w).m (ix2 0 0) = w.m (ix2 6 0)
    unfold a6
    try unfold_payloads
    pointwise
  · show (a7 b w).m (ix2 0 0) = w.m (ix2 7 0)
    unfold a7
    try unfold_payloads
    pointwise

end Cert.MlstmIdeal.Head

end
-- ==== Proof.MlstmBlocks.lean ====
module

public import proofs.«01_k».proof.Proof.MlstmRead
public import Idealize.ShloMosaic.Lib.Pipeline.ValueKit
public import Idealize.ShloMosaic.Lib.Pointwise

@[expose] public section

set_option maxRecDepth 16384

noncomputable section

namespace Cert.MlstmIdeal.Head

open Cert.MlstmIdeal Cert.MlstmIdeal.Gen Cert.MlstmMath Idealize.ShloMosaic Idealize.ShloMosaic.TcCoe Idealize.SL.Sem

variable (m : (ℓ : Loc nD τ sig) → Buf (Elt Ideal) ℓ) (ρ : Dev nD → PrngReg)

/-- Where the block of window 0 lies at a grid point. -/
theorem idx0 : ∀ t : Fin cfg0.N, win0_0.index t = ![t.val, 7] := (by decide +kernel : ∀ t : Fin grid0.N, win0_0.index t = ![t.val, 7])
/-- Where the block of window 1 lies at a grid point. -/
theorem idx1 : ∀ t : Fin cfg0.N, win0_1.index t = ![t.val, 8] := (by decide +kernel : ∀ t : Fin grid0.N, win0_1.index t = ![t.val, 8])
/-- Where the block of window 2 lies at a grid point. -/
theorem idx2 : ∀ t : Fin cfg0.N, win0_2.index t = ![t.val, 9] := (by decide +kernel : ∀ t : Fin grid0.N, win0_2.index t = ![t.val, 9])
/-- Where the block of window 3 lies at a grid point. -/
theorem idx3 : ∀ t : Fin cfg0.N, win0_3.index t = ![t.val, 0] := (by decide +kernel : ∀ t : Fin grid0.N, win0_3.index t = ![t.val, 0])
/-- Where the block of window 4 lies at a grid point. -/
theorem idx4 : ∀ t : Fin cfg0.N, win0_4.index t = ![0, t.val] := (by decide +kernel : ∀ t : Fin grid0.N, win0_4.index t = ![0, t.val])
/-- Where the block of window 5 lies at a grid point. -/
theorem idx5 : ∀ t : Fin cfg0.N, win0_5.index t = ![2 * (t.val / 2) + 1 - t.val % 2, 7] := (by decide +kernel : ∀ t : Fin grid0.N, win0_5.index t = ![2 * (t.val / 2) + 1 - t.val % 2, 7])
/-- Where the block of window 6 lies at a grid point. -/
theorem idx6 : ∀ t : Fin cfg0.N, win0_6.index t = ![2 * (t.val / 2) + 1 - t.val % 2, 8] := (by decide +kernel : ∀ t : Fin grid0.N, win0_6.index t = ![2 * (t.val / 2) + 1 - t.val % 2, 8])
/-- Where the block of window 7 lies at a grid point. -/
theorem idx7 : ∀ t : Fin cfg0.N, win0_7.index t = ![2 * (t.val / 2) + 1 - t.val % 2, 9] := (by decide +kernel : ∀ t : Fin grid0.N, win0_7.index t = ![2 * (t.val / 2) + 1 - t.val % 2, 9])
/-- Where the block of window 8 lies at a grid point. -/
theorem idx8 : ∀ t : Fin cfg0.N, win0_8.index t = ![2 * (t.val / 2) + 1 - t.val % 2, 0] := (by decide +kernel : ∀ t : Fin grid0.N, win0_8.index t = ![2 * (t.val / 2) + 1 - t.val % 2, 0])
/-- Where the block of window 9 lies at a grid point. -/
theorem idx9 : ∀ t : Fin cfg0.N, win0_9.index t = ![0, 2 * (t.val / 2) + 1 - t.val % 2] := (by decide +kernel : ∀ t : Fin grid0.N, win0_9.index t = ![0, 2 * (t.val / 2) + 1 - t.val % 2])
/-- Where the block of window 10 lies at a grid point. -/
theorem idx10 : ∀ t : Fin cfg0.N, win0_10.index t = ![t.val / 2, 0, 0, 0, 0] := (by decide +kernel : ∀ t : Fin grid0.N, win0_10.index t = ![t.val / 2, 0, 0, 0, 0])
/-- Where the block of window 11 lies at a grid point. -/
theorem idx11 : ∀ t : Fin cfg0.N, win0_11.index t = ![t.val / 2, 0, 0] := (by decide +kernel : ∀ t : Fin grid0.N, win0_11.index t = ![t.val / 2, 0, 0])
/-- Where the block of window 12 lies at a grid point. -/
theorem idx12 : ∀ t : Fin cfg0.N, win0_12.index t = ![t.val / 2, 0, 0] := (by decide +kernel : ∀ t : Fin grid0.N, win0_12.index t = ![t.val / 2, 0, 0])
/-- Where the block of window 13 lies at a grid point. -/
theorem idx13 : ∀ t : Fin cfg0.N, win0_13.index t = ![0, 0] := (by decide +kernel : ∀ t : Fin grid0.N, win0_13.index t = ![0, 0])
/-- Where the block of window 14 lies at a grid point. -/
theorem idx14 : ∀ t : Fin cfg0.N, win0_14.index t = ![0, 0] := (by decide +kernel : ∀ t : Fin grid0.N, win0_14.index t = ![0, 0])
/-- Where the block of window 15 lies at a grid point. -/
theorem idx15 : ∀ t : Fin cfg0.N, win0_15.index t = ![t.val, 0] := (by decide +kernel : ∀ t : Fin grid0.N, win0_15.index t = ![t.val, 0])
/-- Where the block of window 16 lies at a grid point. -/
theorem idx16 : ∀ t : Fin cfg0.N, win0_16.index t = ![2 * (t.val / 2) + 1 - t.val % 2, 0] := (by decide +kernel : ∀ t : Fin grid0.N, win0_16.index t = ![2 * (t.val / 2) + 1 - t.val % 2, 0])
/-- Where the block of window 17 lies at a grid point. -/
theorem idx17 : ∀ t : Fin cfg0.N, win0_17.index t = ![t.val / 2, 0, 0, 0, 0] := (by decide +kernel : ∀ t : Fin grid0.N, win0_17.index t = ![t.val / 2, 0, 0, 0, 0])
/-- Where the block of window 18 lies at a grid point. -/
theorem idx18 : ∀ t : Fin cfg0.N, win0_18.index t = ![t.val / 2, 0, 0] := (by decide +kernel : ∀ t : Fin grid0.N, win0_18.index t = ![t.val / 2, 0, 0])
/-- Where the block of window 19 lies at a grid point. -/
theorem idx19 : ∀ t : Fin cfg0.N, win0_19.index t = ![t.val / 2, 0, 0] := (by decide +kernel : ∀ t : Fin grid0.N, win0_19.index t = ![t.val / 2, 0, 0])

/-- There are thirty-two grid points. -/
theorem N32 (t : Fin cfg0.N) : t.val < 32 := lt_of_lt_of_eq t.isLt N_0

/-- The projected tokens and the gates, by row and column. -/
def tokP (c : Dev nD) (r : Fin 4096) (y : Fin 2816) : EReal := m ((c : Thread nD τ).loc main_arg0) (ix2 r y)

/-- The gates, by row and column. -/
def tokG (c : Dev nD) (r : Fin 4096) (y : Fin 16) : EReal := m ((c : Thread nD τ).loc main_arg1) (ix2 r y)

/-- The block of window 0 at a grid point, read from the arguments. -/
theorem blk0 (c : Dev nD) (t : Fin cfg0.N) (s : Fin 128) (y : Fin 256) (h : t.val * 128 + s.val < 4096) :
    iblk m c 0 t (ix2 s y) = m ((c : Thread nD τ).loc main_arg0) (ix2 ⟨t.val * 128 + s.val, h⟩ ⟨1792 + y.val, by omega⟩) := by
  blk_ext [iblk, V, idx0]
/-- The block of window 1 at a grid point, read from the arguments. -/
theorem blk1 (c : Dev nD) (t : Fin cfg0.N) (s : Fin 128) (y : Fin 256) (h : t.val * 128 + s.val < 4096) :
    iblk m c 1 t (ix2 s y) = m ((c : Thread nD τ).loc main_arg0) (ix2 ⟨t.val * 128 + s.val, h⟩ ⟨2048 + y.val, by omega⟩) := by
  blk_ext [iblk, V, idx1]
/-- The block of window 2 at a grid point, read from the arguments. -/
theorem blk2 (c : Dev nD) (t : Fin cfg0.N) (s : Fin 128) (y : Fin 256) (h : t.val * 128 + s.val < 4096) :
    iblk m c 2 t (ix2 s y) = m ((c : Thread nD τ).loc main_arg0) (ix2 ⟨t.val * 128 + s.val, h⟩ ⟨2304 + y.val, by omega⟩) := by
  blk_ext [iblk, V, idx2]
/-- The block of window 5 at a grid point, read from the arguments. -/
theorem blk5 (c : Dev nD) (t : Fin cfg0.N) (s : Fin 128) (y : Fin 256) (h : (2 * (t.val / 2) + 1 - t.val % 2) * 128 + s.val < 4096) :
    iblk m c 5 t (ix2 s y) = m ((c : Thread nD τ).loc main_arg0) (ix2 ⟨(2 * (t.val / 2) + 1 - t.val % 2) * 128 + s.val, h⟩ ⟨1792 + y.val, by omega⟩) := by
  blk_ext [iblk, V, idx5]
/-- The block of window 6 at a grid point, read from the arguments. -/
theorem blk6 (c : Dev nD) (t : Fin cfg0.N) (s : Fin 128) (y : Fin 256) (h : (2 * (t.val / 2) + 1 - t.val % 2) * 128 + s.val < 4096) :
    iblk m c 6 t (ix2 s y) = m ((c : Thread nD τ).loc main_arg0) (ix2 ⟨(2 * (t.val / 2) + 1 - t.val % 2) * 128 + s.val, h⟩ ⟨2048 + y.val, by omega⟩) := by
  blk_ext [iblk, V, idx6]
/-- The block of window 7 at a grid point, read from the arguments. -/
theorem blk7 (c : Dev nD) (t : Fin cfg0.N) (s : Fin 128) (y : Fin 256) (h : (2 * (t.val / 2) + 1 - t.val % 2) * 128 + s.val < 4096) :
    iblk m c 7 t (ix2 s y) = m ((c : Thread nD τ).loc main_arg0) (ix2 ⟨(2 * (t.val / 2) + 1 - t.val % 2) * 128 + s.val, h⟩ ⟨2304 + y.val, by omega⟩) := by
  blk_ext [iblk, V, idx7]
/-- The block of window 3 at a grid point, read from the arguments. -/
theorem blk3 (c : Dev nD) (t : Fin cfg0.N) (s : Fin 128) (y : Fin 16) (h : t.val * 128 + s.val < 4096) :
    iblk m c 3 t (ix2 s y) = m ((c : Thread nD τ).loc main_arg1) (ix2 ⟨t.val * 128 + s.val, h⟩ y) := by
  blk_ext [iblk, V, idx3]
/-- The block of window 8 at a grid point, read from the arguments. -/
theorem blk8 (c : Dev nD) (t : Fin cfg0.N) (s : Fin 128) (y : Fin 16) (h : (2 * (t.val / 2) + 1 - t.val % 2) * 128 + s.val < 4096) :
    iblk m c 8 t (ix2 s y) = m ((c : Thread nD τ).loc main_arg1) (ix2 ⟨(2 * (t.val / 2) + 1 - t.val % 2) * 128 + s.val, h⟩ y) := by
  blk_ext [iblk, V, idx8]
/-- The block of window 4 at a grid point, read from the arguments. -/
theorem blk4 (c : Dev nD) (t : Fin cfg0.N) (s : Fin 128) (y : Fin 16) (h : t.val * 128 + s.val < 4096) :
    iblk m c 4 t (ix2 y s) = m ((c : Thread nD τ).loc main_arg1) (ix2 ⟨t.val * 128 + s.val, h⟩ y) := by
  refine Eq.trans (b := V m c main_v16 (ix2 y ⟨t.val * 128 + s.val, h⟩)) ?_ ?_
  · blk_ext [iblk, idx4]
  · show transpose S16x4096 [1, 0] (m ((c : Thread nD τ).loc main_arg1)) transposes_S4096x16_S16x4096_1_0 (ix2 y ⟨t.val * 128 + s.val, h⟩) = _
    pointwise
/-- The block of window 9 at a grid point, read from the arguments. -/
theorem blk9 (c : Dev nD) (t : Fin cfg0.N) (s : Fin 128) (y : Fin 16) (h : (2 * (t.val / 2) + 1 - t.val % 2) * 128 + s.val < 4096) :
    iblk m c 9 t (ix2 y s) = m ((c : Thread nD τ).loc main_arg1) (ix2 ⟨(2 * (t.val / 2) + 1 - t.val % 2) * 128 + s.val, h⟩ y) := by
  refine Eq.trans (b := V m c main_v16 (ix2 y ⟨(2 * (t.val / 2) + 1 - t.val % 2) * 128 + s.val, h⟩)) ?_ ?_
  · blk_ext [iblk, idx9]
  · show transpose S16x4096 [1, 0] (m ((c : Thread nD τ).loc main_arg1)) transposes_S4096x16_S16x4096_1_0 (ix2 y ⟨(2 * (t.val / 2) + 1 - t.val % 2) * 128 + s.val, h⟩) = _
    pointwise

/-- The states start at nothing. -/
theorem zero10 (c : Dev nD) (t : Fin cfg0.N) (i) : k0_pay6 (F := Ideal) (iblk m c 10 t) i = 0 := Ideal.ofBits_zero_f32
/-- The normalizers start at zero. -/
theorem zero11 (c : Dev nD) (t : Fin cfg0.N) (i) : k0_pay7 (F := Ideal) (iblk m c 11 t) i = 0 := Ideal.ofBits_zero_f32
/-- The stabilizers start at zero. -/
theorem zero12 (c : Dev nD) (t : Fin cfg0.N) (i) : k0_pay8 (F := Ideal) (iblk m c 12 t) i = 0 := Ideal.ofBits_zero_f32

/-- The two masks. -/
def tri : FVec Ideal S128x128 .f32 := uitofp (F := Ideal) .f32 (cmpi .sge
  (broadcastInDim S128x128 ![0, 1] bcast_S128x1_S128x128_0_1 (broadcastInDim S128x1 ![0] bcast_S128_S128x1_0 (iotaInDim S128 32 0)))
  (broadcastInDim S128x128 ![0, 1] bcast_S1x128_S128x128_0_1 (broadcastInDim S1x128 ![1] bcast_S128_S1x128_1 (iotaInDim S128 32 0))))

/-- The mask of the tokens from the present one on. -/
def triu : FVec Ideal S128x128 .f32 := uitofp (F := Ideal) .f32 (cmpi .sle
  (broadcastInDim S128x128 ![0, 1] bcast_S128x1_S128x128_0_1 (broadcastInDim S128x1 ![0] bcast_S128_S128x1_0 (iotaInDim S128 32 0)))
  (broadcastInDim S128x128 ![0, 1] bcast_S1x128_S128x128_0_1 (broadcastInDim S1x128 ![1] bcast_S128_S1x128_1 (iotaInDim S128 32 0))))

/-- The lower mask as the body reads it. -/
theorem blk13 (c : Dev nD) (t : Fin cfg0.N) (r s : Fin 128) : iblk m c 13 t (ix2 r s) = tri (ix2 r s) := by
  refine Eq.trans (b := V m c main_v6 (ix2 r s)) ?_ rfl
  blk_ext [iblk, idx13]

/-- The upper mask as the body reads it. -/
theorem blk14 (c : Dev nD) (t : Fin cfg0.N) (r s : Fin 128) : iblk m c 14 t (ix2 r s) = triu (ix2 r s) := by
  refine Eq.trans (b := V m c main_v12 (ix2 r s)) ?_ rfl
  blk_ext [iblk, idx14]

/-- The bit one as a number. -/
theorem uitofp_one : FloatOps.uitofp (F := Ideal) .f32 (BitVec.ofBool true) = (1 : EReal) := by
  show (((1 : ℕ) : ℝ) : EReal) = 1
  norm_num

/-- The bit zero as a number. -/
theorem uitofp_zero : FloatOps.uitofp (F := Ideal) .f32 (BitVec.ofBool false) = (0 : EReal) := by
  show (((0 : ℕ) : ℝ) : EReal) = 0
  norm_num

/-- The lower mask at an index. -/
theorem tri_apply (r s : Fin 128) : tri (ix2 r s) = if s.val ≤ r.val then 1 else 0 := by
  pointwise [tri]
  rw [WordCmp.cmpi_sge_ofNat (by omega) (by omega)]
  by_cases h : s.val ≤ r.val
  · rw [if_pos h, decide_eq_true h]
    exact uitofp_one
  · rw [if_neg h, decide_eq_false h]
    exact uitofp_zero

/-- The upper mask at an index. -/
theorem triu_apply (r s : Fin 128) : triu (ix2 r s) = if r.val ≤ s.val then 1 else 0 := by
  pointwise [triu]
  rw [WordCmp.cmpi_sle_ofNat (by omega) (by omega)]
  by_cases h : r.val ≤ s.val
  · rw [if_pos h, decide_eq_true h]
    exact uitofp_one
  · rw [if_neg h, decide_eq_false h]
    exact uitofp_zero

end Cert.MlstmIdeal.Head

end
-- ==== Proof.MlstmStepA.lean ====
module

public import proofs.«01_k».proof.Proof.MlstmArgs
public import Idealize.ShloMosaic.Lib.Pipeline.ValueKit.Tiles
public import Idealize.ShloMosaic.Lib.Pipeline.ReadBack

@[expose] public section

set_option maxRecDepth 16384

noncomputable section

namespace Cert.MlstmIdeal.Head

open Cert.MlstmIdeal Cert.MlstmIdeal.Gen Cert.MlstmMath Idealize.ShloMosaic Idealize.ShloMosaic.TcCoe Idealize.SL.Sem

variable (m : (ℓ : Loc nD τ sig) → Buf (Elt Ideal) ℓ) (ρ : Dev nD → PrngReg)

set_option maxHeartbeats 4000000 in
/-- The stabilizers after the first chunk, head by head. -/
theorem mA (c : Dev nD) (t : Fin cfg0.N) (h0 : t.val % 2 = 0) (h1 : ¬t.val % 2 = 1) :
    (outsAt0 m c t.val t.isLt).2.2.2.2.2.2.2 = tabM fun j => gM (args (fwd m c t) (bwd m c t) ⟨k0_pay6 (iblk m c 10 t), k0_pay7 (iblk m c 11 t), k0_pay8 (iblk m c 12 t)⟩ j) := by
  rw [outsAt0_A m c t h0 h1]
  dsimp only
  frame_open
  simp (disch := decide) only [↓ View.readCov_skip, ↓ View.readCov_cons_toLoadRect, ↓ View.readCov_fill]
  frame_out
  funext y
  refine View.canon_append_of_piecesOf (Val := Elt Ideal) (e := .f32) (tabM fun j => gM (args (fwd m c t) (bwd m c t) ⟨k0_pay6 (iblk m c 10 t), k0_pay7 (iblk m c 11 t), k0_pay8 (iblk m c 12 t)⟩ j)) [_] [_, _, _, _, _, _, _, _] ⟨?_, ?_, ?_, ?_, ?_, ?_, ?_, ?_, trivial⟩ y ?_
  · exact pieceM _ 7 inb_S8x1_S1x1_7_0 _ (by
      show _ = gM (a7 (bwd m c t) ⟨k0_pay6 (iblk m c 10 t), k0_pay7 (iblk m c 11 t), k0_pay8 (iblk m c 12 t)⟩)
      unfold_payloads
      dsimp only [gM, gTop, a7, bwd, cols8]
      try rfl)
  · exact pieceM _ 6 inb_S8x1_S1x1_6_0 _ (by
      show _ = gM (a6 (bwd m c t) ⟨k0_pay6 (iblk m c 10 t), k0_pay7 (iblk m c 11 t), k0_pay8 (iblk m c 12 t)⟩)
      unfold_payloads
      dsimp only [gM, gTop, a6, bwd, cols8]
      try rfl)
  · exact pieceM _ 5 inb_S8x1_S1x1_5_0 _ (by
      show _ = gM (a5 (bwd m c t) ⟨k0_pay6 (iblk m c 10 t), k0_pay7 (iblk m c 11 t), k0_pay8 (iblk m c 12 t)⟩)
      unfold_payloads
      dsimp only [gM, gTop, a5, bwd, cols8]
      try rfl)
  · exact pieceM _ 4 inb_S8x1_S1x1_4_0 _ (by
      show _ = gM (a4 (bwd m c t) ⟨k0_pay6 (iblk m c 10 t), k0_pay7 (iblk m c 11 t), k0_pay8 (iblk m c 12 t)⟩)
      unfold_payloads
      dsimp only [gM, gTop, a4, bwd, cols8]
      try rfl)
  · exact pieceM _ 3 inb_S8x1_S1x1_3_0 _ (by
      show _ = gM (a3 (fwd m c t) ⟨k0_pay6 (iblk m c 10 t), k0_pay7 (iblk m c 11 t), k0_pay8 (iblk m c 12 t)⟩)
      unfold_payloads
      dsimp only [gM, gTop, a3, fwd, cols0]
      try rfl)
  · exact pieceM _ 2 inb_S8x1_S1x1_2_0 _ (by
      show _ = gM (a2 (fwd m c t) ⟨k0_pay6 (iblk m c 10 t), k0_pay7 (iblk m c 11 t), k0_pay8 (iblk m c 12 t)⟩)
      unfold_payloads
      dsimp only [gM, gTop, a2, fwd, cols0]
      try rfl)
  · exact pieceM _ 1 inb_S8x1_S1x1_1_0 _ (by
      show _ = gM (a1 (fwd m c t) ⟨k0_pay6 (iblk m c 10 t), k0_pay7 (iblk m c 11 t), k0_pay8 (iblk m c 12 t)⟩)
      unfold_payloads
      dsimp only [gM, gTop, a1, fwd, cols0]
      try rfl)
  · exact pieceM _ 0 inb_S8x1_S1x1_0_0 _ (by
      show _ = gM (a0 (fwd m c t) ⟨k0_pay6 (iblk m c 10 t), k0_pay7 (iblk m c 11 t), k0_pay8 (iblk m c 12 t)⟩)
      unfold_payloads
      dsimp only [gM, gTop, a0, fwd, cols0]
      try rfl)
  · obtain ⟨j, rfl⟩ : ∃ j : Fin 8, y = ix2 j 0 := exM y
    fin_cases j
    · exact ⟨_, .tail _ (.tail _ (.tail _ (.tail _ (.tail _ (.tail _ (.tail _ (.head _))))))), memM 0 inb_S8x1_S1x1_0_0⟩
    · exact ⟨_, .tail _ (.tail _ (.tail _ (.tail _ (.tail _ (.tail _ (.head _)))))), memM 1 inb_S8x1_S1x1_1_0⟩
    · exact ⟨_, .tail _ (.tail _ (.tail _ (.tail _ (.tail _ (.head _))))), memM 2 inb_S8x1_S1x1_2_0⟩
    · exact ⟨_, .tail _ (.tail _ (.tail _ (.tail _ (.head _)))), memM 3 inb_S8x1_S1x1_3_0⟩
    · exact ⟨_, .tail _ (.tail _ (.tail _ (.head _))), memM 4 inb_S8x1_S1x1_4_0⟩
    · exact ⟨_, .tail _ (.tail _ (.head _)), memM 5 inb_S8x1_S1x1_5_0⟩
    · exact ⟨_, .tail _ (.head _), memM 6 inb_S8x1_S1x1_6_0⟩
    · exact ⟨_, .head _, memM 7 inb_S8x1_S1x1_7_0⟩

set_option maxHeartbeats 4000000 in
/-- The normalizers after the first chunk, head by head. -/
theorem nA (c : Dev nD) (t : Fin cfg0.N) (h0 : t.val % 2 = 0) (h1 : ¬t.val % 2 = 1) :
    (outsAt0 m c t.val t.isLt).2.2.2.2.2.2.1 = tabN fun j => gN (args (fwd m c t) (bwd m c t) ⟨k0_pay6 (iblk m c 10 t), k0_pay7 (iblk m c 11 t), k0_pay8 (iblk m c 12 t)⟩ j) := by
  rw [outsAt0_A m c t h0 h1]
  dsimp only
  frame_open
  simp (disch := decide) only [↓ View.readCov_skip, ↓ View.readCov_cons_toLoadRect, ↓ View.readCov_fill]
  frame_out
  funext y
  refine View.canon_append_of_piecesOf (Val := Elt Ideal) (e := .f32) (tabN fun j => gN (args (fwd m c t) (bwd m c t) ⟨k0_pay6 (iblk m c 10 t), k0_pay7 (iblk m c 11 t), k0_pay8 (iblk m c 12 t)⟩ j)) [_] [_, _, _, _, _, _, _, _] ⟨?_, ?_, ?_, ?_, ?_, ?_, ?_, ?_, trivial⟩ y ?_
  · exact pieceN _ 7 inb_S8x64_S1x64_7_0 _ (by
      show _ = gN (a7 (bwd m c t) ⟨k0_pay6 (iblk m c 10 t), k0_pay7 (iblk m c 11 t), k0_pay8 (iblk m c 12 t)⟩)
      unfold_payloads
      dsimp only [gN, gTop, gKeep, gAdd, gKey, a7, bwd, cols8]
      try rfl)
  · exact pieceN _ 6 inb_S8x64_S1x64_6_0 _ (by
      show _ = gN (a6 (bwd m c t) ⟨k0_pay6 (iblk m c 10 t), k0_pay7 (iblk m c 11 t), k0_pay8 (iblk m c 12 t)⟩)
      unfold_payloads
      dsimp only [gN, gTop, gKeep, gAdd, gKey, a6, bwd, cols8]
      try rfl)
  · exact pieceN _ 5 inb_S8x64_S1x64_5_0 _ (by
      show _ = gN (a5 (bwd m c t) ⟨k0_pay6 (iblk m c 10 t), k0_pay7 (iblk m c 11 t), k0_pay8 (iblk m c 12 t)⟩)
      unfold_payloads
      dsimp only [gN, gTop, gKeep, gAdd, gKey, a5, bwd, cols8]
      try rfl)
  · exact pieceN _ 4 inb_S8x64_S1x64_4_0 _ (by
      show _ = gN (a4 (bwd m c t) ⟨k0_pay6 (iblk m c 10 t), k0_pay7 (iblk m c 11 t), k0_pay8 (iblk m c 12 t)⟩)
      unfold_payloads
      dsimp only [gN, gTop, gKeep, gAdd, gKey, a4, bwd, cols8]
      try rfl)
  · exact pieceN _ 3 inb_S8x64_S1x64_3_0 _ (by
      show _ = gN (a3 (fwd m c t) ⟨k0_pay6 (iblk m c 10 t), k0_pay7 (iblk m c 11 t), k0_pay8 (iblk m c 12 t)⟩)
      unfold_payloads
      dsimp only [gN, gTop, gKeep, gAdd, gKey, a3, fwd, cols0]
      try rfl)
  · exact pieceN _ 2 inb_S8x64_S1x64_2_0 _ (by
      show _ = gN (a2 (fwd m c t) ⟨k0_pay6 (iblk m c 10 t), k0_pay7 (iblk m c 11 t), k0_pay8 (iblk m c 12 t)⟩)
      unfold_payloads
      dsimp only [gN, gTop, gKeep, gAdd, gKey, a2, fwd, cols0]
      try rfl)
  · exact pieceN _ 1 inb_S8x64_S1x64_1_0 _ (by
      show _ = gN (a1 (fwd m c t) ⟨k0_pay6 (iblk m c 10 t), k0_pay7 (iblk m c 11 t), k0_pay8 (iblk m c 12 t)⟩)
      unfold_payloads
      dsimp only [gN, gTop, gKeep, gAdd, gKey, a1, fwd, cols0]
      try rfl)
  · exact pieceN _ 0 inb_S8x64_S1x64_0_0 _ (by
      show _ = gN (a0 (fwd m c t) ⟨k0_pay6 (iblk m c 10 t), k0_pay7 (iblk m c 11 t), k0_pay8 (iblk m c 12 t)⟩)
      unfold_payloads
      dsimp only [gN, gTop, gKeep, gAdd, gKey, a0, fwd, cols0]
      try rfl)
  · obtain ⟨j, e, rfl⟩ : ∃ (j : Fin 8) (e : Fin 64), y = ix2 j e := exN y
    fin_cases j
    · exact ⟨_, .tail _ (.tail _ (.tail _ (.tail _ (.tail _ (.tail _ (.tail _ (.head _))))))), memN 0 _ inb_S8x64_S1x64_0_0⟩
    · exact ⟨_, .tail _ (.tail _ (.tail _ (.tail _ (.tail _ (.tail _ (.head _)))))), memN 1 _ inb_S8x64_S1x64_1_0⟩
    · exact ⟨_, .tail _ (.tail _ (.tail _ (.tail _ (.tail _ (.head _))))), memN 2 _ inb_S8x64_S1x64_2_0⟩
    · exact ⟨_, .tail _ (.tail _ (.tail _ (.tail _ (.head _)))), memN 3 _ inb_S8x64_S1x64_3_0⟩
    · exact ⟨_, .tail _ (.tail _ (.tail _ (.head _))), memN 4 _ inb_S8x64_S1x64_4_0⟩
    · exact ⟨_, .tail _ (.tail _ (.head _)), memN 5 _ inb_S8x64_S1x64_5_0⟩
    · exact ⟨_, .tail _ (.head _), memN 6 _ inb_S8x64_S1x64_6_0⟩
    · exact ⟨_, .head _, memN 7 _ inb_S8x64_S1x64_7_0⟩

set_option maxHeartbeats 4000000 in
/-- The matrix states after the first chunk, head by head. -/
theorem cA (c : Dev nD) (t : Fin cfg0.N) (h0 : t.val % 2 = 0) (h1 : ¬t.val % 2 = 1) :
    (outsAt0 m c t.val t.isLt).2.2.2.2.2.1 = tabC fun j => gC (args (fwd m c t) (bwd m c t) ⟨k0_pay6 (iblk m c 10 t), k0_pay7 (iblk m c 11 t), k0_pay8 (iblk m c 12 t)⟩ j) := by
  rw [outsAt0_A m c t h0 h1]
  dsimp only
  frame_open
  simp (disch := decide) only [↓ View.readCov_skip, ↓ View.readCov_cons_toLoadRect, ↓ View.readCov_fill]
  frame_out
  funext y
  refine View.canon_append_of_piecesOf (Val := Elt Ideal) (e := .f32) (tabC fun j => gC (args (fwd m c t) (bwd m c t) ⟨k0_pay6 (iblk m c 10 t), k0_pay7 (iblk m c 11 t), k0_pay8 (iblk m c 12 t)⟩ j)) [_] [_, _, _, _, _, _, _, _] ⟨?_, ?_, ?_, ?_, ?_, ?_, ?_, ?_, trivial⟩ y ?_
  · exact pieceC _ 1 3 inb_S2x4x64x64_S1x1x64x64_1_3_0_0 _ (by
      show _ = gC (a7 (bwd m c t) ⟨k0_pay6 (iblk m c 10 t), k0_pay7 (iblk m c 11 t), k0_pay8 (iblk m c 12 t)⟩)
      unfold_payloads
      dsimp only [gC, gTop, gKeep, gAdd, gKey, a7, bwd, cols8]
      try rfl)
  · exact pieceC _ 1 2 inb_S2x4x64x64_S1x1x64x64_1_2_0_0 _ (by
      show _ = gC (a6 (bwd m c t) ⟨k0_pay6 (iblk m c 10 t), k0_pay7 (iblk m c 11 t), k0_pay8 (iblk m c 12 t)⟩)
      unfold_payloads
      dsimp only [gC, gTop, gKeep, gAdd, gKey, a6, bwd, cols8]
      try rfl)
  · exact pieceC _ 1 1 inb_S2x4x64x64_S1x1x64x64_1_1_0_0 _ (by
      show _ = gC (a5 (bwd m c t) ⟨k0_pay6 (iblk m c 10 t), k0_pay7 (iblk m c 11 t), k0_pay8 (iblk m c 12 t)⟩)
      unfold_payloads
      dsimp only [gC, gTop, gKeep, gAdd, gKey, a5, bwd, cols8]
      try rfl)
  · exact pieceC _ 1 0 inb_S2x4x64x64_S1x1x64x64_1_0_0_0 _ (by
      show _ = gC (a4 (bwd m c t) ⟨k0_pay6 (iblk m c 10 t), k0_pay7 (iblk m c 11 t), k0_pay8 (iblk m c 12 t)⟩)
      unfold_payloads
      dsimp only [gC, gTop, gKeep, gAdd, gKey, a4, bwd, cols8]
      try rfl)
  · exact pieceC _ 0 3 inb_S2x4x64x64_S1x1x64x64_0_3_0_0 _ (by
      show _ = gC (a3 (fwd m c t) ⟨k0_pay6 (iblk m c 10 t), k0_pay7 (iblk m c 11 t), k0_pay8 (iblk m c 12 t)⟩)
      unfold_payloads
      dsimp only [gC, gTop, gKeep, gAdd, gKey, a3, fwd, cols0]
      try rfl)
  · exact pieceC _ 0 2 inb_S2x4x64x64_S1x1x64x64_0_2_0_0 _ (by
      show _ = gC (a2 (fwd m c t) ⟨k0_pay6 (iblk m c 10 t), k0_pay7 (iblk m c 11 t), k0_pay8 (iblk m c 12 t)⟩)
      unfold_payloads
      dsimp only [gC, gTop, gKeep, gAdd, gKey, a2, fwd, cols0]
      try rfl)
  · exact pieceC _ 0 1 inb_S2x4x64x64_S1x1x64x64_0_1_0_0 _ (by
      show _ = gC (a1 (fwd m c t) ⟨k0_pay6 (iblk m c 10 t), k0_pay7 (iblk m c 11 t), k0_pay8 (iblk m c 12 t)⟩)
      unfold_payloads
      dsimp only [gC, gTop, gKeep, gAdd, gKey, a1, fwd, cols0]
      try rfl)
  · exact pieceC _ 0 0 inb_S2x4x64x64_S1x1x64x64_0_0_0_0 _ (by
      show _ = gC (a0 (fwd m c t) ⟨k0_pay6 (iblk m c 10 t), k0_pay7 (iblk m c 11 t), k0_pay8 (iblk m c 12 t)⟩)
      unfold_payloads
      dsimp only [gC, gTop, gKeep, gAdd, gKey, a0, fwd, cols0]
      try rfl)
  · obtain ⟨d, h, e, x, rfl⟩ : ∃ (d : Fin 2) (h : Fin 4) (e x : Fin 64), y = ix4 d h e x := exC y
    fin_cases d <;> fin_cases h
    · exact ⟨_, .tail _ (.tail _ (.tail _ (.tail _ (.tail _ (.tail _ (.tail _ (.head _))))))), memC 0 0 _ _ inb_S2x4x64x64_S1x1x64x64_0_0_0_0⟩
    · exact ⟨_, .tail _ (.tail _ (.tail _ (.tail _ (.tail _ (.tail _ (.head _)))))), memC 0 1 _ _ inb_S2x4x64x64_S1x1x64x64_0_1_0_0⟩
    · exact ⟨_, .tail _ (.tail _ (.tail _ (.tail _ (.tail _ (.head _))))), memC 0 2 _ _ inb_S2x4x64x64_S1x1x64x64_0_2_0_0⟩
    · exact ⟨_, .tail _ (.tail _ (.tail _ (.tail _ (.head _)))), memC 0 3 _ _ inb_S2x4x64x64_S1x1x64x64_0_3_0_0⟩
    · exact ⟨_, .tail _ (.tail _ (.tail _ (.head _))), memC 1 0 _ _ inb_S2x4x64x64_S1x1x64x64_1_0_0_0⟩
    · exact ⟨_, .tail _ (.tail _ (.head _)), memC 1 1 _ _ inb_S2x4x64x64_S1x1x64x64_1_1_0_0⟩
    · exact ⟨_, .tail _ (.head _), memC 1 2 _ _ inb_S2x4x64x64_S1x1x64x64_1_2_0_0⟩
    · exact ⟨_, .head _, memC 1 3 _ _ inb_S2x4x64x64_S1x1x64x64_1_3_0_0⟩

set_option maxHeartbeats 4000000 in
/-- The forward tokens after the first chunk, head by head. -/
theorem hfA (c : Dev nD) (t : Fin cfg0.N) (h0 : t.val % 2 = 0) (h1 : ¬t.val % 2 = 1) :
    (outsAt0 m c t.val t.isLt).1 = tabH fun h => gOut (args (fwd m c t) (bwd m c t) ⟨k0_pay6 (iblk m c 10 t), k0_pay7 (iblk m c 11 t), k0_pay8 (iblk m c 12 t)⟩ (hd 0 h)) := by
  rw [outsAt0_A m c t h0 h1]
  dsimp only
  frame_open
  simp (disch := decide) only [↓ View.readCov_skip, ↓ View.readCov_cons_toLoadRect, ↓ View.readCov_fill]
  frame_out
  funext y
  refine View.canon_append_of_piecesOf (Val := Elt Ideal) (e := .f32) (tabH fun h => gOut (args (fwd m c t) (bwd m c t) ⟨k0_pay6 (iblk m c 10 t), k0_pay7 (iblk m c 11 t), k0_pay8 (iblk m c 12 t)⟩ (hd 0 h))) [] [_, _, _, _] ⟨?_, ?_, ?_, ?_, trivial⟩ y ?_
  · exact pieceH _ 3 192 rfl inb_S128x256_S128x64_0_192 _ (by
      show _ = gOut (a3 (fwd m c t) ⟨k0_pay6 (iblk m c 10 t), k0_pay7 (iblk m c 11 t), k0_pay8 (iblk m c 12 t)⟩)
      unfold_payloads
      dsimp only [gOut, gNum, gDen, gOld, gWt, gKey, gStab, gInter, gGap, a3, fwd, cols0]
      try rfl)
  · exact pieceH _ 2 128 rfl inb_S128x256_S128x64_0_128 _ (by
      show _ = gOut (a2 (fwd m c t) ⟨k0_pay6 (iblk m c 10 t), k0_pay7 (iblk m c 11 t), k0_pay8 (iblk m c 12 t)⟩)
      unfold_payloads
      dsimp only [gOut, gNum, gDen, gOld, gWt, gKey, gStab, gInter, gGap, a2, fwd, cols0]
      try rfl)
  · exact pieceH _ 1 64 rfl inb_S128x256_S128x64_0_64 _ (by
      show _ = gOut (a1 (fwd m c t) ⟨k0_pay6 (iblk m c 10 t), k0_pay7 (iblk m c 11 t), k0_pay8 (iblk m c 12 t)⟩)
      unfold_payloads
      dsimp only [gOut, gNum, gDen, gOld, gWt, gKey, gStab, gInter, gGap, a1, fwd, cols0]
      try rfl)
  · exact pieceH _ 0 0 rfl inb_S128x256_S128x64_0_0 _ (by
      show _ = gOut (a0 (fwd m c t) ⟨k0_pay6 (iblk m c 10 t), k0_pay7 (iblk m c 11 t), k0_pay8 (iblk m c 12 t)⟩)
      unfold_payloads
      dsimp only [gOut, gNum, gDen, gOld, gWt, gKey, gStab, gInter, gGap, a0, fwd, cols0]
      try rfl)
  · obtain ⟨r, h, e, rfl⟩ : ∃ (r : Fin 128) (h : Fin 4) (e : Fin 64), y = ix2 r (col h e) := exH y
    fin_cases h
    · exact ⟨_, .tail _ (.tail _ (.tail _ (.head _))), memH _ 0 _ 0 rfl inb_S128x256_S128x64_0_0⟩
    · exact ⟨_, .tail _ (.tail _ (.head _)), memH _ 1 _ 64 rfl inb_S128x256_S128x64_0_64⟩
    · exact ⟨_, .tail _ (.head _), memH _ 2 _ 128 rfl inb_S128x256_S128x64_0_128⟩
    · exact ⟨_, .head _, memH _ 3 _ 192 rfl inb_S128x256_S128x64_0_192⟩

set_option maxHeartbeats 4000000 in
/-- The backward tokens after the first chunk, head by head. -/
theorem hbA (c : Dev nD) (t : Fin cfg0.N) (h0 : t.val % 2 = 0) (h1 : ¬t.val % 2 = 1) :
    (outsAt0 m c t.val t.isLt).2.1 = tabH fun h => gOut (args (fwd m c t) (bwd m c t) ⟨k0_pay6 (iblk m c 10 t), k0_pay7 (iblk m c 11 t), k0_pay8 (iblk m c 12 t)⟩ (hd 1 h)) := by
  rw [outsAt0_A m c t h0 h1]
  dsimp only
  frame_open
  simp (disch := decide) only [↓ View.readCov_skip, ↓ View.readCov_cons_toLoadRect, ↓ View.readCov_fill]
  frame_out
  funext y
  refine View.canon_append_of_piecesOf (Val := Elt Ideal) (e := .f32) (tabH fun h => gOut (args (fwd m c t) (bwd m c t) ⟨k0_pay6 (iblk m c 10 t), k0_pay7 (iblk m c 11 t), k0_pay8 (iblk m c 12 t)⟩ (hd 1 h))) [] [_, _, _, _] ⟨?_, ?_, ?_, ?_, trivial⟩ y ?_
  · exact pieceH _ 3 192 rfl inb_S128x256_S128x64_0_192 _ (by
      show _ = gOut (a7 (bwd m c t) ⟨k0_pay6 (iblk m c 10 t), k0_pay7 (iblk m c 11 t), k0_pay8 (iblk m c 12 t)⟩)
      unfold_payloads
      dsimp only [gOut, gNum, gDen, gOld, gWt, gKey, gStab, gInter, gGap, a7, bwd, cols8]
      try rfl)
  · exact pieceH _ 2 128 rfl inb_S128x256_S128x64_0_128 _ (by
      show _ = gOut (a6 (bwd m c t) ⟨k0_pay6 (iblk m c 10 t), k0_pay7 (iblk m c 11 t), k0_pay8 (iblk m c 12 t)⟩)
      unfold_payloads
      dsimp only [gOut, gNum, gDen, gOld, gWt, gKey, gStab, gInter, gGap, a6, bwd, cols8]
      try rfl)
  · exact pieceH _ 1 64 rfl inb_S128x256_S128x64_0_64 _ (by
      show _ = gOut (a5 (bwd m c t) ⟨k0_pay6 (iblk m c 10 t), k0_pay7 (iblk m c 11 t), k0_pay8 (iblk m c 12 t)⟩)
      unfold_payloads
      dsimp only [gOut, gNum, gDen, gOld, gWt, gKey, gStab, gInter, gGap, a5, bwd, cols8]
      try rfl)
  · exact pieceH _ 0 0 rfl inb_S128x256_S128x64_0_0 _ (by
      show _ = gOut (a4 (bwd m c t) ⟨k0_pay6 (iblk m c 10 t), k0_pay7 (iblk m c 11 t), k0_pay8 (iblk m c 12 t)⟩)
      unfold_payloads
      dsimp only [gOut, gNum, gDen, gOld, gWt, gKey, gStab, gInter, gGap, a4, bwd, cols8]
      try rfl)
  · obtain ⟨r, h, e, rfl⟩ : ∃ (r : Fin 128) (h : Fin 4) (e : Fin 64), y = ix2 r (col h e) := exH y
    fin_cases h
    · exact ⟨_, .tail _ (.tail _ (.tail _ (.head _))), memH _ 0 _ 0 rfl inb_S128x256_S128x64_0_0⟩
    · exact ⟨_, .tail _ (.tail _ (.head _)), memH _ 1 _ 64 rfl inb_S128x256_S128x64_0_64⟩
    · exact ⟨_, .tail _ (.head _), memH _ 2 _ 128 rfl inb_S128x256_S128x64_0_128⟩
    · exact ⟨_, .head _, memH _ 3 _ 192 rfl inb_S128x256_S128x64_0_192⟩

end Cert.MlstmIdeal.Head

end
-- ==== Proof.MlstmStepB.lean ====
module

public import proofs.«01_k».proof.Proof.MlstmArgs
public import Idealize.ShloMosaic.Lib.Pipeline.ValueKit.Tiles
public import Idealize.ShloMosaic.Lib.Pipeline.ReadBack

@[expose] public section

set_option maxRecDepth 16384

noncomputable section

namespace Cert.MlstmIdeal.Head

open Cert.MlstmIdeal Cert.MlstmIdeal.Gen Cert.MlstmMath Idealize.ShloMosaic Idealize.ShloMosaic.TcCoe Idealize.SL.Sem

variable (m : (ℓ : Loc nD τ sig) → Buf (Elt Ideal) ℓ) (ρ : Dev nD → PrngReg)

set_option maxHeartbeats 4000000 in
/-- The stabilizers after the second chunk, head by head. -/
theorem mB (c : Dev nD) (t : Fin cfg0.N) (h0 : ¬t.val % 2 = 0) (h1 : t.val % 2 = 1) :
    (outsAt0 m c t.val t.isLt).2.2.2.2.2.2.2 = tabM fun j => gM (args (fwd m c t) (bwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩ j) := by
  rw [outsAt0_B m c t h0 h1]
  dsimp only
  frame_open
  simp (disch := decide) only [↓ View.readCov_skip, ↓ View.readCov_cons_toLoadRect, ↓ View.readCov_fill]
  frame_out
  simp only [read_unread_whole]
  funext y
  refine View.canon_append_of_piecesOf (Val := Elt Ideal) (e := .f32) (tabM fun j => gM (args (fwd m c t) (bwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩ j)) [] [_, _, _, _, _, _, _, _] ⟨?_, ?_, ?_, ?_, ?_, ?_, ?_, ?_, trivial⟩ y ?_
  · exact pieceM _ 7 inb_S8x1_S1x1_7_0 _ (by
      show _ = gM (a7 (bwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gM, gTop, a7, bwd, cols8]
      try rfl)
  · exact pieceM _ 6 inb_S8x1_S1x1_6_0 _ (by
      show _ = gM (a6 (bwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gM, gTop, a6, bwd, cols8]
      try rfl)
  · exact pieceM _ 5 inb_S8x1_S1x1_5_0 _ (by
      show _ = gM (a5 (bwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gM, gTop, a5, bwd, cols8]
      try rfl)
  · exact pieceM _ 4 inb_S8x1_S1x1_4_0 _ (by
      show _ = gM (a4 (bwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gM, gTop, a4, bwd, cols8]
      try rfl)
  · exact pieceM _ 3 inb_S8x1_S1x1_3_0 _ (by
      show _ = gM (a3 (fwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gM, gTop, a3, fwd, cols0]
      try rfl)
  · exact pieceM _ 2 inb_S8x1_S1x1_2_0 _ (by
      show _ = gM (a2 (fwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gM, gTop, a2, fwd, cols0]
      try rfl)
  · exact pieceM _ 1 inb_S8x1_S1x1_1_0 _ (by
      show _ = gM (a1 (fwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gM, gTop, a1, fwd, cols0]
      try rfl)
  · exact pieceM _ 0 inb_S8x1_S1x1_0_0 _ (by
      show _ = gM (a0 (fwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gM, gTop, a0, fwd, cols0]
      try rfl)
  · obtain ⟨j, rfl⟩ : ∃ j : Fin 8, y = ix2 j 0 := exM y
    fin_cases j
    · exact ⟨_, .tail _ (.tail _ (.tail _ (.tail _ (.tail _ (.tail _ (.tail _ (.head _))))))), memM 0 inb_S8x1_S1x1_0_0⟩
    · exact ⟨_, .tail _ (.tail _ (.tail _ (.tail _ (.tail _ (.tail _ (.head _)))))), memM 1 inb_S8x1_S1x1_1_0⟩
    · exact ⟨_, .tail _ (.tail _ (.tail _ (.tail _ (.tail _ (.head _))))), memM 2 inb_S8x1_S1x1_2_0⟩
    · exact ⟨_, .tail _ (.tail _ (.tail _ (.tail _ (.head _)))), memM 3 inb_S8x1_S1x1_3_0⟩
    · exact ⟨_, .tail _ (.tail _ (.tail _ (.head _))), memM 4 inb_S8x1_S1x1_4_0⟩
    · exact ⟨_, .tail _ (.tail _ (.head _)), memM 5 inb_S8x1_S1x1_5_0⟩
    · exact ⟨_, .tail _ (.head _), memM 6 inb_S8x1_S1x1_6_0⟩
    · exact ⟨_, .head _, memM 7 inb_S8x1_S1x1_7_0⟩

set_option maxHeartbeats 4000000 in
/-- The normalizers after the second chunk, head by head. -/
theorem nB (c : Dev nD) (t : Fin cfg0.N) (h0 : ¬t.val % 2 = 0) (h1 : t.val % 2 = 1) :
    (outsAt0 m c t.val t.isLt).2.2.2.2.2.2.1 = tabN fun j => gN (args (fwd m c t) (bwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩ j) := by
  rw [outsAt0_B m c t h0 h1]
  dsimp only
  frame_open
  simp (disch := decide) only [↓ View.readCov_skip, ↓ View.readCov_cons_toLoadRect, ↓ View.readCov_fill]
  frame_out
  simp only [read_unread_whole]
  funext y
  refine View.canon_append_of_piecesOf (Val := Elt Ideal) (e := .f32) (tabN fun j => gN (args (fwd m c t) (bwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩ j)) [] [_, _, _, _, _, _, _, _] ⟨?_, ?_, ?_, ?_, ?_, ?_, ?_, ?_, trivial⟩ y ?_
  · exact pieceN _ 7 inb_S8x64_S1x64_7_0 _ (by
      show _ = gN (a7 (bwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gN, gTop, gKeep, gAdd, gKey, a7, bwd, cols8]
      try rfl)
  · exact pieceN _ 6 inb_S8x64_S1x64_6_0 _ (by
      show _ = gN (a6 (bwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gN, gTop, gKeep, gAdd, gKey, a6, bwd, cols8]
      try rfl)
  · exact pieceN _ 5 inb_S8x64_S1x64_5_0 _ (by
      show _ = gN (a5 (bwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gN, gTop, gKeep, gAdd, gKey, a5, bwd, cols8]
      try rfl)
  · exact pieceN _ 4 inb_S8x64_S1x64_4_0 _ (by
      show _ = gN (a4 (bwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gN, gTop, gKeep, gAdd, gKey, a4, bwd, cols8]
      try rfl)
  · exact pieceN _ 3 inb_S8x64_S1x64_3_0 _ (by
      show _ = gN (a3 (fwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gN, gTop, gKeep, gAdd, gKey, a3, fwd, cols0]
      try rfl)
  · exact pieceN _ 2 inb_S8x64_S1x64_2_0 _ (by
      show _ = gN (a2 (fwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gN, gTop, gKeep, gAdd, gKey, a2, fwd, cols0]
      try rfl)
  · exact pieceN _ 1 inb_S8x64_S1x64_1_0 _ (by
      show _ = gN (a1 (fwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gN, gTop, gKeep, gAdd, gKey, a1, fwd, cols0]
      try rfl)
  · exact pieceN _ 0 inb_S8x64_S1x64_0_0 _ (by
      show _ = gN (a0 (fwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gN, gTop, gKeep, gAdd, gKey, a0, fwd, cols0]
      try rfl)
  · obtain ⟨j, e, rfl⟩ : ∃ (j : Fin 8) (e : Fin 64), y = ix2 j e := exN y
    fin_cases j
    · exact ⟨_, .tail _ (.tail _ (.tail _ (.tail _ (.tail _ (.tail _ (.tail _ (.head _))))))), memN 0 _ inb_S8x64_S1x64_0_0⟩
    · exact ⟨_, .tail _ (.tail _ (.tail _ (.tail _ (.tail _ (.tail _ (.head _)))))), memN 1 _ inb_S8x64_S1x64_1_0⟩
    · exact ⟨_, .tail _ (.tail _ (.tail _ (.tail _ (.tail _ (.head _))))), memN 2 _ inb_S8x64_S1x64_2_0⟩
    · exact ⟨_, .tail _ (.tail _ (.tail _ (.tail _ (.head _)))), memN 3 _ inb_S8x64_S1x64_3_0⟩
    · exact ⟨_, .tail _ (.tail _ (.tail _ (.head _))), memN 4 _ inb_S8x64_S1x64_4_0⟩
    · exact ⟨_, .tail _ (.tail _ (.head _)), memN 5 _ inb_S8x64_S1x64_5_0⟩
    · exact ⟨_, .tail _ (.head _), memN 6 _ inb_S8x64_S1x64_6_0⟩
    · exact ⟨_, .head _, memN 7 _ inb_S8x64_S1x64_7_0⟩

set_option maxHeartbeats 4000000 in
/-- The matrix states after the second chunk, head by head. -/
theorem cB (c : Dev nD) (t : Fin cfg0.N) (h0 : ¬t.val % 2 = 0) (h1 : t.val % 2 = 1) :
    (outsAt0 m c t.val t.isLt).2.2.2.2.2.1 = tabC fun j => gC (args (fwd m c t) (bwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩ j) := by
  rw [outsAt0_B m c t h0 h1]
  dsimp only
  frame_open
  simp (disch := decide) only [↓ View.readCov_skip, ↓ View.readCov_cons_toLoadRect, ↓ View.readCov_fill]
  frame_out
  simp only [read_unread_whole]
  funext y
  refine View.canon_append_of_piecesOf (Val := Elt Ideal) (e := .f32) (tabC fun j => gC (args (fwd m c t) (bwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩ j)) [] [_, _, _, _, _, _, _, _] ⟨?_, ?_, ?_, ?_, ?_, ?_, ?_, ?_, trivial⟩ y ?_
  · exact pieceC _ 1 3 inb_S2x4x64x64_S1x1x64x64_1_3_0_0 _ (by
      show _ = gC (a7 (bwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gC, gTop, gKeep, gAdd, gKey, a7, bwd, cols8]
      try rfl)
  · exact pieceC _ 1 2 inb_S2x4x64x64_S1x1x64x64_1_2_0_0 _ (by
      show _ = gC (a6 (bwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gC, gTop, gKeep, gAdd, gKey, a6, bwd, cols8]
      try rfl)
  · exact pieceC _ 1 1 inb_S2x4x64x64_S1x1x64x64_1_1_0_0 _ (by
      show _ = gC (a5 (bwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gC, gTop, gKeep, gAdd, gKey, a5, bwd, cols8]
      try rfl)
  · exact pieceC _ 1 0 inb_S2x4x64x64_S1x1x64x64_1_0_0_0 _ (by
      show _ = gC (a4 (bwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gC, gTop, gKeep, gAdd, gKey, a4, bwd, cols8]
      try rfl)
  · exact pieceC _ 0 3 inb_S2x4x64x64_S1x1x64x64_0_3_0_0 _ (by
      show _ = gC (a3 (fwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gC, gTop, gKeep, gAdd, gKey, a3, fwd, cols0]
      try rfl)
  · exact pieceC _ 0 2 inb_S2x4x64x64_S1x1x64x64_0_2_0_0 _ (by
      show _ = gC (a2 (fwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gC, gTop, gKeep, gAdd, gKey, a2, fwd, cols0]
      try rfl)
  · exact pieceC _ 0 1 inb_S2x4x64x64_S1x1x64x64_0_1_0_0 _ (by
      show _ = gC (a1 (fwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gC, gTop, gKeep, gAdd, gKey, a1, fwd, cols0]
      try rfl)
  · exact pieceC _ 0 0 inb_S2x4x64x64_S1x1x64x64_0_0_0_0 _ (by
      show _ = gC (a0 (fwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gC, gTop, gKeep, gAdd, gKey, a0, fwd, cols0]
      try rfl)
  · obtain ⟨d, h, e, x, rfl⟩ : ∃ (d : Fin 2) (h : Fin 4) (e x : Fin 64), y = ix4 d h e x := exC y
    fin_cases d <;> fin_cases h
    · exact ⟨_, .tail _ (.tail _ (.tail _ (.tail _ (.tail _ (.tail _ (.tail _ (.head _))))))), memC 0 0 _ _ inb_S2x4x64x64_S1x1x64x64_0_0_0_0⟩
    · exact ⟨_, .tail _ (.tail _ (.tail _ (.tail _ (.tail _ (.tail _ (.head _)))))), memC 0 1 _ _ inb_S2x4x64x64_S1x1x64x64_0_1_0_0⟩
    · exact ⟨_, .tail _ (.tail _ (.tail _ (.tail _ (.tail _ (.head _))))), memC 0 2 _ _ inb_S2x4x64x64_S1x1x64x64_0_2_0_0⟩
    · exact ⟨_, .tail _ (.tail _ (.tail _ (.tail _ (.head _)))), memC 0 3 _ _ inb_S2x4x64x64_S1x1x64x64_0_3_0_0⟩
    · exact ⟨_, .tail _ (.tail _ (.tail _ (.head _))), memC 1 0 _ _ inb_S2x4x64x64_S1x1x64x64_1_0_0_0⟩
    · exact ⟨_, .tail _ (.tail _ (.head _)), memC 1 1 _ _ inb_S2x4x64x64_S1x1x64x64_1_1_0_0⟩
    · exact ⟨_, .tail _ (.head _), memC 1 2 _ _ inb_S2x4x64x64_S1x1x64x64_1_2_0_0⟩
    · exact ⟨_, .head _, memC 1 3 _ _ inb_S2x4x64x64_S1x1x64x64_1_3_0_0⟩

set_option maxHeartbeats 4000000 in
/-- The forward tokens after the second chunk, head by head. -/
theorem hfB (c : Dev nD) (t : Fin cfg0.N) (h0 : ¬t.val % 2 = 0) (h1 : t.val % 2 = 1) :
    (outsAt0 m c t.val t.isLt).1 = tabH fun h => gOut (args (fwd m c t) (bwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩ (hd 0 h)) := by
  rw [outsAt0_B m c t h0 h1]
  dsimp only
  frame_open
  simp (disch := decide) only [↓ View.readCov_skip, ↓ View.readCov_cons_toLoadRect, ↓ View.readCov_fill]
  frame_out
  simp only [read_unread_whole]
  funext y
  refine View.canon_append_of_piecesOf (Val := Elt Ideal) (e := .f32) (tabH fun h => gOut (args (fwd m c t) (bwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩ (hd 0 h))) [] [_, _, _, _] ⟨?_, ?_, ?_, ?_, trivial⟩ y ?_
  · exact pieceH _ 3 192 rfl inb_S128x256_S128x64_0_192 _ (by
      show _ = gOut (a3 (fwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gOut, gNum, gDen, gOld, gWt, gKey, gStab, gInter, gGap, a3, fwd, cols0]
      try rfl)
  · exact pieceH _ 2 128 rfl inb_S128x256_S128x64_0_128 _ (by
      show _ = gOut (a2 (fwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gOut, gNum, gDen, gOld, gWt, gKey, gStab, gInter, gGap, a2, fwd, cols0]
      try rfl)
  · exact pieceH _ 1 64 rfl inb_S128x256_S128x64_0_64 _ (by
      show _ = gOut (a1 (fwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gOut, gNum, gDen, gOld, gWt, gKey, gStab, gInter, gGap, a1, fwd, cols0]
      try rfl)
  · exact pieceH _ 0 0 rfl inb_S128x256_S128x64_0_0 _ (by
      show _ = gOut (a0 (fwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gOut, gNum, gDen, gOld, gWt, gKey, gStab, gInter, gGap, a0, fwd, cols0]
      try rfl)
  · obtain ⟨r, h, e, rfl⟩ : ∃ (r : Fin 128) (h : Fin 4) (e : Fin 64), y = ix2 r (col h e) := exH y
    fin_cases h
    · exact ⟨_, .tail _ (.tail _ (.tail _ (.head _))), memH _ 0 _ 0 rfl inb_S128x256_S128x64_0_0⟩
    · exact ⟨_, .tail _ (.tail _ (.head _)), memH _ 1 _ 64 rfl inb_S128x256_S128x64_0_64⟩
    · exact ⟨_, .tail _ (.head _), memH _ 2 _ 128 rfl inb_S128x256_S128x64_0_128⟩
    · exact ⟨_, .head _, memH _ 3 _ 192 rfl inb_S128x256_S128x64_0_192⟩

set_option maxHeartbeats 4000000 in
/-- The backward tokens after the second chunk, head by head. -/
theorem hbB (c : Dev nD) (t : Fin cfg0.N) (h0 : ¬t.val % 2 = 0) (h1 : t.val % 2 = 1) :
    (outsAt0 m c t.val t.isLt).2.1 = tabH fun h => gOut (args (fwd m c t) (bwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩ (hd 1 h)) := by
  rw [outsAt0_B m c t h0 h1]
  dsimp only
  frame_open
  simp (disch := decide) only [↓ View.readCov_skip, ↓ View.readCov_cons_toLoadRect, ↓ View.readCov_fill]
  frame_out
  simp only [read_unread_whole]
  funext y
  refine View.canon_append_of_piecesOf (Val := Elt Ideal) (e := .f32) (tabH fun h => gOut (args (fwd m c t) (bwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩ (hd 1 h))) [] [_, _, _, _] ⟨?_, ?_, ?_, ?_, trivial⟩ y ?_
  · exact pieceH _ 3 192 rfl inb_S128x256_S128x64_0_192 _ (by
      show _ = gOut (a7 (bwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gOut, gNum, gDen, gOld, gWt, gKey, gStab, gInter, gGap, a7, bwd, cols8]
      try rfl)
  · exact pieceH _ 2 128 rfl inb_S128x256_S128x64_0_128 _ (by
      show _ = gOut (a6 (bwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gOut, gNum, gDen, gOld, gWt, gKey, gStab, gInter, gGap, a6, bwd, cols8]
      try rfl)
  · exact pieceH _ 1 64 rfl inb_S128x256_S128x64_0_64 _ (by
      show _ = gOut (a5 (bwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gOut, gNum, gDen, gOld, gWt, gKey, gStab, gInter, gGap, a5, bwd, cols8]
      try rfl)
  · exact pieceH _ 0 0 rfl inb_S128x256_S128x64_0_0 _ (by
      show _ = gOut (a4 (bwd m c t) ⟨(outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2⟩)
      unfold_payloads
      dsimp only [gOut, gNum, gDen, gOld, gWt, gKey, gStab, gInter, gGap, a4, bwd, cols8]
      try rfl)
  · obtain ⟨r, h, e, rfl⟩ : ∃ (r : Fin 128) (h : Fin 4) (e : Fin 64), y = ix2 r (col h e) := exH y
    fin_cases h
    · exact ⟨_, .tail _ (.tail _ (.tail _ (.head _))), memH _ 0 _ 0 rfl inb_S128x256_S128x64_0_0⟩
    · exact ⟨_, .tail _ (.tail _ (.head _)), memH _ 1 _ 64 rfl inb_S128x256_S128x64_0_64⟩
    · exact ⟨_, .tail _ (.head _), memH _ 2 _ 128 rfl inb_S128x256_S128x64_0_128⟩
    · exact ⟨_, .head _, memH _ 3 _ 192 rfl inb_S128x256_S128x64_0_192⟩

/-- A load of everything reads what the stores left. -/
theorem readCov_whole {s : Shape} {κ : Kind} {sp : Space} (v : View sig κ sp s .f32) (L : List (View.Piece (Elt Ideal) s .f32))
    (off : Fin s.rank → ℕ) (h : off = fun _ => 0) (inb : ∀ a, off a + s.size a ≤ s.size a) :
    v.readCov L (Rect.unit off s.size inb).toLoadRect = View.canon L := by
  subst h
  rw [View.readCov_eq_canon']
  funext j
  exact congrArg (View.canon L) (funext fun a => Fin.ext (by show 0 + 1 * (j a).val = (j a).val; omega))

/-- The matrices read whole after they were written head by head. -/
theorem readCovC {κ : Kind} {sp : Space} (v : View sig κ sp S2x4x64x64 .f32) (L : List (View.Piece (Elt Ideal) S2x4x64x64 .f32)) (inb) :
    v.readCov L (Rect.unit (s := S2x4x64x64) ![0, 0, 0, 0] ![2, 4, 64, 64] inb).toLoadRect = View.canon L :=
  readCov_whole v L ![0, 0, 0, 0] (by decide) inb

/-- The normalizers read whole after they were written head by head. -/
theorem readCovN {κ : Kind} {sp : Space} (v : View sig κ sp S8x64 .f32) (L : List (View.Piece (Elt Ideal) S8x64 .f32)) (inb) :
    v.readCov L (Rect.unit (s := S8x64) ![0, 0] ![8, 64] inb).toLoadRect = View.canon L :=
  readCov_whole v L ![0, 0] (by decide) inb

/-- The stabilizers read whole after they were written head by head. -/
theorem readCovM {κ : Kind} {sp : Space} (v : View sig κ sp S8x1 .f32) (L : List (View.Piece (Elt Ideal) S8x1 .f32)) (inb) :
    v.readCov L (Rect.unit (s := S8x1) ![0, 0] ![8, 1] inb).toLoadRect = View.canon L :=
  readCov_whole v L ![0, 0] (by decide) inb

set_option maxHeartbeats 4000000 in
/-- The matrix states that the second chunk writes out. -/
theorem coB (c : Dev nD) (t : Fin cfg0.N) (h0 : ¬t.val % 2 = 0) (h1 : t.val % 2 = 1) :
    (outsAt0 m c t.val t.isLt).2.2.1 = k0_pay3 (F := Ideal) (outsAt0 m c t.val t.isLt).2.2.2.2.2.1 := by
  rw [outsAt0_B m c t h0 h1]
  dsimp only
  frame_open
  simp only [↓ readCovC]
  frame_out

set_option maxHeartbeats 4000000 in
/-- The normalizers that the second chunk writes out. -/
theorem noB (c : Dev nD) (t : Fin cfg0.N) (h0 : ¬t.val % 2 = 0) (h1 : t.val % 2 = 1) :
    (outsAt0 m c t.val t.isLt).2.2.2.1 = k0_pay4 (F := Ideal) (outsAt0 m c t.val t.isLt).2.2.2.2.2.2.1 := by
  rw [outsAt0_B m c t h0 h1]
  dsimp only
  frame_open
  simp only [↓ readCovN]
  frame_out

set_option maxHeartbeats 4000000 in
/-- The stabilizers that the second chunk writes out. -/
theorem moB (c : Dev nD) (t : Fin cfg0.N) (h0 : ¬t.val % 2 = 0) (h1 : t.val % 2 = 1) :
    (outsAt0 m c t.val t.isLt).2.2.2.2.1 = k0_pay5 (F := Ideal) (outsAt0 m c t.val t.isLt).2.2.2.2.2.2.2 := by
  rw [outsAt0_B m c t h0 h1]
  dsimp only
  frame_open
  simp only [↓ readCovM]
  frame_out

end Cert.MlstmIdeal.Head

end
-- ==== Proof.MlstmKernel.lean ====
module

public import proofs.«01_k».proof.Proof.MlstmBlocks
public import proofs.«01_k».proof.Proof.MlstmStepA
public import proofs.«01_k».proof.Proof.MlstmStepB
public import Idealize.ShloMosaic.Lib.Pipeline.ValueKit
public import Idealize.ShloMosaic.Lib.Pointwise

@[expose] public section

set_option maxRecDepth 16384

noncomputable section

namespace Cert.MlstmIdeal.Head

open Cert.MlstmIdeal Cert.MlstmIdeal.Gen Cert.MlstmMath Idealize.ShloMosaic Idealize.ShloMosaic.TcCoe Idealize.SL.Sem

variable (m : (ℓ : Loc nD τ sig) → Buf (Elt Ideal) ℓ) (ρ : Dev nD → PrngReg)

/-- A mask entry is above one half exactly where the mask keeps. -/
theorem cmp_keep (p : Bool) : Ideal.cmp .ogt (if p = true then 1 else 0) (Ideal.ofBits FTy.f32 1056964608#32) = 1#1 ↔ p = true := by
  have h : Ideal.ofBits FTy.f32 1056964608#32 = ((1 / 2 : ℝ) : EReal) := by
    simp [Ideal.ofBits, Ideal.ieee, -EReal.coe_mul]; norm_num
  have h1 : ((1 / 2 : ℝ) : EReal) < 1 := by exact_mod_cast (by norm_num : (1 / 2 : ℝ) < 1)
  have h0 : ¬ ((1 / 2 : ℝ) : EReal) < 0 := by
    have : ¬ (1 / 2 : ℝ) < 0 := by norm_num
    exact_mod_cast this
  rw [h]
  cases p
  · show BitVec.ofBool (decide (((1 / 2 : ℝ) : EReal) < 0)) = 1#1 ↔ false = true
    rw [decide_eq_false h0]
    decide
  · show BitVec.ofBool (decide (((1 / 2 : ℝ) : EReal) < 1)) = 1#1 ↔ true = true
    rw [decide_eq_true h1]
    decide

section
variable (c : Dev nD) (t : Fin cfg0.N) (b : Fin 16) (i : Fin 2) (hb : t.val / 2 = b.val) (hi : t.val % 2 = i.val)
include hb hi

/-- The row of a token in the forward direction's block. -/
theorem row_f (s : Fin 128) (h) : (⟨t.val * 128 + s.val, h⟩ : Fin 4096) = tok b (blkOf 0 i) s :=
  Fin.ext (by show t.val * 128 + s.val = 256 * b.val + 128 * i.val + s.val; omega)

/-- The row of a token in the backward direction's block. -/
theorem row_b (s : Fin 128) (h) : (⟨(2 * (t.val / 2) + 1 - t.val % 2) * 128 + s.val, h⟩ : Fin 4096) = tok b (blkOf 1 i) s :=
  Fin.ext (by
    show (2 * (t.val / 2) + 1 - t.val % 2) * 128 + s.val = 256 * b.val + 128 * (Fin.rev i).val + s.val
    have : (Fin.rev i).val = 1 - i.val := by rw [Fin.val_rev]; omega
    omega)

/-- The queries a direction reads. -/
theorem side_q (d : Fin 2) (s : Fin 128) (y : Fin 256) :
    (side (fwd m c t) (bwd m c t) d).q (ix2 s y) = tokP m c (tok b (blkOf d i) s) ⟨1792 + y.val, by omega⟩ := by
  have ht := N32 t
  fin_cases d
  · refine (blk0 m c t s y (by omega)).trans ?_
    rw [row_f t b i hb hi]
    rfl
  · refine (blk5 m c t s y (by omega)).trans ?_
    rw [row_b t b i hb hi]
    rfl

/-- The keys a direction reads. -/
theorem side_k (d : Fin 2) (s : Fin 128) (y : Fin 256) :
    (side (fwd m c t) (bwd m c t) d).k (ix2 s y) = tokP m c (tok b (blkOf d i) s) ⟨2048 + y.val, by omega⟩ := by
  have ht := N32 t
  fin_cases d
  · refine (blk1 m c t s y (by omega)).trans ?_
    rw [row_f t b i hb hi]
    rfl
  · refine (blk6 m c t s y (by omega)).trans ?_
    rw [row_b t b i hb hi]
    rfl

/-- The values a direction reads. -/
theorem side_v (d : Fin 2) (s : Fin 128) (y : Fin 256) :
    (side (fwd m c t) (bwd m c t) d).v (ix2 s y) = tokP m c (tok b (blkOf d i) s) ⟨2304 + y.val, by omega⟩ := by
  have ht := N32 t
  fin_cases d
  · refine (blk2 m c t s y (by omega)).trans ?_
    rw [row_f t b i hb hi]
    rfl
  · refine (blk7 m c t s y (by omega)).trans ?_
    rw [row_b t b i hb hi]
    rfl

/-- The gates a direction reads, tokens along rows. -/
theorem side_g (d : Fin 2) (s : Fin 128) (y : Fin 16) :
    (side (fwd m c t) (bwd m c t) d).g (ix2 s y) = tokG m c (tok b (blkOf d i) s) y := by
  have ht := N32 t
  fin_cases d
  · refine (blk3 m c t s y (by omega)).trans ?_
    rw [row_f t b i hb hi]
    rfl
  · refine (blk8 m c t s y (by omega)).trans ?_
    rw [row_b t b i hb hi]
    rfl

/-- The gates a direction reads, tokens along columns. -/
theorem side_gt (d : Fin 2) (s : Fin 128) (y : Fin 16) :
    (side (fwd m c t) (bwd m c t) d).gt (ix2 y s) = tokG m c (tok b (blkOf d i) s) y := by
  have ht := N32 t
  fin_cases d
  · refine (blk4 m c t s y (by omega)).trans ?_
    rw [row_f t b i hb hi]
    rfl
  · refine (blk9 m c t s y (by omega)).trans ?_
    rw [row_b t b i hb hi]
    rfl

omit hb hi in
/-- The mask a direction reads. -/
theorem side_mask (d : Fin 2) (r s : Fin 128) :
    (side (fwd m c t) (bwd m c t) d).mask (ix2 r s) = if keepD d r s = true then 1 else 0 := by
  fin_cases d
  · refine ((blk13 m c t r s).trans (tri_apply r s)).trans ?_
    show _ = if decide (s.val ≤ r.val) = true then (1 : EReal) else 0
    simp only [decide_eq_true_eq]
  · refine ((blk14 m c t r s).trans (triu_apply r s)).trans ?_
    show _ = if decide (r.val ≤ s.val) = true then (1 : EReal) else 0
    simp only [decide_eq_true_eq]

/-- What a head reads at a point of the pipeline. -/
theorem reads (w : St) (d : Fin 2) (h : Fin 4) (C : Fin 64 → Fin 64 → EReal) (n : Fin 64 → EReal) (mm : EReal)
    (hc : ∀ e x, w.c (ix4 d h e x) = C e x) (hn : ∀ x, w.n (ix2 (hd d h) x) = n x) (hm : w.m (ix2 (hd d h) 0) = mm) :
    Reads (args (fwd m c t) (bwd m c t) w (hd d h)) (keepD d) (bs (tokG m c) d b (blkOf d i) h) (igs (tokG m c) d b (blkOf d i) h)
      (bls (tokG m c) d b (blkOf d i) h) (qs (tokP m c) b (blkOf d i) h) (ks (tokP m c) b (blkOf d i) h) (vs (tokP m c) b (blkOf d i) h)
      C n mm where
  keep r s := by rw [args_keep, side_mask m c t]; exact cmp_keep _
  bc s := by
    rw [args_bc]
    show _ = ∑ x, if keepD d s x = true then lfs (tokG m c) d b (blkOf d i) h x else 0
    refine Finset.sum_congr rfl fun x _ => ?_
    rw [side_mask m c t, side_g m c t b i hb hi]
    cases keepD d s x
    · exact zero_mul _
    · exact one_mul _
  br s := by
    rw [args_br]
    show _ = ∑ x, if keepD d s x = true then lfs (tokG m c) d b (blkOf d i) h x else 0
    refine Finset.sum_congr rfl fun x _ => ?_
    rw [side_mask m c t, side_gt m c t b i hb hi]
    cases keepD d s x
    · exact mul_zero _
    · exact mul_one _
  ic s := by rw [args_ic, side_g m c t b i hb hi]; rfl
  ir s := by rw [args_ir, side_gt m c t b i hb hi]; rfl
  bl := by
    rw [args_bl]
    refine Finset.sum_congr rfl fun x _ => ?_
    rw [side_gt m c t b i hb hi]
    rfl
  q s x := by rw [args_q, side_q m c t b i hb hi]; rfl
  k s x := by rw [args_k, side_k m c t b i hb hi]; rfl
  v s x := by rw [args_v, side_v m c t b i hb hi]; rfl
  c e x := by rw [args_c, hc]
  n x := by rw [args_n, hn]
  m := by rw [args_m, hm]

end

section
variable (c : Dev nD) (t : Fin cfg0.N) (b : Fin 16) (hb : t.val / 2 = b.val) (h0 : t.val % 2 = 0)
include hb h0

/-- The first chunk begins with nothing. -/
theorem reads1 (d : Fin 2) (h : Fin 4) :
    Reads (args (fwd m c t) (bwd m c t) ⟨k0_pay6 (F := Ideal) (iblk m c 10 t), k0_pay7 (F := Ideal) (iblk m c 11 t), k0_pay8 (F := Ideal) (iblk m c 12 t)⟩ (hd d h))
      (keepD d) (bs (tokG m c) d b (blkOf d 0) h) (igs (tokG m c) d b (blkOf d 0) h)
      (bls (tokG m c) d b (blkOf d 0) h) (qs (tokP m c) b (blkOf d 0) h) (ks (tokP m c) b (blkOf d 0) h) (vs (tokP m c) b (blkOf d 0) h)
      (fun _ _ => 0) (fun _ => 0) 0 :=
  reads m c t b 0 hb h0 _ d h _ _ _ (fun e x => zero10 m c t (ix4 d h e x)) (fun x => zero11 m c t (ix2 (hd d h) x))
    (zero12 m c t (ix2 (hd d h) 0))

/-- The first chunk of a sequence: the states and the rows. -/
theorem c_first (d : Fin 2) (h : Fin 4) (e x : Fin 64) :
    (outsAt0 m c t.val t.isLt).2.2.2.2.2.1 (ix4 d h e x) = c1 (tokP m c) (tokG m c) d b h e x := by
  rw [cA m c t h0 (by omega), tabC_apply]
  exact (reads1 m c t b hb h0 d h).gC e x

/-- The normalizers after the first step. -/
theorem n_first (d : Fin 2) (h : Fin 4) (x : Fin 64) :
    (outsAt0 m c t.val t.isLt).2.2.2.2.2.2.1 (ix2 (hd d h) x) = n1 (tokP m c) (tokG m c) d b h x := by
  rw [nA m c t h0 (by omega), tabN_apply]
  exact (reads1 m c t b hb h0 d h).gN x

/-- The stabilizers after the first step. -/
theorem m_first (d : Fin 2) (h : Fin 4) :
    (outsAt0 m c t.val t.isLt).2.2.2.2.2.2.2 (ix2 (hd d h) 0) = m1 (tokG m c) d b h := by
  rw [mA m c t h0 (by omega), tabM_apply]
  exact (reads1 m c t b hb h0 d h).gM

/-- What the forward direction writes at the first step. -/
theorem hf_first (h : Fin 4) (r : Fin 128) (e : Fin 64) :
    (outsAt0 m c t.val t.isLt).1 (ix2 r (col h e)) = oAt (tokP m c) (tokG m c) 0 b h 0 r e := by
  rw [hfA m c t h0 (by omega), tabH_apply]
  exact (reads1 m c t b hb h0 0 h).gOut r e

/-- What the backward direction writes at the first step. -/
theorem hb_first (h : Fin 4) (r : Fin 128) (e : Fin 64) :
    (outsAt0 m c t.val t.isLt).2.1 (ix2 r (col h e)) = oAt (tokP m c) (tokG m c) 1 b h 0 r e := by
  rw [hbA m c t h0 (by omega), tabH_apply]
  exact (reads1 m c t b hb h0 1 h).gOut r e

end

section
variable (c : Dev nD) (t : Fin cfg0.N) (b : Fin 16) (hb : t.val / 2 = b.val) (h1 : t.val % 2 = 1)
include hb h1

/-- The second chunk reads the first one's state. -/
theorem reads2 (d : Fin 2) (h : Fin 4) :
    Reads (args (fwd m c t) (bwd m c t) ⟨(outsAt0 m c (t.val - 1) (Nat.lt_of_le_of_lt (Nat.sub_le _ _) t.isLt)).2.2.2.2.2.1,
        (outsAt0 m c (t.val - 1) (Nat.lt_of_le_of_lt (Nat.sub_le _ _) t.isLt)).2.2.2.2.2.2.1,
        (outsAt0 m c (t.val - 1) (Nat.lt_of_le_of_lt (Nat.sub_le _ _) t.isLt)).2.2.2.2.2.2.2⟩ (hd d h))
      (keepD d) (bs (tokG m c) d b (blkOf d 1) h) (igs (tokG m c) d b (blkOf d 1) h)
      (bls (tokG m c) d b (blkOf d 1) h) (qs (tokP m c) b (blkOf d 1) h) (ks (tokP m c) b (blkOf d 1) h) (vs (tokP m c) b (blkOf d 1) h)
      (c1 (tokP m c) (tokG m c) d b h) (n1 (tokP m c) (tokG m c) d b h) (m1 (tokG m c) d b h) := by
  have hl : t.val - 1 < cfg0.N := Nat.lt_of_le_of_lt (Nat.sub_le _ _) t.isLt
  exact reads m c t b 1 hb h1 _ d h _ _ _
    (fun e x => c_first m c ⟨t.val - 1, hl⟩ b (by show (t.val - 1) / 2 = b.val; omega) (by show (t.val - 1) % 2 = 0; omega) d h e x)
    (fun x => n_first m c ⟨t.val - 1, hl⟩ b (by show (t.val - 1) / 2 = b.val; omega) (by show (t.val - 1) % 2 = 0; omega) d h x)
    (m_first m c ⟨t.val - 1, hl⟩ b (by show (t.val - 1) / 2 = b.val; omega) (by show (t.val - 1) % 2 = 0; omega) d h)

/-- The matrices written after the second step. -/
theorem c_last (d : Fin 2) (h : Fin 4) (e x : Fin 64) :
    (outsAt0 m c t.val t.isLt).2.2.1 (ix5 0 d h e x) = c2 (tokP m c) (tokG m c) d b h e x := by
  have e1 : ∀ z : Vec Ideal S2x4x64x64 .f32, k0_pay3 (F := Ideal) z (ix5 0 d h e x) = z (ix4 d h e x) := fun z => by pointwise [k0_pay3]
  rw [coB m c t (by omega) h1, e1, cB m c t (by omega) h1, tabC_apply]
  exact (reads2 m c t b hb h1 d h).gC e x

/-- The normalizers written after the second step. -/
theorem n_last (d : Fin 2) (h : Fin 4) (x : Fin 64) :
    (outsAt0 m c t.val t.isLt).2.2.2.1 (ix3 0 (hd d h) x) = n2 (tokP m c) (tokG m c) d b h x := by
  have e1 : ∀ (z : Vec Ideal S8x64 .f32) j, k0_pay4 (F := Ideal) z (ix3 0 j x) = z (ix2 j x) := fun z j => by pointwise [k0_pay4]
  rw [noB m c t (by omega) h1, e1, nB m c t (by omega) h1, tabN_apply]
  exact (reads2 m c t b hb h1 d h).gN x

/-- The stabilizers written after the second step. -/
theorem m_last (d : Fin 2) (h : Fin 4) :
    (outsAt0 m c t.val t.isLt).2.2.2.2.1 (ix3 0 (hd d h) 0) = m2 (tokG m c) d b h := by
  have e1 : ∀ (z : Vec Ideal S8x1 .f32) j, k0_pay5 (F := Ideal) z (ix3 0 j 0) = z (ix2 j 0) := fun z j => by pointwise [k0_pay5]
  rw [moB m c t (by omega) h1, e1, mB m c t (by omega) h1, tabM_apply]
  exact (reads2 m c t b hb h1 d h).gM

/-- What the forward direction writes at the second step. -/
theorem hf_last (h : Fin 4) (r : Fin 128) (e : Fin 64) :
    (outsAt0 m c t.val t.isLt).1 (ix2 r (col h e)) = oAt (tokP m c) (tokG m c) 0 b h 1 r e := by
  rw [hfB m c t (by omega) h1, tabH_apply]
  exact (reads2 m c t b hb h1 0 h).gOut r e

/-- What the backward direction writes at the second step. -/
theorem hb_last (h : Fin 4) (r : Fin 128) (e : Fin 64) :
    (outsAt0 m c t.val t.isLt).2.1 (ix2 r (col h e)) = oAt (tokP m c) (tokG m c) 1 b h 1 r e := by
  rw [hbB m c t (by omega) h1, tabH_apply]
  exact (reads2 m c t b hb h1 1 h).gOut r e

end

/-- The five result arrays, from the tokens and the gates. -/
def G15 (c : Dev nD) : FVec Ideal S4096x256 .f32 := fun y => outRow (tokP m c) (tokG m c) 0 (y 0) (y 1)

/-- The rows of the backward direction. -/
def G16 (c : Dev nD) : FVec Ideal S4096x256 .f32 := fun y => outRow (tokP m c) (tokG m c) 1 (y 0) (y 1)

/-- The matrix states. -/
def G17 (c : Dev nD) : FVec Ideal S16x2x4x64x64 .f32 := fun y => c2 (tokP m c) (tokG m c) (y 1) (y 0) (y 2) (y 3) (y 4)

/-- The normalizers. -/
def G18 (c : Dev nD) : FVec Ideal S16x8x64 .f32 := fun y => nRow (tokP m c) (tokG m c) (y 0) (y 1) (y 2)

/-- The stabilizers. -/
def G19 (c : Dev nD) : FVec Ideal S16x8x1 .f32 := fun y => mRow (tokG m c) (y 0) (y 1)

/-- The kernel ends with the rows of the forward direction. -/
theorem final15 (c : Dev nD) : (dats m 0 c).arrAt 15 cfg0.N = G15 m c := by
  refine (dats m 0 c).arrAt_eq_of_covers 15 _ (by decide +kernel) fun t hf y => ?_
  blk_simp
  rw [after0_15]
  have ht := N32 t
  obtain ⟨h, r, e, rfl⟩ : ∃ (h : Fin 4) (r : Fin 128) (e : Fin 64), y = ix2 r (col h e) := by
    obtain ⟨h, e, hh⟩ := exCol (y 1)
    exact ⟨h, y 0, e, (eq_ix2 y).trans (congrArg (ix2 (y 0)) hh)⟩
  have he : (win0_15.blk t).view.emb (ix2 r (col h e)) = ix2 (⟨t.val * 128 + r.val, by omega⟩ : Fin 4096) (col h e) := by
    blk_ext [idx15]
  rw [he]
  have hB : t.val / 2 = (⟨t.val / 2, by omega⟩ : Fin 16).val := rfl
  rcases Nat.mod_two_eq_zero_or_one t.val with h0 | h1
  · rw [hf_first m c t _ hB h0, row_f t _ 0 hB h0]
    exact (outRow_tok _ _ 0 _ _ h r e).symm
  · rw [hf_last m c t _ hB h1, row_f t _ 1 hB h1]
    exact (outRow_tok _ _ 0 _ _ h r e).symm

/-- The kernel ends with the rows of the backward direction. -/
theorem final16 (c : Dev nD) : (dats m 0 c).arrAt 16 cfg0.N = G16 m c := by
  refine (dats m 0 c).arrAt_eq_of_covers 16 _ (by decide +kernel) fun t hf y => ?_
  blk_simp
  rw [after0_16]
  have ht := N32 t
  obtain ⟨h, r, e, rfl⟩ : ∃ (h : Fin 4) (r : Fin 128) (e : Fin 64), y = ix2 r (col h e) := by
    obtain ⟨h, e, hh⟩ := exCol (y 1)
    exact ⟨h, y 0, e, (eq_ix2 y).trans (congrArg (ix2 (y 0)) hh)⟩
  have he : (win0_16.blk t).view.emb (ix2 r (col h e)) = ix2 (⟨(2 * (t.val / 2) + 1 - t.val % 2) * 128 + r.val, by omega⟩ : Fin 4096) (col h e) := by
    blk_ext [idx16]
  rw [he]
  have hB : t.val / 2 = (⟨t.val / 2, by omega⟩ : Fin 16).val := rfl
  rcases Nat.mod_two_eq_zero_or_one t.val with h0 | h1
  · rw [hb_first m c t _ hB h0, row_b t _ 0 hB h0]
    exact ((outRow_tok (tokP m c) (tokG m c) 1 _ (blkOf 1 0) h r e).trans (by rw [blkOf_blkOf])).symm
  · rw [hb_last m c t _ hB h1, row_b t _ 1 hB h1]
    exact ((outRow_tok (tokP m c) (tokG m c) 1 _ (blkOf 1 1) h r e).trans (by rw [blkOf_blkOf])).symm

/-- The kernel ends with the matrix states. -/
theorem final17 (c : Dev nD) : (dats m 0 c).arrAt 17 cfg0.N = G17 m c := by
  refine (dats m 0 c).arrAt_eq_of_covers 17 _ (by decide +kernel) fun t hf y => ?_
  blk_simp
  rw [after0_17]
  have ht := N32 t
  have h1 := (flush0_17 t).mp hf
  obtain ⟨d, h, e, x, rfl⟩ : ∃ (d : Fin 2) (h : Fin 4) (e x : Fin 64), y = ix5 (0 : Fin 1) d h e x :=
    ⟨y 1, y 2, y 3, y 4, (eq_ix5 y).trans (congrArg (fun z => ix5 z (y 1) (y 2) (y 3) (y 4)) (Subsingleton.elim (α := Fin 1) _ _))⟩
  have he : (win0_17.blk t).view.emb (ix5 (0 : Fin 1) d h e x) = ix5 (⟨t.val / 2, by omega⟩ : Fin 16) d h e x := by
    blk_ext [idx17]
  rw [he]
  exact c_last m c t ⟨t.val / 2, by omega⟩ rfl h1 d h e x

/-- The kernel ends with the normalizers. -/
theorem final18 (c : Dev nD) : (dats m 0 c).arrAt 18 cfg0.N = G18 m c := by
  refine (dats m 0 c).arrAt_eq_of_covers 18 _ (by decide +kernel) fun t hf y => ?_
  blk_simp
  rw [after0_18]
  have ht := N32 t
  have h1 := (flush0_18 t).mp hf
  obtain ⟨d, h, x, rfl⟩ : ∃ (d : Fin 2) (h : Fin 4) (x : Fin 64), y = ix3 (0 : Fin 1) (hd d h) x := by
    obtain ⟨d, h, hh⟩ := exHd (y 1)
    refine ⟨d, h, y 2, (eq_ix3 y).trans ?_⟩
    rw [← hh]
    exact congrArg (fun z => ix3 z (y 1) (y 2)) (Subsingleton.elim (α := Fin 1) _ _)
  have he : (win0_18.blk t).view.emb (ix3 (0 : Fin 1) (hd d h) x) = ix3 (⟨t.val / 2, by omega⟩ : Fin 16) (hd d h) x := by
    blk_ext [idx18]
  rw [he]
  exact (n_last m c t ⟨t.val / 2, by omega⟩ rfl h1 d h x).trans (nRow_hd _ _ d _ h x).symm

/-- The kernel ends with the stabilizers. -/
theorem final19 (c : Dev nD) : (dats m 0 c).arrAt 19 cfg0.N = G19 m c := by
  refine (dats m 0 c).arrAt_eq_of_covers 19 _ (by decide +kernel) fun t hf y => ?_
  blk_simp
  rw [after0_19]
  have ht := N32 t
  have h1 := (flush0_19 t).mp hf
  obtain ⟨d, h, rfl⟩ : ∃ (d : Fin 2) (h : Fin 4), y = ix3 (0 : Fin 1) (hd d h) (0 : Fin 1) := by
    obtain ⟨d, h, hh⟩ := exHd (y 1)
    refine ⟨d, h, (eq_ix3 y).trans ?_⟩
    rw [← hh]
    exact congrArg₂ (fun z z' => ix3 z (y 1) z') (Subsingleton.elim (α := Fin 1) _ _) (Subsingleton.elim (α := Fin 1) _ _)
  have he : (win0_19.blk t).view.emb (ix3 (0 : Fin 1) (hd d h) (0 : Fin 1)) = ix3 (⟨t.val / 2, by omega⟩ : Fin 16) (hd d h) (0 : Fin 1) := by
    blk_ext [idx19]
  rw [he]
  exact (m_last m c t ⟨t.val / 2, by omega⟩ rfl h1 d h).trans (mRow_hd _ d _ h).symm

end Cert.MlstmIdeal.Head

end
-- ==== Proof.MlstmRefIn.lean ====
module

public import proofs.«01_k».proof.Proof.MlstmMath
public import proofs.«01_k».proof.Proof.Gen.MlstmRefIdeal.Read
public import Idealize.ShloMosaic.Lib.Pointwise
public import Idealize.ShloMosaic.Lib.WordCmp

@[expose] public section

set_option maxRecDepth 16384

noncomputable section

namespace Cert.MlstmRefIdeal.Step

open Cert.MlstmRefIdeal Cert.MlstmRefIdeal.Gen Cert.MlstmRefIdeal.Read Cert.MlstmMath Idealize.ShloMosaic Idealize.ShloMosaic.TcCoe Idealize.SL.Sem

variable (x0 : FVec Ideal S4096x2816 .f32) (x1 : FVec Ideal S4096x16 .f32)

/-- A sequence of a direction among the thirty-two, and the order in which a direction takes a chunk. -/
def seq (d : Fin 2) (b : Fin 16) : Fin 32 := ⟨16 * d.val + b.val, by omega⟩

/-- A token's place in a direction's order. -/
def flipD (d : Fin 2) (s : Fin 128) : Fin 128 := if d = 0 then s else Fin.rev s

/-- The logarithm of one plus the exponential of minus infinity. -/
theorem exp_bot : Ideal.log1p (Ideal.exp ⊥) = 0 := by
  show Ideal.log (1 + 0) = 0
  rw [add_zero]
  show (if (1 : ℝ) ≤ 0 then ⊥ else ((Real.log 1 : ℝ) : EReal)) = 0
  rw [if_neg (by norm_num), Real.log_one]
  rfl

/-- The logarithm of one plus the exponential of a real number is real. -/
theorem log1p_real (a : ℝ) : ∃ l : ℝ, Ideal.log1p (Ideal.exp (a : EReal)) = (l : EReal) := by
  refine ⟨Real.log (1 + Real.exp a), ?_⟩
  have h : ¬ (1 + Real.exp a) ≤ 0 := by have := Real.exp_pos a; linarith
  show (if (1 + Real.exp a) ≤ 0 then ⊥ else ((Real.log (1 + Real.exp a) : ℝ) : EReal)) = _
  rw [if_neg h]

/-- The two ways to write the logarithm of the logistic function. -/
theorem lsg_eq (f : EReal) : -(max (-f) 0 + Ideal.log1p (Ideal.exp (-(absE (-f - 0))))) = lsg f := by
  unfold lsg absE
  have h0 : -f - 0 = -f := by rw [sub_eq_add_neg, neg_zero, add_zero]
  have h1 : (0 : EReal) - max f (-f) = -max f (-f) := by rw [sub_eq_add_neg, zero_add]
  rw [h0, neg_neg, max_comm (-f) f, h1]
  have hm : -max (-f) 0 = min f 0 := by
    rcases le_total f 0 with h | h
    · rw [min_eq_left h, max_eq_left (by simpa using EReal.neg_le_neg_iff.mpr h), neg_neg]
    · rw [min_eq_right h, max_eq_right (by simpa using EReal.neg_le_neg_iff.mpr h), neg_zero]
  have hl : ∃ l : ℝ, Ideal.log1p (Ideal.exp (-max f (-f))) = (l : EReal) := by
    induction f with
    | bot => exact ⟨0, by rw [EReal.neg_bot, max_eq_right bot_le, EReal.neg_top]; exact exp_bot⟩
    | top => exact ⟨0, by rw [max_eq_left le_top, EReal.neg_top]; exact exp_bot⟩
    | coe a =>
      obtain ⟨l, hl⟩ := log1p_real (-max a (-a))
      refine ⟨l, ?_⟩
      rw [← hl]
      push_cast
      rfl
  obtain ⟨l, hl⟩ := hl
  rw [hl, EReal.neg_add (Or.inr (EReal.coe_ne_top l)) (Or.inr (EReal.coe_ne_bot l)), hm]

/-- The reference's logarithm of a forget gate. -/
theorem lf_apply (i : Fin 32) (h : Fin 4) (s : Fin 256) :
    val_main_v47 (F := Ideal) x1 (ix3 i h s) = lsg (val_main_v32 (F := Ideal) x1 (ix3 i h s)) := by
  unfold val_main_v47 val_main_v46 val_main_v45 val_main_v44 val_main_v43 val_main_v42 val_main_v41 val_main_v40 val_main_v39 val_main_v38 val_main_v37
    val_main_v36 val_main_v35 val_main_v34 val_main_v33 val_main_cst_0
  generalize val_main_v32 (F := Ideal) x1 = y
  rw [← lsg_eq]
  unfold absE
  pointwise
  rw [if_neg fun h => h rfl]
  rfl

/-- The queries of step 1. -/
theorem q1 (d : Fin 2) (b : Fin 16) (h : Fin 4) (s : Fin 128) (x : Fin 64) :
    val_main_v51 (F := Ideal) x0 (ix4 (seq d b) h s x) = qs (fun r y => x0 (ix2 r y)) b (blkOf d 0) h (flipD d s) x := by
  fin_cases d
  · have e : seq 0 b = ⟨b.val, by omega⟩ := Fin.ext (by simp [seq])
    show val_main_v51 (F := Ideal) x0 (ix4 (seq 0 b) h s x) = qs (fun r y => x0 (ix2 r y)) b 0 h s x
    rw [e]
    unfold qs tok col
    pointwise [val_main_v51, val_main_v6, val_main_v5, val_main_v4, val_main_v3, val_main_v2]
    refine congrArg x0 (congrArg₂ ix2 (Fin.ext ?_) (Fin.ext ?_))
    · simp [Fin.val_rev]
      try omega
    · simp
      try omega
  · have e : seq 1 b = ⟨16 + b.val, by omega⟩ := Fin.ext (by simp [seq])
    show val_main_v51 (F := Ideal) x0 (ix4 (seq 1 b) h s x) = qs (fun r y => x0 (ix2 r y)) b 1 h (Fin.rev s) x
    rw [e]
    unfold qs tok col
    pointwise [val_main_v51, val_main_v6, val_main_v5, val_main_v4, val_main_v3, val_main_v2]
    refine congrArg x0 (congrArg₂ ix2 (Fin.ext ?_) (Fin.ext ?_))
    · simp [Fin.val_rev]
      try omega
    · simp
      try omega

/-- The queries of step 2. -/
theorem q2 (d : Fin 2) (b : Fin 16) (h : Fin 4) (s : Fin 128) (x : Fin 64) :
    val_main_v127 (F := Ideal) x0 (ix4 (seq d b) h s x) = qs (fun r y => x0 (ix2 r y)) b (blkOf d 1) h (flipD d s) x := by
  fin_cases d
  · have e : seq 0 b = ⟨b.val, by omega⟩ := Fin.ext (by simp [seq])
    show val_main_v127 (F := Ideal) x0 (ix4 (seq 0 b) h s x) = qs (fun r y => x0 (ix2 r y)) b 1 h s x
    rw [e]
    unfold qs tok col
    pointwise [val_main_v127, val_main_v6, val_main_v5, val_main_v4, val_main_v3, val_main_v2]
    refine congrArg x0 (congrArg₂ ix2 (Fin.ext ?_) (Fin.ext ?_))
    · simp [Fin.val_rev]
      try omega
    · simp
      try omega
  · have e : seq 1 b = ⟨16 + b.val, by omega⟩ := Fin.ext (by simp [seq])
    show val_main_v127 (F := Ideal) x0 (ix4 (seq 1 b) h s x) = qs (fun r y => x0 (ix2 r y)) b 0 h (Fin.rev s) x
    rw [e]
    unfold qs tok col
    pointwise [val_main_v127, val_main_v6, val_main_v5, val_main_v4, val_main_v3, val_main_v2]
    refine congrArg x0 (congrArg₂ ix2 (Fin.ext ?_) (Fin.ext ?_))
    · simp [Fin.val_rev]
      try omega
    · simp
      try omega

/-- The keys of step 1. -/
theorem k1 (d : Fin 2) (b : Fin 16) (h : Fin 4) (s : Fin 128) (x : Fin 64) :
    val_main_v52 (F := Ideal) x0 (ix4 (seq d b) h s x) = ks (fun r y => x0 (ix2 r y)) b (blkOf d 0) h (flipD d s) x := by
  fin_cases d
  · have e : seq 0 b = ⟨b.val, by omega⟩ := Fin.ext (by simp [seq])
    show val_main_v52 (F := Ideal) x0 (ix4 (seq 0 b) h s x) = ks (fun r y => x0 (ix2 r y)) b 0 h s x
    rw [e]
    unfold ks eighth tok col
    pointwise [val_main_v52, val_main_v13, val_main_v12, val_main_v11, val_main_v10, val_main_v9, val_main_v8, val_main_v7, val_main_cst]
    refine congrArg (· * _) <|congrArg x0 (congrArg₂ ix2 (Fin.ext ?_) (Fin.ext ?_))
    · simp [Fin.val_rev]
      try omega
    · simp
      try omega
  · have e : seq 1 b = ⟨16 + b.val, by omega⟩ := Fin.ext (by simp [seq])
    show val_main_v52 (F := Ideal) x0 (ix4 (seq 1 b) h s x) = ks (fun r y => x0 (ix2 r y)) b 1 h (Fin.rev s) x
    rw [e]
    unfold ks eighth tok col
    pointwise [val_main_v52, val_main_v13, val_main_v12, val_main_v11, val_main_v10, val_main_v9, val_main_v8, val_main_v7, val_main_cst]
    refine congrArg (· * _) <|congrArg x0 (congrArg₂ ix2 (Fin.ext ?_) (Fin.ext ?_))
    · simp [Fin.val_rev]
      try omega
    · simp
      try omega

/-- The keys of step 2. -/
theorem k2 (d : Fin 2) (b : Fin 16) (h : Fin 4) (s : Fin 128) (x : Fin 64) :
    val_main_v128 (F := Ideal) x0 (ix4 (seq d b) h s x) = ks (fun r y => x0 (ix2 r y)) b (blkOf d 1) h (flipD d s) x := by
  fin_cases d
  · have e : seq 0 b = ⟨b.val, by omega⟩ := Fin.ext (by simp [seq])
    show val_main_v128 (F := Ideal) x0 (ix4 (seq 0 b) h s x) = ks (fun r y => x0 (ix2 r y)) b 1 h s x
    rw [e]
    unfold ks eighth tok col
    pointwise [val_main_v128, val_main_v13, val_main_v12, val_main_v11, val_main_v10, val_main_v9, val_main_v8, val_main_v7, val_main_cst]
    refine congrArg (· * _) <|congrArg x0 (congrArg₂ ix2 (Fin.ext ?_) (Fin.ext ?_))
    · simp [Fin.val_rev]
      try omega
    · simp
      try omega
  · have e : seq 1 b = ⟨16 + b.val, by omega⟩ := Fin.ext (by simp [seq])
    show val_main_v128 (F := Ideal) x0 (ix4 (seq 1 b) h s x) = ks (fun r y => x0 (ix2 r y)) b 0 h (Fin.rev s) x
    rw [e]
    unfold ks eighth tok col
    pointwise [val_main_v128, val_main_v13, val_main_v12, val_main_v11, val_main_v10, val_main_v9, val_main_v8, val_main_v7, val_main_cst]
    refine congrArg (· * _) <|congrArg x0 (congrArg₂ ix2 (Fin.ext ?_) (Fin.ext ?_))
    · simp [Fin.val_rev]
      try omega
    · simp
      try omega

/-- The values of step 1. -/
theorem v1 (d : Fin 2) (b : Fin 16) (h : Fin 4) (s : Fin 128) (x : Fin 64) :
    val_main_v53 (F := Ideal) x0 (ix4 (seq d b) h s x) = vs (fun r y => x0 (ix2 r y)) b (blkOf d 0) h (flipD d s) x := by
  fin_cases d
  · have e : seq 0 b = ⟨b.val, by omega⟩ := Fin.ext (by simp [seq])
    show val_main_v53 (F := Ideal) x0 (ix4 (seq 0 b) h s x) = vs (fun r y => x0 (ix2 r y)) b 0 h s x
    rw [e]
    unfold vs tok col
    pointwise [val_main_v53, val_main_v18, val_main_v17, val_main_v16, val_main_v15, val_main_v14]
    refine congrArg x0 (congrArg₂ ix2 (Fin.ext ?_) (Fin.ext ?_))
    · simp [Fin.val_rev]
      try omega
    · simp
      try omega
  · have e : seq 1 b = ⟨16 + b.val, by omega⟩ := Fin.ext (by simp [seq])
    show val_main_v53 (F := Ideal) x0 (ix4 (seq 1 b) h s x) = vs (fun r y => x0 (ix2 r y)) b 1 h (Fin.rev s) x
    rw [e]
    unfold vs tok col
    pointwise [val_main_v53, val_main_v18, val_main_v17, val_main_v16, val_main_v15, val_main_v14]
    refine congrArg x0 (congrArg₂ ix2 (Fin.ext ?_) (Fin.ext ?_))
    · simp [Fin.val_rev]
      try omega
    · simp
      try omega

/-- The values of step 2. -/
theorem v2 (d : Fin 2) (b : Fin 16) (h : Fin 4) (s : Fin 128) (x : Fin 64) :
    val_main_v129 (F := Ideal) x0 (ix4 (seq d b) h s x) = vs (fun r y => x0 (ix2 r y)) b (blkOf d 1) h (flipD d s) x := by
  fin_cases d
  · have e : seq 0 b = ⟨b.val, by omega⟩ := Fin.ext (by simp [seq])
    show val_main_v129 (F := Ideal) x0 (ix4 (seq 0 b) h s x) = vs (fun r y => x0 (ix2 r y)) b 1 h s x
    rw [e]
    unfold vs tok col
    pointwise [val_main_v129, val_main_v18, val_main_v17, val_main_v16, val_main_v15, val_main_v14]
    refine congrArg x0 (congrArg₂ ix2 (Fin.ext ?_) (Fin.ext ?_))
    · simp [Fin.val_rev]
      try omega
    · simp
      try omega
  · have e : seq 1 b = ⟨16 + b.val, by omega⟩ := Fin.ext (by simp [seq])
    show val_main_v129 (F := Ideal) x0 (ix4 (seq 1 b) h s x) = vs (fun r y => x0 (ix2 r y)) b 0 h (Fin.rev s) x
    rw [e]
    unfold vs tok col
    pointwise [val_main_v129, val_main_v18, val_main_v17, val_main_v16, val_main_v15, val_main_v14]
    refine congrArg x0 (congrArg₂ ix2 (Fin.ext ?_) (Fin.ext ?_))
    · simp [Fin.val_rev]
      try omega
    · simp
      try omega

/-- The input gates of step 1. -/
theorem ig1 (d : Fin 2) (b : Fin 16) (h : Fin 4) (s : Fin 128) :
    val_main_v54 (F := Ideal) x1 (ix3 (seq d b) h s) = x1 (ix2 (tok b (blkOf d 0) (flipD d s)) (igc d h)) := by
  fin_cases d
  · have e : seq 0 b = ⟨b.val, by omega⟩ := Fin.ext (by simp [seq])
    show val_main_v54 (F := Ideal) x1 (ix3 (seq 0 b) h s) = x1 (ix2 (tok b 0 s) (igc 0 h))
    rw [e]
    unfold tok igc
    pointwise [val_main_v54, val_main_v26, val_main_v25, val_main_v24, val_main_v23, val_main_v22, val_main_v21, val_main_v20, val_main_v19]
    refine congrArg x1 (congrArg₂ ix2 (Fin.ext ?_) (Fin.ext ?_))
    · simp [Fin.val_rev]
      try omega
    · simp
      try omega
  · have e : seq 1 b = ⟨16 + b.val, by omega⟩ := Fin.ext (by simp [seq])
    show val_main_v54 (F := Ideal) x1 (ix3 (seq 1 b) h s) = x1 (ix2 (tok b 1 (Fin.rev s)) (igc 1 h))
    rw [e]
    unfold tok igc
    pointwise [val_main_v54, val_main_v26, val_main_v25, val_main_v24, val_main_v23, val_main_v22, val_main_v21, val_main_v20, val_main_v19]
    refine congrArg x1 (congrArg₂ ix2 (Fin.ext ?_) (Fin.ext ?_))
    · simp [Fin.val_rev]
      try omega
    · simp
      try omega

/-- The input gates of step 2. -/
theorem ig2 (d : Fin 2) (b : Fin 16) (h : Fin 4) (s : Fin 128) :
    val_main_v130 (F := Ideal) x1 (ix3 (seq d b) h s) = x1 (ix2 (tok b (blkOf d 1) (flipD d s)) (igc d h)) := by
  fin_cases d
  · have e : seq 0 b = ⟨b.val, by omega⟩ := Fin.ext (by simp [seq])
    show val_main_v130 (F := Ideal) x1 (ix3 (seq 0 b) h s) = x1 (ix2 (tok b 1 s) (igc 0 h))
    rw [e]
    unfold tok igc
    pointwise [val_main_v130, val_main_v26, val_main_v25, val_main_v24, val_main_v23, val_main_v22, val_main_v21, val_main_v20, val_main_v19]
    refine congrArg x1 (congrArg₂ ix2 (Fin.ext ?_) (Fin.ext ?_))
    · simp [Fin.val_rev]
      try omega
    · simp
      try omega
  · have e : seq 1 b = ⟨16 + b.val, by omega⟩ := Fin.ext (by simp [seq])
    show val_main_v130 (F := Ideal) x1 (ix3 (seq 1 b) h s) = x1 (ix2 (tok b 0 (Fin.rev s)) (igc 1 h))
    rw [e]
    unfold tok igc
    pointwise [val_main_v130, val_main_v26, val_main_v25, val_main_v24, val_main_v23, val_main_v22, val_main_v21, val_main_v20, val_main_v19]
    refine congrArg x1 (congrArg₂ ix2 (Fin.ext ?_) (Fin.ext ?_))
    · simp [Fin.val_rev]
      try omega
    · simp
      try omega

/-- The forget gates of step 1. -/
theorem fg1 (d : Fin 2) (b : Fin 16) (h : Fin 4) (s : Fin 128) :
    val_main_v32 (F := Ideal) x1 (ix3 (seq d b) h (⟨s.val, by omega⟩ : Fin 256)) = x1 (ix2 (tok b (blkOf d 0) (flipD d s)) (fgc d h)) := by
  fin_cases d
  · have e : seq 0 b = ⟨b.val, by omega⟩ := Fin.ext (by simp [seq])
    show val_main_v32 (F := Ideal) x1 (ix3 (seq 0 b) h (⟨s.val, by omega⟩ : Fin 256)) = x1 (ix2 (tok b 0 s) (fgc 0 h))
    rw [e]
    unfold tok fgc
    pointwise [val_main_v32, val_main_v31, val_main_v30, val_main_v29, val_main_v28, val_main_v27, val_main_v20, val_main_v19]
    refine congrArg x1 (congrArg₂ ix2 (Fin.ext ?_) (Fin.ext ?_))
    · simp [Fin.val_rev]
      try omega
    · simp
      try omega
  · have e : seq 1 b = ⟨16 + b.val, by omega⟩ := Fin.ext (by simp [seq])
    show val_main_v32 (F := Ideal) x1 (ix3 (seq 1 b) h (⟨s.val, by omega⟩ : Fin 256)) = x1 (ix2 (tok b 1 (Fin.rev s)) (fgc 1 h))
    rw [e]
    unfold tok fgc
    pointwise [val_main_v32, val_main_v31, val_main_v30, val_main_v29, val_main_v28, val_main_v27, val_main_v20, val_main_v19]
    refine congrArg x1 (congrArg₂ ix2 (Fin.ext ?_) (Fin.ext ?_))
    · simp [Fin.val_rev]
      try omega
    · simp
      try omega

/-- The forget gates of step 2. -/
theorem fg2 (d : Fin 2) (b : Fin 16) (h : Fin 4) (s : Fin 128) :
    val_main_v32 (F := Ideal) x1 (ix3 (seq d b) h (⟨128 + s.val, by omega⟩ : Fin 256)) = x1 (ix2 (tok b (blkOf d 1) (flipD d s)) (fgc d h)) := by
  fin_cases d
  · have e : seq 0 b = ⟨b.val, by omega⟩ := Fin.ext (by simp [seq])
    show val_main_v32 (F := Ideal) x1 (ix3 (seq 0 b) h (⟨128 + s.val, by omega⟩ : Fin 256)) = x1 (ix2 (tok b 1 s) (fgc 0 h))
    rw [e]
    unfold tok fgc
    pointwise [val_main_v32, val_main_v31, val_main_v30, val_main_v29, val_main_v28, val_main_v27, val_main_v20, val_main_v19]
    refine congrArg x1 (congrArg₂ ix2 (Fin.ext ?_) (Fin.ext ?_))
    · simp [Fin.val_rev]
      try omega
    · simp
      try omega
  · have e : seq 1 b = ⟨16 + b.val, by omega⟩ := Fin.ext (by simp [seq])
    show val_main_v32 (F := Ideal) x1 (ix3 (seq 1 b) h (⟨128 + s.val, by omega⟩ : Fin 256)) = x1 (ix2 (tok b 0 (Fin.rev s)) (fgc 1 h))
    rw [e]
    unfold tok fgc
    pointwise [val_main_v32, val_main_v31, val_main_v30, val_main_v29, val_main_v28, val_main_v27, val_main_v20, val_main_v19]
    refine congrArg x1 (congrArg₂ ix2 (Fin.ext ?_) (Fin.ext ?_))
    · simp [Fin.val_rev]
      try omega
    · simp
      try omega

/-- The logarithms of the forget gates at the first step. -/
theorem lf1 (d : Fin 2) (b : Fin 16) (h : Fin 4) (s : Fin 128) :
    val_main_v55 (F := Ideal) x1 (ix3 (seq d b) h s) = lfs (fun r y => x1 (ix2 r y)) d b (blkOf d 0) h (flipD d s) := by
  have e : val_main_v55 (F := Ideal) x1 (ix3 (seq d b) h s) = val_main_v47 (F := Ideal) x1 (ix3 (seq d b) h (⟨s.val, by omega⟩ : Fin 256)) := by
    unfold val_main_v55
    generalize val_main_v47 (F := Ideal) x1 = y
    pointwise
  rw [e, lf_apply, fg1]
  rfl

/-- The logarithms of the forget gates at the second step. -/
theorem lf2 (d : Fin 2) (b : Fin 16) (h : Fin 4) (s : Fin 128) :
    val_main_v131 (F := Ideal) x1 (ix3 (seq d b) h s) = lfs (fun r y => x1 (ix2 r y)) d b (blkOf d 1) h (flipD d s) := by
  have e : val_main_v131 (F := Ideal) x1 (ix3 (seq d b) h s) = val_main_v47 (F := Ideal) x1 (ix3 (seq d b) h (⟨128 + s.val, by omega⟩ : Fin 256)) := by
    unfold val_main_v131
    generalize val_main_v47 (F := Ideal) x1 = y
    pointwise
  rw [e, lf_apply, fg2]
  rfl

end Cert.MlstmRefIdeal.Step

end
-- ==== Proof.MlstmRefStep.lean ====
module

public import proofs.«01_k».proof.Proof.MlstmMath
public import proofs.«01_k».proof.Proof.Gen.MlstmRefIdeal.Read
public import Idealize.ShloMosaic.Lib.Pointwise
public import Idealize.ShloMosaic.Lib.WordCmp

@[expose] public section

set_option maxRecDepth 16384

noncomputable section

namespace Cert.MlstmRefIdeal.Step

open Cert.MlstmRefIdeal Cert.MlstmRefIdeal.Gen Cert.MlstmRefIdeal.Read Cert.MlstmMath Idealize.ShloMosaic Idealize.ShloMosaic.TcCoe Idealize.SL.Sem

variable (x0 : FVec Ideal S4096x2816 .f32) (x1 : FVec Ideal S4096x16 .f32)

/-- The maximum along the last axis. -/
theorem max_apply (s : FVec Ideal S32x4x128x128 .f32) (i : Fin 32) (h : Fin 4) (r : Fin 128) :
    Host.reduce FloatOps.maximumf s (constant S_ .f32 0xFF800000#32) reducesTo_S32x4x128x128_S32x4x128_d3 h_S_ (ix3 i h r)
      = Finset.univ.fold max (Ideal.ofBits FTy.f32 4286578688#32) (fun x : Fin 128 => s (ix4 i h r x)) := by
  pointwise

/-- The greater of a running sum with the old stabilizer and a row's maximum. -/
theorem stab_apply (y : FVec Ideal S32x4x128 .f32) (z : FVec Ideal S32x4 .f32) (w : FVec Ideal S32x4x128 .f32) (i : Fin 32) (h : Fin 4) (r : Fin 128) :
    maximumf (addf y (broadcastInDim S32x4x128 ![0, 1, 2] bcast_S32x4x1_S32x4x128_0_1_2 (broadcastInDim S32x4x1 ![0, 1] bcast_S32x4_S32x4x1_0_1 z))) w (ix3 i h r)
      = max (y (ix3 i h r) + z (ix2 i h)) (w (ix3 i h r)) := by
  pointwise

/-- The mask keeps a token and those before it. -/
theorem keeps (r s : Fin 128) : val_main_v1 (F := Ideal) (ix2 r s) = 1#1 ↔ keepD 0 r s = true := by
  have e : val_main_v1 (F := Ideal) (ix2 r s)
      = Scalar.select (IntOp.cmpi CmpIPredicate.sge (IntOp.addi (BitVec.ofNat 32 r.val) 0#32) (BitVec.ofNat 32 s.val)) 1#1 0#1 := by
    pointwise [val_main_v1, val_main_call0_v0, val_main_call0_v1, val_main_call0_v2, val_main_call0_v3, val_main_call0_v4,
      val_main_call0_v5, val_main_call0_c, val_main_call0_c_0, val_main_v0, val_main_c]
  have a : IntOp.addi (BitVec.ofNat 32 r.val) 0#32 = BitVec.ofNat 32 r.val := BitVec.add_zero _
  rw [e, a, WordCmp.cmpi_sge_ofNat (by omega) (by omega)]
  show Scalar.select (BitVec.ofBool (decide (s.val ≤ r.val))) 1#1 0#1 = 1#1 ↔ decide (s.val ≤ r.val) = true
  cases decide (s.val ≤ r.val) <;> decide

/-- Step 1: the running sum of the forget gates. -/
theorem rawB1 (i : Fin 32) (h : Fin 4) (r : Fin 128) :
    val_main_v58 (F := Ideal) x1 (ix3 i h r) = cum (keepD 0) (fun s => val_main_v55 (F := Ideal) x1 (ix3 i h s)) r := by
  have hK := keeps
  unfold val_main_v58 val_main_v57 val_main_call6_v1 val_main_call6_v2 val_main_call6_v3 val_main_call6_v0 val_main_v56 val_main_cst_5 val_main_cst_4
  generalize val_main_v1 (F := Ideal) = K at hK ⊢
  generalize val_main_v55 (F := Ideal) x1 = y0
  unfold cum
  pointwise
  refine Finset.sum_congr rfl fun s _ => ?_
  exact if_congr (hK r s) rfl Ideal.ofBits_zero_f32

/-- Step 1: the exponent between two tokens. -/
theorem rawG1 (i : Fin 32) (h : Fin 4) (r s : Fin 128) :
    val_main_v67 (F := Ideal) x1 (ix4 i h r s) = gap (keepD 0) (fun s => val_main_v58 (F := Ideal) x1 (ix3 i h s)) (fun s => val_main_v54 (F := Ideal) x1 (ix3 i h s)) r s := by
  have hK := keeps
  unfold val_main_v67 val_main_v66 val_main_v65 val_main_v64 val_main_v63 val_main_v62 val_main_v61 val_main_v60 val_main_v59 val_main_call7_v1 val_main_call7_v2 val_main_call7_v0 val_main_cst_6
  generalize val_main_v1 (F := Ideal) = K at hK ⊢
  generalize val_main_v58 (F := Ideal) x1 = y0
  generalize val_main_v54 (F := Ideal) x1 = y1
  unfold gap
  pointwise
  exact if_congr (hK r s) rfl rfl

/-- Step 1: the stabilizer of a token. -/
theorem rawS1 (i : Fin 32) (h : Fin 4) (r : Fin 128) :
    val_main_v72 (F := Ideal) x1 (ix3 i h r) = max (val_main_v58 (F := Ideal) x1 (ix3 i h r) + val_main_v50 (F := Ideal) (ix2 i h)) (top fun s => val_main_v67 (F := Ideal) x1 (ix4 i h r s)) := by
  unfold val_main_v72 val_main_v71 val_main_v70 val_main_v69 val_main_v68 val_main_cst_7
  generalize val_main_v67 (F := Ideal) x1 = y0
  generalize val_main_v58 (F := Ideal) x1 = y1
  generalize val_main_v50 (F := Ideal) = y2
  refine (stab_apply _ _ _ i h r).trans ?_
  rw [max_apply]
  rfl

/-- Step 1: the weight between two tokens. -/
theorem rawW1 (i : Fin 32) (h : Fin 4) (r s : Fin 128) :
    val_main_v78 (F := Ideal) x0 x1 (ix4 i h r s) = (∑ x : Fin 64, val_main_v51 (F := Ideal) x0 (ix4 i h r x) * val_main_v52 (F := Ideal) x0 (ix4 i h s x)) * Ideal.exp (val_main_v67 (F := Ideal) x1 (ix4 i h r s) - val_main_v72 (F := Ideal) x1 (ix3 i h r)) := by
  unfold val_main_v78 val_main_v77 val_main_v76 val_main_v75 val_main_v74 val_main_v73
  generalize val_main_v67 (F := Ideal) x1 = y0
  generalize val_main_v72 (F := Ideal) x1 = y1
  generalize val_main_v51 (F := Ideal) x0 = y2
  generalize val_main_v52 (F := Ideal) x0 = y3
  pointwise

/-- Step 1: the weight of the old state. -/
theorem rawO1 (i : Fin 32) (h : Fin 4) (r : Fin 128) :
    val_main_v80 (F := Ideal) x1 (ix3 i h r) = Ideal.exp (val_main_v58 (F := Ideal) x1 (ix3 i h r) + val_main_v50 (F := Ideal) (ix2 i h) - val_main_v72 (F := Ideal) x1 (ix3 i h r)) := by
  unfold val_main_v80 val_main_v79 val_main_v70 val_main_v69 val_main_v68
  generalize val_main_v72 (F := Ideal) x1 = y0
  generalize val_main_v58 (F := Ideal) x1 = y1
  generalize val_main_v50 (F := Ideal) = y2
  pointwise

/-- Step 1: what a token reads. -/
theorem rawH1 (i : Fin 32) (h : Fin 4) (r : Fin 128) (e : Fin 64) :
    val_main_v97 (F := Ideal) x0 x1 (ix4 i h r e) = Ideal.div ((∑ s : Fin 128, val_main_v78 (F := Ideal) x0 x1 (ix4 i h r s) * val_main_v53 (F := Ideal) x0 (ix4 i h s e)) + val_main_v80 (F := Ideal) x1 (ix3 i h r) * ∑ x : Fin 64, val_main_v51 (F := Ideal) x0 (ix4 i h r x) * val_main_v48 (F := Ideal) (ix4 i h e x))
        (max (absE ((∑ s : Fin 128, val_main_v78 (F := Ideal) x0 x1 (ix4 i h r s)) + val_main_v80 (F := Ideal) x1 (ix3 i h r) * ∑ x : Fin 64, val_main_v49 (F := Ideal) (ix3 i h x) * val_main_v51 (F := Ideal) x0 (ix4 i h r x))) (Ideal.exp (-val_main_v72 (F := Ideal) x1 (ix3 i h r)))) := by
  unfold val_main_v97 val_main_v96 val_main_v95 val_main_v94 val_main_v93 val_main_v92 val_main_v91 val_main_v90 val_main_v89 val_main_v88 val_main_v87 val_main_v86 val_main_v85 val_main_v84 val_main_v83 val_main_v82 val_main_v81 val_main_cst_8
  generalize val_main_v78 (F := Ideal) x0 x1 = y0
  generalize val_main_v80 (F := Ideal) x1 = y1
  generalize val_main_v72 (F := Ideal) x1 = y2
  generalize val_main_v51 (F := Ideal) x0 = y3
  generalize val_main_v53 (F := Ideal) x0 = y4
  generalize val_main_v48 (F := Ideal) = y5
  generalize val_main_v49 (F := Ideal) = y6
  unfold absE
  pointwise
  rfl

/-- Step 1: the sum of all forget gates. -/
theorem rawL1 (i : Fin 32) (h : Fin 4)  :
    val_main_v99 (F := Ideal) x1 (ix2 i h) = val_main_v58 (F := Ideal) x1 (ix3 i h 127) := by
  unfold val_main_v99 val_main_v98
  generalize val_main_v58 (F := Ideal) x1 = y0
  pointwise

/-- Step 1: the new stabilizer. -/
theorem rawM1 (i : Fin 32) (h : Fin 4)  :
    val_main_v106 (F := Ideal) x1 (ix2 i h) = max (val_main_v99 (F := Ideal) x1 (ix2 i h) + val_main_v50 (F := Ideal) (ix2 i h)) (top fun s => val_main_v99 (F := Ideal) x1 (ix2 i h) - val_main_v58 (F := Ideal) x1 (ix3 i h s) + val_main_v54 (F := Ideal) x1 (ix3 i h s)) := by
  unfold val_main_v106 val_main_v105 val_main_v104 val_main_v103 val_main_v102 val_main_v101 val_main_v100 val_main_cst_9
  generalize val_main_v99 (F := Ideal) x1 = y0
  generalize val_main_v58 (F := Ideal) x1 = y1
  generalize val_main_v54 (F := Ideal) x1 = y2
  generalize val_main_v50 (F := Ideal) = y3
  unfold top
  pointwise

/-- Step 1: what remains of the state. -/
theorem rawK1 (i : Fin 32) (h : Fin 4)  :
    val_main_v109 (F := Ideal) x1 (ix2 i h) = Ideal.exp (val_main_v99 (F := Ideal) x1 (ix2 i h) + val_main_v50 (F := Ideal) (ix2 i h) - val_main_v106 (F := Ideal) x1 (ix2 i h)) := by
  unfold val_main_v109 val_main_v108 val_main_v107
  generalize val_main_v106 (F := Ideal) x1 = y0
  generalize val_main_v99 (F := Ideal) x1 = y1
  generalize val_main_v50 (F := Ideal) = y2
  pointwise

/-- Step 1: what a token adds. -/
theorem rawA1 (i : Fin 32) (h : Fin 4) (s : Fin 128) :
    val_main_v113 (F := Ideal) x1 (ix3 i h s) = Ideal.exp (val_main_v99 (F := Ideal) x1 (ix2 i h) - val_main_v58 (F := Ideal) x1 (ix3 i h s) + val_main_v54 (F := Ideal) x1 (ix3 i h s) - val_main_v106 (F := Ideal) x1 (ix2 i h)) := by
  unfold val_main_v113 val_main_v112 val_main_v111 val_main_v110 val_main_v103 val_main_v102 val_main_v101 val_main_v100
  generalize val_main_v106 (F := Ideal) x1 = y0
  generalize val_main_v99 (F := Ideal) x1 = y1
  generalize val_main_v58 (F := Ideal) x1 = y2
  generalize val_main_v54 (F := Ideal) x1 = y3
  pointwise

/-- Step 1: the new matrix state. -/
theorem rawC1 (i : Fin 32) (h : Fin 4) (e x : Fin 64) :
    val_main_v121 (F := Ideal) x0 x1 (ix4 i h e x) = val_main_v109 (F := Ideal) x1 (ix2 i h) * val_main_v48 (F := Ideal) (ix4 i h e x) + ∑ s : Fin 128, val_main_v113 (F := Ideal) x1 (ix3 i h s) * val_main_v53 (F := Ideal) x0 (ix4 i h s e) * val_main_v52 (F := Ideal) x0 (ix4 i h s x) := by
  unfold val_main_v121 val_main_v120 val_main_v119 val_main_v118 val_main_v117 val_main_v116 val_main_v115 val_main_v114
  generalize val_main_v113 (F := Ideal) x1 = y0
  generalize val_main_v109 (F := Ideal) x1 = y1
  generalize val_main_v52 (F := Ideal) x0 = y2
  generalize val_main_v53 (F := Ideal) x0 = y3
  generalize val_main_v48 (F := Ideal) = y4
  pointwise

/-- Step 1: the new normalizer. -/
theorem rawN1 (i : Fin 32) (h : Fin 4) (x : Fin 64) :
    val_main_v126 (F := Ideal) x0 x1 (ix3 i h x) = val_main_v109 (F := Ideal) x1 (ix2 i h) * val_main_v49 (F := Ideal) (ix3 i h x) + ∑ s : Fin 128, val_main_v113 (F := Ideal) x1 (ix3 i h s) * val_main_v52 (F := Ideal) x0 (ix4 i h s x) := by
  unfold val_main_v126 val_main_v125 val_main_v124 val_main_v123 val_main_v122
  generalize val_main_v113 (F := Ideal) x1 = y0
  generalize val_main_v109 (F := Ideal) x1 = y1
  generalize val_main_v52 (F := Ideal) x0 = y2
  generalize val_main_v49 (F := Ideal) = y3
  pointwise

/-- Step 2: the running sum of the forget gates. -/
theorem rawB2 (i : Fin 32) (h : Fin 4) (r : Fin 128) :
    val_main_v134 (F := Ideal) x1 (ix3 i h r) = cum (keepD 0) (fun s => val_main_v131 (F := Ideal) x1 (ix3 i h s)) r := by
  have hK := keeps
  unfold val_main_v134 val_main_v133 val_main_call8_v1 val_main_call8_v2 val_main_call8_v3 val_main_call8_v0 val_main_v132 val_main_cst_11 val_main_cst_10
  generalize val_main_v1 (F := Ideal) = K at hK ⊢
  generalize val_main_v131 (F := Ideal) x1 = y0
  unfold cum
  pointwise
  refine Finset.sum_congr rfl fun s _ => ?_
  exact if_congr (hK r s) rfl Ideal.ofBits_zero_f32

/-- Step 2: the exponent between two tokens. -/
theorem rawG2 (i : Fin 32) (h : Fin 4) (r s : Fin 128) :
    val_main_v143 (F := Ideal) x1 (ix4 i h r s) = gap (keepD 0) (fun s => val_main_v134 (F := Ideal) x1 (ix3 i h s)) (fun s => val_main_v130 (F := Ideal) x1 (ix3 i h s)) r s := by
  have hK := keeps
  unfold val_main_v143 val_main_v142 val_main_v141 val_main_v140 val_main_v139 val_main_v138 val_main_v137 val_main_v136 val_main_v135 val_main_call9_v1 val_main_call9_v2 val_main_call9_v0 val_main_cst_12
  generalize val_main_v1 (F := Ideal) = K at hK ⊢
  generalize val_main_v134 (F := Ideal) x1 = y0
  generalize val_main_v130 (F := Ideal) x1 = y1
  unfold gap
  pointwise
  exact if_congr (hK r s) rfl rfl

/-- Step 2: the stabilizer of a token. -/
theorem rawS2 (i : Fin 32) (h : Fin 4) (r : Fin 128) :
    val_main_v148 (F := Ideal) x1 (ix3 i h r) = max (val_main_v134 (F := Ideal) x1 (ix3 i h r) + val_main_v106 (F := Ideal) x1 (ix2 i h)) (top fun s => val_main_v143 (F := Ideal) x1 (ix4 i h r s)) := by
  unfold val_main_v148 val_main_v147 val_main_v146 val_main_v145 val_main_v144 val_main_cst_13
  generalize val_main_v143 (F := Ideal) x1 = y0
  generalize val_main_v134 (F := Ideal) x1 = y1
  generalize val_main_v106 (F := Ideal) x1 = y2
  refine (stab_apply _ _ _ i h r).trans ?_
  rw [max_apply]
  rfl

/-- Step 2: the weight between two tokens. -/
theorem rawW2 (i : Fin 32) (h : Fin 4) (r s : Fin 128) :
    val_main_v154 (F := Ideal) x0 x1 (ix4 i h r s) = (∑ x : Fin 64, val_main_v127 (F := Ideal) x0 (ix4 i h r x) * val_main_v128 (F := Ideal) x0 (ix4 i h s x)) * Ideal.exp (val_main_v143 (F := Ideal) x1 (ix4 i h r s) - val_main_v148 (F := Ideal) x1 (ix3 i h r)) := by
  unfold val_main_v154 val_main_v153 val_main_v152 val_main_v151 val_main_v150 val_main_v149
  generalize val_main_v143 (F := Ideal) x1 = y0
  generalize val_main_v148 (F := Ideal) x1 = y1
  generalize val_main_v127 (F := Ideal) x0 = y2
  generalize val_main_v128 (F := Ideal) x0 = y3
  pointwise

/-- Step 2: the weight of the old state. -/
theorem rawO2 (i : Fin 32) (h : Fin 4) (r : Fin 128) :
    val_main_v156 (F := Ideal) x1 (ix3 i h r) = Ideal.exp (val_main_v134 (F := Ideal) x1 (ix3 i h r) + val_main_v106 (F := Ideal) x1 (ix2 i h) - val_main_v148 (F := Ideal) x1 (ix3 i h r)) := by
  unfold val_main_v156 val_main_v155 val_main_v146 val_main_v145 val_main_v144
  generalize val_main_v148 (F := Ideal) x1 = y0
  generalize val_main_v134 (F := Ideal) x1 = y1
  generalize val_main_v106 (F := Ideal) x1 = y2
  pointwise

/-- Step 2: what a token reads. -/
theorem rawH2 (i : Fin 32) (h : Fin 4) (r : Fin 128) (e : Fin 64) :
    val_main_v173 (F := Ideal) x0 x1 (ix4 i h r e) = Ideal.div ((∑ s : Fin 128, val_main_v154 (F := Ideal) x0 x1 (ix4 i h r s) * val_main_v129 (F := Ideal) x0 (ix4 i h s e)) + val_main_v156 (F := Ideal) x1 (ix3 i h r) * ∑ x : Fin 64, val_main_v127 (F := Ideal) x0 (ix4 i h r x) * val_main_v121 (F := Ideal) x0 x1 (ix4 i h e x))
        (max (absE ((∑ s : Fin 128, val_main_v154 (F := Ideal) x0 x1 (ix4 i h r s)) + val_main_v156 (F := Ideal) x1 (ix3 i h r) * ∑ x : Fin 64, val_main_v126 (F := Ideal) x0 x1 (ix3 i h x) * val_main_v127 (F := Ideal) x0 (ix4 i h r x))) (Ideal.exp (-val_main_v148 (F := Ideal) x1 (ix3 i h r)))) := by
  unfold val_main_v173 val_main_v172 val_main_v171 val_main_v170 val_main_v169 val_main_v168 val_main_v167 val_main_v166 val_main_v165 val_main_v164 val_main_v163 val_main_v162 val_main_v161 val_main_v160 val_main_v159 val_main_v158 val_main_v157 val_main_cst_14
  generalize val_main_v154 (F := Ideal) x0 x1 = y0
  generalize val_main_v156 (F := Ideal) x1 = y1
  generalize val_main_v148 (F := Ideal) x1 = y2
  generalize val_main_v127 (F := Ideal) x0 = y3
  generalize val_main_v129 (F := Ideal) x0 = y4
  generalize val_main_v121 (F := Ideal) x0 x1 = y5
  generalize val_main_v126 (F := Ideal) x0 x1 = y6
  unfold absE
  pointwise
  rfl

/-- Step 2: the sum of all forget gates. -/
theorem rawL2 (i : Fin 32) (h : Fin 4)  :
    val_main_v175 (F := Ideal) x1 (ix2 i h) = val_main_v134 (F := Ideal) x1 (ix3 i h 127) := by
  unfold val_main_v175 val_main_v174
  generalize val_main_v134 (F := Ideal) x1 = y0
  pointwise

/-- Step 2: the new stabilizer. -/
theorem rawM2 (i : Fin 32) (h : Fin 4)  :
    val_main_v182 (F := Ideal) x1 (ix2 i h) = max (val_main_v175 (F := Ideal) x1 (ix2 i h) + val_main_v106 (F := Ideal) x1 (ix2 i h)) (top fun s => val_main_v175 (F := Ideal) x1 (ix2 i h) - val_main_v134 (F := Ideal) x1 (ix3 i h s) + val_main_v130 (F := Ideal) x1 (ix3 i h s)) := by
  unfold val_main_v182 val_main_v181 val_main_v180 val_main_v179 val_main_v178 val_main_v177 val_main_v176 val_main_cst_15
  generalize val_main_v175 (F := Ideal) x1 = y0
  generalize val_main_v134 (F := Ideal) x1 = y1
  generalize val_main_v130 (F := Ideal) x1 = y2
  generalize val_main_v106 (F := Ideal) x1 = y3
  unfold top
  pointwise

/-- Step 2: what remains of the state. -/
theorem rawK2 (i : Fin 32) (h : Fin 4)  :
    val_main_v185 (F := Ideal) x1 (ix2 i h) = Ideal.exp (val_main_v175 (F := Ideal) x1 (ix2 i h) + val_main_v106 (F := Ideal) x1 (ix2 i h) - val_main_v182 (F := Ideal) x1 (ix2 i h)) := by
  unfold val_main_v185 val_main_v184 val_main_v183
  generalize val_main_v182 (F := Ideal) x1 = y0
  generalize val_main_v175 (F := Ideal) x1 = y1
  generalize val_main_v106 (F := Ideal) x1 = y2
  pointwise

/-- Step 2: what a token adds. -/
theorem rawA2 (i : Fin 32) (h : Fin 4) (s : Fin 128) :
    val_main_v189 (F := Ideal) x1 (ix3 i h s) = Ideal.exp (val_main_v175 (F := Ideal) x1 (ix2 i h) - val_main_v134 (F := Ideal) x1 (ix3 i h s) + val_main_v130 (F := Ideal) x1 (ix3 i h s) - val_main_v182 (F := Ideal) x1 (ix2 i h)) := by
  unfold val_main_v189 val_main_v188 val_main_v187 val_main_v186 val_main_v179 val_main_v178 val_main_v177 val_main_v176
  generalize val_main_v182 (F := Ideal) x1 = y0
  generalize val_main_v175 (F := Ideal) x1 = y1
  generalize val_main_v134 (F := Ideal) x1 = y2
  generalize val_main_v130 (F := Ideal) x1 = y3
  pointwise

/-- Step 2: the new matrix state. -/
theorem rawC2 (i : Fin 32) (h : Fin 4) (e x : Fin 64) :
    val_main_v197 (F := Ideal) x0 x1 (ix4 i h e x) = val_main_v185 (F := Ideal) x1 (ix2 i h) * val_main_v121 (F := Ideal) x0 x1 (ix4 i h e x) + ∑ s : Fin 128, val_main_v189 (F := Ideal) x1 (ix3 i h s) * val_main_v129 (F := Ideal) x0 (ix4 i h s e) * val_main_v128 (F := Ideal) x0 (ix4 i h s x) := by
  unfold val_main_v197 val_main_v196 val_main_v195 val_main_v194 val_main_v193 val_main_v192 val_main_v191 val_main_v190
  generalize val_main_v189 (F := Ideal) x1 = y0
  generalize val_main_v185 (F := Ideal) x1 = y1
  generalize val_main_v128 (F := Ideal) x0 = y2
  generalize val_main_v129 (F := Ideal) x0 = y3
  generalize val_main_v121 (F := Ideal) x0 x1 = y4
  pointwise

/-- Step 2: the new normalizer. -/
theorem rawN2 (i : Fin 32) (h : Fin 4) (x : Fin 64) :
    val_main_v202 (F := Ideal) x0 x1 (ix3 i h x) = val_main_v185 (F := Ideal) x1 (ix2 i h) * val_main_v126 (F := Ideal) x0 x1 (ix3 i h x) + ∑ s : Fin 128, val_main_v189 (F := Ideal) x1 (ix3 i h s) * val_main_v128 (F := Ideal) x0 (ix4 i h s x) := by
  unfold val_main_v202 val_main_v201 val_main_v200 val_main_v199 val_main_v198
  generalize val_main_v189 (F := Ideal) x1 = y0
  generalize val_main_v185 (F := Ideal) x1 = y1
  generalize val_main_v128 (F := Ideal) x0 = y2
  generalize val_main_v126 (F := Ideal) x0 x1 = y3
  pointwise

/-- Step 1, in the words of the recurrence. -/
theorem stab1 (i : Fin 32) (h : Fin 4) (r : Fin 128) : val_main_v72 (F := Ideal) x1 (ix3 i h r) = stab (keepD 0) (fun s => val_main_v58 (F := Ideal) x1 (ix3 i h s)) (fun s => val_main_v54 (F := Ideal) x1 (ix3 i h s)) (val_main_v50 (F := Ideal) (ix2 i h)) r := by
  rw [rawS1]
  simp only [rawG1]
  rfl

/-- Step 1: the weight between two tokens is that of the recurrence. -/
theorem wt1 (i : Fin 32) (h : Fin 4) (r s : Fin 128) : val_main_v78 (F := Ideal) x0 x1 (ix4 i h r s) = wt (keepD 0) (fun s => val_main_v58 (F := Ideal) x1 (ix3 i h s)) (fun s => val_main_v54 (F := Ideal) x1 (ix3 i h s)) (fun s x => val_main_v51 (F := Ideal) x0 (ix4 i h s x)) (fun s x => val_main_v52 (F := Ideal) x0 (ix4 i h s x)) (val_main_v50 (F := Ideal) (ix2 i h)) r s := by
  rw [rawW1, rawG1, stab1]
  rfl

/-- Step 1: the weight of the old state is that of the recurrence. -/
theorem old1 (i : Fin 32) (h : Fin 4) (r : Fin 128) : val_main_v80 (F := Ideal) x1 (ix3 i h r) = old (keepD 0) (fun s => val_main_v58 (F := Ideal) x1 (ix3 i h s)) (fun s => val_main_v54 (F := Ideal) x1 (ix3 i h s)) (val_main_v50 (F := Ideal) (ix2 i h)) r := by
  rw [rawO1, stab1]
  rfl

/-- Step 1: what a token reads is that of the recurrence. -/
theorem out1 (i : Fin 32) (h : Fin 4) (r : Fin 128) (e : Fin 64) :
    val_main_v97 (F := Ideal) x0 x1 (ix4 i h r e) = out (keepD 0) (fun s => val_main_v58 (F := Ideal) x1 (ix3 i h s)) (fun s => val_main_v54 (F := Ideal) x1 (ix3 i h s)) (fun s x => val_main_v51 (F := Ideal) x0 (ix4 i h s x)) (fun s x => val_main_v52 (F := Ideal) x0 (ix4 i h s x)) (fun s x => val_main_v53 (F := Ideal) x0 (ix4 i h s x)) (fun e x => val_main_v48 (F := Ideal) (ix4 i h e x)) (fun x => val_main_v49 (F := Ideal) (ix3 i h x)) (val_main_v50 (F := Ideal) (ix2 i h)) r e := by
  rw [rawH1, old1, stab1]
  simp only [wt1]
  unfold out
  have e1 : ∀ z : EReal, -z = 0 - z := fun z => by rw [sub_eq_add_neg, zero_add]
  have e2 : (∑ x : Fin 64, val_main_v49 (F := Ideal) (ix3 i h x) * val_main_v51 (F := Ideal) x0 (ix4 i h r x)) = ∑ x : Fin 64, val_main_v51 (F := Ideal) x0 (ix4 i h r x) * val_main_v49 (F := Ideal) (ix3 i h x) :=
    Finset.sum_congr rfl fun x _ => mul_comm _ _
  rw [e1, e2]

/-- Step 1: the new stabilizer is that of the recurrence. -/
theorem mNew1 (i : Fin 32) (h : Fin 4) : val_main_v106 (F := Ideal) x1 (ix2 i h) = mNew (fun s => val_main_v58 (F := Ideal) x1 (ix3 i h s)) (fun s => val_main_v54 (F := Ideal) x1 (ix3 i h s)) (val_main_v58 (F := Ideal) x1 (ix3 i h 127)) (val_main_v50 (F := Ideal) (ix2 i h)) := by
  rw [rawM1, rawL1]
  rfl

/-- Step 1: the weight the old state keeps is that of the recurrence. -/
theorem keep1 (i : Fin 32) (h : Fin 4) : val_main_v109 (F := Ideal) x1 (ix2 i h) = keepOld (fun s => val_main_v58 (F := Ideal) x1 (ix3 i h s)) (fun s => val_main_v54 (F := Ideal) x1 (ix3 i h s)) (val_main_v58 (F := Ideal) x1 (ix3 i h 127)) (val_main_v50 (F := Ideal) (ix2 i h)) := by
  rw [rawK1, mNew1, rawL1]
  rfl

/-- Step 1: the weight with which a token enters the state is that of the recurrence. -/
theorem add1 (i : Fin 32) (h : Fin 4) (s : Fin 128) : val_main_v113 (F := Ideal) x1 (ix3 i h s) = add (fun s => val_main_v58 (F := Ideal) x1 (ix3 i h s)) (fun s => val_main_v54 (F := Ideal) x1 (ix3 i h s)) (val_main_v58 (F := Ideal) x1 (ix3 i h 127)) (val_main_v50 (F := Ideal) (ix2 i h)) s := by
  rw [rawA1, mNew1, rawL1]
  rfl

/-- Step 1: the new matrix state is that of the recurrence. -/
theorem cNew1 (i : Fin 32) (h : Fin 4) (e x : Fin 64) :
    val_main_v121 (F := Ideal) x0 x1 (ix4 i h e x) = cNew (fun s => val_main_v58 (F := Ideal) x1 (ix3 i h s)) (fun s => val_main_v54 (F := Ideal) x1 (ix3 i h s)) (val_main_v58 (F := Ideal) x1 (ix3 i h 127)) (fun s x => val_main_v52 (F := Ideal) x0 (ix4 i h s x)) (fun s x => val_main_v53 (F := Ideal) x0 (ix4 i h s x)) (fun e x => val_main_v48 (F := Ideal) (ix4 i h e x)) (val_main_v50 (F := Ideal) (ix2 i h)) e x := by
  rw [rawC1, keep1]
  simp only [add1]
  unfold cNew
  exact congrArg (_ + ·) (Finset.sum_congr rfl fun s _ => congrArg (· * _) (mul_comm _ _))

/-- Step 1: the new normalizer is that of the recurrence. -/
theorem nNew1 (i : Fin 32) (h : Fin 4) (x : Fin 64) :
    val_main_v126 (F := Ideal) x0 x1 (ix3 i h x) = nNew (fun s => val_main_v58 (F := Ideal) x1 (ix3 i h s)) (fun s => val_main_v54 (F := Ideal) x1 (ix3 i h s)) (val_main_v58 (F := Ideal) x1 (ix3 i h 127)) (fun s x => val_main_v52 (F := Ideal) x0 (ix4 i h s x)) (fun x => val_main_v49 (F := Ideal) (ix3 i h x)) (val_main_v50 (F := Ideal) (ix2 i h)) x := by
  rw [rawN1, keep1]
  simp only [add1]
  unfold nNew
  exact congrArg (_ + ·) (Finset.sum_congr rfl fun s _ => mul_comm _ _)

/-- Step 2, in the words of the recurrence. -/
theorem stab2 (i : Fin 32) (h : Fin 4) (r : Fin 128) : val_main_v148 (F := Ideal) x1 (ix3 i h r) = stab (keepD 0) (fun s => val_main_v134 (F := Ideal) x1 (ix3 i h s)) (fun s => val_main_v130 (F := Ideal) x1 (ix3 i h s)) (val_main_v106 (F := Ideal) x1 (ix2 i h)) r := by
  rw [rawS2]
  simp only [rawG2]
  rfl

/-- Step 2: the weight between two tokens is that of the recurrence. -/
theorem wt2 (i : Fin 32) (h : Fin 4) (r s : Fin 128) : val_main_v154 (F := Ideal) x0 x1 (ix4 i h r s) = wt (keepD 0) (fun s => val_main_v134 (F := Ideal) x1 (ix3 i h s)) (fun s => val_main_v130 (F := Ideal) x1 (ix3 i h s)) (fun s x => val_main_v127 (F := Ideal) x0 (ix4 i h s x)) (fun s x => val_main_v128 (F := Ideal) x0 (ix4 i h s x)) (val_main_v106 (F := Ideal) x1 (ix2 i h)) r s := by
  rw [rawW2, rawG2, stab2]
  rfl

/-- Step 2: the weight of the old state is that of the recurrence. -/
theorem old2 (i : Fin 32) (h : Fin 4) (r : Fin 128) : val_main_v156 (F := Ideal) x1 (ix3 i h r) = old (keepD 0) (fun s => val_main_v134 (F := Ideal) x1 (ix3 i h s)) (fun s => val_main_v130 (F := Ideal) x1 (ix3 i h s)) (val_main_v106 (F := Ideal) x1 (ix2 i h)) r := by
  rw [rawO2, stab2]
  rfl

/-- Step 2: what a token reads is that of the recurrence. -/
theorem out2 (i : Fin 32) (h : Fin 4) (r : Fin 128) (e : Fin 64) :
    val_main_v173 (F := Ideal) x0 x1 (ix4 i h r e) = out (keepD 0) (fun s => val_main_v134 (F := Ideal) x1 (ix3 i h s)) (fun s => val_main_v130 (F := Ideal) x1 (ix3 i h s)) (fun s x => val_main_v127 (F := Ideal) x0 (ix4 i h s x)) (fun s x => val_main_v128 (F := Ideal) x0 (ix4 i h s x)) (fun s x => val_main_v129 (F := Ideal) x0 (ix4 i h s x)) (fun e x => val_main_v121 (F := Ideal) x0 x1 (ix4 i h e x)) (fun x => val_main_v126 (F := Ideal) x0 x1 (ix3 i h x)) (val_main_v106 (F := Ideal) x1 (ix2 i h)) r e := by
  rw [rawH2, old2, stab2]
  simp only [wt2]
  unfold out
  have e1 : ∀ z : EReal, -z = 0 - z := fun z => by rw [sub_eq_add_neg, zero_add]
  have e2 : (∑ x : Fin 64, val_main_v126 (F := Ideal) x0 x1 (ix3 i h x) * val_main_v127 (F := Ideal) x0 (ix4 i h r x)) = ∑ x : Fin 64, val_main_v127 (F := Ideal) x0 (ix4 i h r x) * val_main_v126 (F := Ideal) x0 x1 (ix3 i h x) :=
    Finset.sum_congr rfl fun x _ => mul_comm _ _
  rw [e1, e2]

/-- Step 2: the new stabilizer is that of the recurrence. -/
theorem mNew2 (i : Fin 32) (h : Fin 4) : val_main_v182 (F := Ideal) x1 (ix2 i h) = mNew (fun s => val_main_v134 (F := Ideal) x1 (ix3 i h s)) (fun s => val_main_v130 (F := Ideal) x1 (ix3 i h s)) (val_main_v134 (F := Ideal) x1 (ix3 i h 127)) (val_main_v106 (F := Ideal) x1 (ix2 i h)) := by
  rw [rawM2, rawL2]
  rfl

/-- Step 2: the weight the old state keeps is that of the recurrence. -/
theorem keep2 (i : Fin 32) (h : Fin 4) : val_main_v185 (F := Ideal) x1 (ix2 i h) = keepOld (fun s => val_main_v134 (F := Ideal) x1 (ix3 i h s)) (fun s => val_main_v130 (F := Ideal) x1 (ix3 i h s)) (val_main_v134 (F := Ideal) x1 (ix3 i h 127)) (val_main_v106 (F := Ideal) x1 (ix2 i h)) := by
  rw [rawK2, mNew2, rawL2]
  rfl

/-- Step 2: the weight with which a token enters the state is that of the recurrence. -/
theorem add2 (i : Fin 32) (h : Fin 4) (s : Fin 128) : val_main_v189 (F := Ideal) x1 (ix3 i h s) = add (fun s => val_main_v134 (F := Ideal) x1 (ix3 i h s)) (fun s => val_main_v130 (F := Ideal) x1 (ix3 i h s)) (val_main_v134 (F := Ideal) x1 (ix3 i h 127)) (val_main_v106 (F := Ideal) x1 (ix2 i h)) s := by
  rw [rawA2, mNew2, rawL2]
  rfl

/-- Step 2: the new matrix state is that of the recurrence. -/
theorem cNew2 (i : Fin 32) (h : Fin 4) (e x : Fin 64) :
    val_main_v197 (F := Ideal) x0 x1 (ix4 i h e x) = cNew (fun s => val_main_v134 (F := Ideal) x1 (ix3 i h s)) (fun s => val_main_v130 (F := Ideal) x1 (ix3 i h s)) (val_main_v134 (F := Ideal) x1 (ix3 i h 127)) (fun s x => val_main_v128 (F := Ideal) x0 (ix4 i h s x)) (fun s x => val_main_v129 (F := Ideal) x0 (ix4 i h s x)) (fun e x => val_main_v121 (F := Ideal) x0 x1 (ix4 i h e x)) (val_main_v106 (F := Ideal) x1 (ix2 i h)) e x := by
  rw [rawC2, keep2]
  simp only [add2]
  unfold cNew
  exact congrArg (_ + ·) (Finset.sum_congr rfl fun s _ => congrArg (· * _) (mul_comm _ _))

/-- Step 2: the new normalizer is that of the recurrence. -/
theorem nNew2 (i : Fin 32) (h : Fin 4) (x : Fin 64) :
    val_main_v202 (F := Ideal) x0 x1 (ix3 i h x) = nNew (fun s => val_main_v134 (F := Ideal) x1 (ix3 i h s)) (fun s => val_main_v130 (F := Ideal) x1 (ix3 i h s)) (val_main_v134 (F := Ideal) x1 (ix3 i h 127)) (fun s x => val_main_v128 (F := Ideal) x0 (ix4 i h s x)) (fun x => val_main_v126 (F := Ideal) x0 x1 (ix3 i h x)) (val_main_v106 (F := Ideal) x1 (ix2 i h)) x := by
  rw [rawN2, keep2]
  simp only [add2]
  unfold nNew
  exact congrArg (_ + ·) (Finset.sum_congr rfl fun s _ => mul_comm _ _)

end Cert.MlstmRefIdeal.Step

end
-- ==== Proof.MlstmRef.lean ====
module

public import proofs.«01_k».proof.Proof.MlstmRefIn
public import proofs.«01_k».proof.Proof.MlstmRefStep
public import Idealize.ShloMosaic.Lib.Pointwise

@[expose] public section

set_option maxRecDepth 16384

noncomputable section

namespace Cert.MlstmRefIdeal.Step

open Cert.MlstmRefIdeal Cert.MlstmRefIdeal.Read Cert.MlstmMath Idealize.ShloMosaic Idealize.ShloMosaic.TcCoe Idealize.SL.Sem

variable (x0 : FVec Ideal S4096x2816 .f32) (x1 : FVec Ideal S4096x16 .f32)

/-- The forward rows, from the sequences as they are. -/
theorem r206b (b : Fin 16) (c : Fin 2) (s : Fin 128) (h : Fin 4) (e : Fin 64) :
    val_main_v206 (F := Ideal) x0 x1 (ix2 (tok b c s) (col h e))
      = val_main_v203 (F := Ideal) x0 x1 (ix4 (⟨b.val, by omega⟩ : Fin 32) h (⟨128 * c.val + s.val, by omega⟩ : Fin 256) e) := by
  unfold val_main_v206 val_main_v205 val_main_v204 tok col
  generalize val_main_v203 (F := Ideal) x0 x1 = z
  pointwise
  exact congrArg (fun p => z (ix4 _ h p e)) (Fin.ext (by show (256 * b.val + 128 * c.val + s.val) % 256 = 128 * c.val + s.val; omega))

/-- The backward rows, from the flipped sequences. -/
theorem r210b (b : Fin 16) (c : Fin 2) (s : Fin 128) (h : Fin 4) (e : Fin 64) :
    val_main_v210 (F := Ideal) x0 x1 (ix2 (tok b c s) (col h e))
      = val_main_v203 (F := Ideal) x0 x1 (ix4 (⟨16 + b.val, by omega⟩ : Fin 32) h (⟨128 * (Fin.rev c).val + (Fin.rev s).val, by omega⟩ : Fin 256) e) := by
  unfold val_main_v210 val_main_v209 val_main_v208 val_main_v207 tok col
  generalize val_main_v203 (F := Ideal) x0 x1 = z
  pointwise
  refine congrArg (fun p => z (ix4 _ h p e)) (Fin.ext ?_)
  simp [Fin.val_rev]
  omega

/-- The tokens of the first step. -/
theorem r203a (i : Fin 32) (h : Fin 4) (s : Fin 128) (e : Fin 64) :
    val_main_v203 (F := Ideal) x0 x1 (ix4 i h (⟨s.val, by omega⟩ : Fin 256) e) = val_main_v97 (F := Ideal) x0 x1 (ix4 i h s e) := by
  unfold val_main_v203
  generalize val_main_v97 (F := Ideal) x0 x1 = z
  generalize val_main_v173 (F := Ideal) x0 x1 = w
  pointwise

/-- The tokens of the second step. -/
theorem r203b (i : Fin 32) (h : Fin 4) (s : Fin 128) (e : Fin 64) :
    val_main_v203 (F := Ideal) x0 x1 (ix4 i h (⟨128 + s.val, by omega⟩ : Fin 256) e) = val_main_v173 (F := Ideal) x0 x1 (ix4 i h s e) := by
  unfold val_main_v203
  generalize val_main_v97 (F := Ideal) x0 x1 = z
  generalize val_main_v173 (F := Ideal) x0 x1 = w
  pointwise

/-- The matrix states, from the sequences of both directions. -/
theorem r215 (b : Fin 16) (d : Fin 2) (h : Fin 4) (e x : Fin 64) :
    val_main_v215 (F := Ideal) x0 x1 (ix5 b d h e x) = val_main_v197 (F := Ideal) x0 x1 (ix4 (seq d b) h e x) := by
  unfold val_main_v215 val_main_v214 val_main_v213 val_main_v212 val_main_v211
  generalize val_main_v197 (F := Ideal) x0 x1 = z
  fin_cases d
  · show _ = z (ix4 (seq 0 b) h e x)
    have e : seq 0 b = ⟨b.val, by omega⟩ := Fin.ext (by simp [seq])
    rw [e]
    pointwise
  · show _ = z (ix4 (seq 1 b) h e x)
    have e : seq 1 b = ⟨16 + b.val, by omega⟩ := Fin.ext (by simp [seq])
    rw [e]
    pointwise

/-- The normalizers, from the sequences of both directions. -/
theorem r221 (b : Fin 16) (d : Fin 2) (h : Fin 4) (x : Fin 64) :
    val_main_v221 (F := Ideal) x0 x1 (ix3 b (hd d h) x) = val_main_v202 (F := Ideal) x0 x1 (ix3 (seq d b) h x) := by
  unfold val_main_v221 val_main_v220 val_main_v219 val_main_v218 val_main_v217 val_main_v216
  generalize val_main_v202 (F := Ideal) x0 x1 = z
  fin_cases d
  · show _ = z (ix3 (seq 0 b) h x)
    have e : seq 0 b = ⟨b.val, by omega⟩ := Fin.ext (by simp [seq])
    have e' : hd 0 h = ⟨h.val, by omega⟩ := Fin.ext (by simp [hd])
    show shapeCast _ _ _ (ix3 b (hd 0 h) x) = _
    rw [e, e']
    pointwise
    rw [dif_pos (by omega)]
    exact congrArg (fun p => z (ix3 _ p x)) (Fin.ext (Nat.mod_eq_of_lt h.isLt))
  · show _ = z (ix3 (seq 1 b) h x)
    have e : seq 1 b = ⟨16 + b.val, by omega⟩ := Fin.ext (by simp [seq])
    have e' : hd 1 h = ⟨4 + h.val, by omega⟩ := Fin.ext (by simp [hd])
    show shapeCast _ _ _ (ix3 b (hd 1 h) x) = _
    rw [e, e']
    pointwise
    rw [dif_neg (by omega)]

/-- The stabilizers, from the sequences of both directions. -/
theorem r227 (b : Fin 16) (d : Fin 2) (h : Fin 4) :
    val_main_v227 (F := Ideal) x1 (ix3 b (hd d h) 0) = val_main_v182 (F := Ideal) x1 (ix2 (seq d b) h) := by
  unfold val_main_v227 val_main_v226 val_main_v225 val_main_v224 val_main_v223 val_main_v222
  generalize val_main_v182 (F := Ideal) x1 = z
  fin_cases d
  · show _ = z (ix2 (seq 0 b) h)
    have e : seq 0 b = ⟨b.val, by omega⟩ := Fin.ext (by simp [seq])
    have e' : hd 0 h = ⟨h.val, by omega⟩ := Fin.ext (by simp [hd])
    show shapeCast _ _ _ (ix3 b (hd 0 h) 0) = _
    rw [e, e']
    pointwise
    rw [dif_pos (by omega)]
    exact congrArg (fun p => z (ix2 _ p)) (Fin.ext (Nat.mod_eq_of_lt h.isLt))
  · show _ = z (ix2 (seq 1 b) h)
    have e : seq 1 b = ⟨16 + b.val, by omega⟩ := Fin.ext (by simp [seq])
    have e' : hd 1 h = ⟨4 + h.val, by omega⟩ := Fin.ext (by simp [hd])
    show shapeCast _ _ _ (ix3 b (hd 1 h) 0) = _
    rw [e, e']
    pointwise
    rw [dif_neg (by omega)]

/-- The reference takes the backward direction from the last token to the first. -/
theorem keep_flip (d : Fin 2) (r s : Fin 128) : keepD 0 r s = keepD d (flipD d r) (flipD d s) := by
  fin_cases d
  · rfl
  · show decide (s.val ≤ r.val) = decide ((Fin.rev r).val ≤ (Fin.rev s).val)
    rw [Fin.val_rev, Fin.val_rev]
    exact decide_eq_decide.mpr (by omega)

/-- The mask of the backward direction is the other mask in reverse. -/
theorem keep_flip1 : keepD 0 = fun r s => keepD 1 (Fin.rev r) (Fin.rev s) := funext fun r => funext fun s => keep_flip 1 r s

section
variable (d : Fin 2) (lf b ig : Fin 128 → EReal) (bl : EReal) (q k v : Fin 128 → Fin 64 → EReal) (C : Fin 64 → Fin 64 → EReal)
  (n : Fin 64 → EReal) (mm : EReal)

/-- A running sum in a direction's order. -/
theorem cum_flip (r : Fin 128) : cum (keepD 0) (fun s => lf (flipD d s)) r = cum (keepD d) lf (flipD d r) := by
  fin_cases d
  · rfl
  · rw [keep_flip1]
    exact cum_rev (keepD 1) lf r

/-- What a token reads, in a direction's order. -/
theorem out_flip (r : Fin 128) (e : Fin 64) :
    out (keepD 0) (fun s => b (flipD d s)) (fun s => ig (flipD d s)) (fun s => q (flipD d s)) (fun s => k (flipD d s))
      (fun s => v (flipD d s)) C n mm r e = out (keepD d) b ig q k v C n mm (flipD d r) e := by
  fin_cases d
  · rfl
  · rw [keep_flip1]
    exact out_rev (keepD 1) b ig q k v C n mm r e

/-- The new stabilizer, in a direction's order. -/
theorem mNew_flip : mNew (fun s => b (flipD d s)) (fun s => ig (flipD d s)) bl mm = mNew b ig bl mm := by
  fin_cases d
  · rfl
  · exact mNew_rev b ig bl mm

/-- The new matrix state, in a direction's order. -/
theorem cNew_flip (e x : Fin 64) :
    cNew (fun s => b (flipD d s)) (fun s => ig (flipD d s)) bl (fun s => k (flipD d s)) (fun s => v (flipD d s)) C mm e x
      = cNew b ig bl k v C mm e x := by
  fin_cases d
  · rfl
  · exact cNew_rev b ig bl k v C mm e x

/-- The new normalizer, in a direction's order. -/
theorem nNew_flip (x : Fin 64) :
    nNew (fun s => b (flipD d s)) (fun s => ig (flipD d s)) bl (fun s => k (flipD d s)) n mm x = nNew b ig bl k n mm x := by
  fin_cases d
  · rfl
  · exact nNew_rev b ig bl k n mm x

/-- A sum over a chunk, in a direction's order. -/
theorem sum_flip : (∑ s, lf (flipD d s)) = ∑ s, lf s := by
  fin_cases d
  · rfl
  · exact sum_rev lf

/-- The last running sum is the sum over the chunk. -/
theorem cum_last : cum (keepD 0) lf 127 = ∑ s, lf s :=
  Finset.sum_congr rfl fun s _ => if_pos (by
    show decide (s.val ≤ (127 : Fin 128).val) = true
    exact decide_eq_true (by show s.val ≤ 127; omega))

end

/-- The arrays the reference takes, by row and column. -/
def tokP (r : Fin 4096) (y : Fin 2816) : EReal := x0 (ix2 r y)

/-- The gates, by row and column. -/
def tokG (r : Fin 4096) (y : Fin 16) : EReal := x1 (ix2 r y)

section
variable (d : Fin 2) (b : Fin 16) (h : Fin 4)

/-- The running sums of the forget gates at the first step. -/
theorem bFun1 : (fun s => val_main_v58 (F := Ideal) x1 (ix3 (seq d b) h s)) = fun s => bs (tokG x1) d b (blkOf d 0) h (flipD d s) := by
  funext s
  rw [rawB1]
  simp only [lf1]
  exact cum_flip d (lfs (tokG x1) d b (blkOf d 0) h) s

/-- The sum of the forget gates at the first step. -/
theorem blFun1 : val_main_v58 (F := Ideal) x1 (ix3 (seq d b) h 127) = bls (tokG x1) d b (blkOf d 0) h := by
  rw [rawB1]
  simp only [lf1]
  exact (cum_last _).trans (sum_flip d (lfs (tokG x1) d b (blkOf d 0) h))

/-- The input gates at the first step. -/
theorem iFun1 : (fun s => val_main_v54 (F := Ideal) x1 (ix3 (seq d b) h s)) = fun s => igs (tokG x1) d b (blkOf d 0) h (flipD d s) :=
  funext fun s => ig1 x1 d b h s

/-- The queries at the first step. -/
theorem qFun1 : (fun s x => val_main_v51 (F := Ideal) x0 (ix4 (seq d b) h s x)) = fun s => qs (tokP x0) b (blkOf d 0) h (flipD d s) :=
  funext fun s => funext fun x => q1 x0 d b h s x

/-- The keys at the first step. -/
theorem kFun1 : (fun s x => val_main_v52 (F := Ideal) x0 (ix4 (seq d b) h s x)) = fun s => ks (tokP x0) b (blkOf d 0) h (flipD d s) :=
  funext fun s => funext fun x => k1 x0 d b h s x

/-- The values at the first step. -/
theorem vFun1 : (fun s x => val_main_v53 (F := Ideal) x0 (ix4 (seq d b) h s x)) = fun s => vs (tokP x0) b (blkOf d 0) h (flipD d s) :=
  funext fun s => funext fun x => v1 x0 d b h s x

/-- The matrix state before the first step. -/
theorem cFun1 : (fun e x => val_main_v48 (F := Ideal) (ix4 (seq d b) h e x)) = fun _ _ => 0 :=
  funext fun e => funext fun x => Ideal.ofBits_zero_f32

/-- The normalizer before the first step. -/
theorem nFun1 : (fun x => val_main_v49 (F := Ideal) (ix3 (seq d b) h x)) = fun _ => 0 := funext fun x => Ideal.ofBits_zero_f32

/-- The stabilizer before the first step. -/
theorem mFun1 : val_main_v50 (F := Ideal) (ix2 (seq d b) h) = 0 := Ideal.ofBits_zero_f32

/-- Step 1 of the reference is step 1 of the recurrence. -/
theorem mRes1 : val_main_v106 (F := Ideal) x1 (ix2 (seq d b) h) = m1 (tokG x1) d b h := by
  rw [mNew1, bFun1, iFun1, blFun1, mFun1]
  exact mNew_flip d _ _ _ _

/-- The matrix state after the first step. -/
theorem cRes1 (e x : Fin 64) : val_main_v121 (F := Ideal) x0 x1 (ix4 (seq d b) h e x) = c1 (tokP x0) (tokG x1) d b h e x := by
  rw [cNew1, bFun1, iFun1, blFun1, kFun1, vFun1, cFun1, mFun1]
  exact cNew_flip d _ _ _ _ _ _ _ e x

/-- The normalizer after the first step. -/
theorem nRes1 (x : Fin 64) : val_main_v126 (F := Ideal) x0 x1 (ix3 (seq d b) h x) = n1 (tokP x0) (tokG x1) d b h x := by
  rw [nNew1, bFun1, iFun1, blFun1, kFun1, nFun1, mFun1]
  exact nNew_flip d _ _ _ _ _ _ x

/-- What the tokens read at the first step. -/
theorem oRes1 (r : Fin 128) (e : Fin 64) :
    val_main_v97 (F := Ideal) x0 x1 (ix4 (seq d b) h r e) = oAt (tokP x0) (tokG x1) d b h 0 (flipD d r) e := by
  rw [out1, bFun1, iFun1, qFun1, kFun1, vFun1, cFun1, nFun1, mFun1]
  exact out_flip d _ _ _ _ _ _ _ _ r e

end

section
variable (d : Fin 2) (b : Fin 16) (h : Fin 4)

/-- The running sums of the forget gates at the second step. -/
theorem bFun2 : (fun s => val_main_v134 (F := Ideal) x1 (ix3 (seq d b) h s)) = fun s => bs (tokG x1) d b (blkOf d 1) h (flipD d s) := by
  funext s
  rw [rawB2]
  simp only [lf2]
  exact cum_flip d (lfs (tokG x1) d b (blkOf d 1) h) s

/-- The sum of the forget gates at the second step. -/
theorem blFun2 : val_main_v134 (F := Ideal) x1 (ix3 (seq d b) h 127) = bls (tokG x1) d b (blkOf d 1) h := by
  rw [rawB2]
  simp only [lf2]
  exact (cum_last _).trans (sum_flip d (lfs (tokG x1) d b (blkOf d 1) h))

/-- The input gates at the second step. -/
theorem iFun2 : (fun s => val_main_v130 (F := Ideal) x1 (ix3 (seq d b) h s)) = fun s => igs (tokG x1) d b (blkOf d 1) h (flipD d s) :=
  funext fun s => ig2 x1 d b h s

/-- The queries at the second step. -/
theorem qFun2 : (fun s x => val_main_v127 (F := Ideal) x0 (ix4 (seq d b) h s x)) = fun s => qs (tokP x0) b (blkOf d 1) h (flipD d s) :=
  funext fun s => funext fun x => q2 x0 d b h s x

/-- The keys at the second step. -/
theorem kFun2 : (fun s x => val_main_v128 (F := Ideal) x0 (ix4 (seq d b) h s x)) = fun s => ks (tokP x0) b (blkOf d 1) h (flipD d s) :=
  funext fun s => funext fun x => k2 x0 d b h s x

/-- The values at the second step. -/
theorem vFun2 : (fun s x => val_main_v129 (F := Ideal) x0 (ix4 (seq d b) h s x)) = fun s => vs (tokP x0) b (blkOf d 1) h (flipD d s) :=
  funext fun s => funext fun x => v2 x0 d b h s x

/-- The matrix state before the second step. -/
theorem cFun2 : (fun e x => val_main_v121 (F := Ideal) x0 x1 (ix4 (seq d b) h e x)) = c1 (tokP x0) (tokG x1) d b h :=
  funext fun e => funext fun x => cRes1 x0 x1 d b h e x

/-- The normalizer before the second step. -/
theorem nFun2 : (fun x => val_main_v126 (F := Ideal) x0 x1 (ix3 (seq d b) h x)) = n1 (tokP x0) (tokG x1) d b h := funext fun x => nRes1 x0 x1 d b h x

/-- The stabilizer before the second step. -/
theorem mFun2 : val_main_v106 (F := Ideal) x1 (ix2 (seq d b) h) = m1 (tokG x1) d b h := mRes1 x1 d b h

/-- Step 2 of the reference is step 2 of the recurrence. -/
theorem mRes2 : val_main_v182 (F := Ideal) x1 (ix2 (seq d b) h) = m2 (tokG x1) d b h := by
  rw [mNew2, bFun2, iFun2, blFun2, mFun2]
  exact mNew_flip d _ _ _ _

/-- The matrix state after the second step. -/
theorem cRes2 (e x : Fin 64) : val_main_v197 (F := Ideal) x0 x1 (ix4 (seq d b) h e x) = c2 (tokP x0) (tokG x1) d b h e x := by
  rw [cNew2, bFun2, iFun2, blFun2, kFun2, vFun2, cFun2, mFun2]
  exact cNew_flip d _ _ _ _ _ _ _ e x

/-- The normalizer after the second step. -/
theorem nRes2 (x : Fin 64) : val_main_v202 (F := Ideal) x0 x1 (ix3 (seq d b) h x) = n2 (tokP x0) (tokG x1) d b h x := by
  rw [nNew2, bFun2, iFun2, blFun2, kFun2, nFun2, mFun2]
  exact nNew_flip d _ _ _ _ _ _ x

/-- What the tokens read at the second step. -/
theorem oRes2 (r : Fin 128) (e : Fin 64) :
    val_main_v173 (F := Ideal) x0 x1 (ix4 (seq d b) h r e) = oAt (tokP x0) (tokG x1) d b h 1 (flipD d r) e := by
  rw [out2, bFun2, iFun2, qFun2, kFun2, vFun2, cFun2, nFun2, mFun2]
  exact out_flip d _ _ _ _ _ _ _ _ r e

end

/-- The five results of the reference. -/
theorem res206 (r : Fin 4096) (y : Fin 256) : val_main_v206 (F := Ideal) x0 x1 (ix2 r y) = outRow (tokP x0) (tokG x1) 0 r y := by
  obtain ⟨b, c, s, rfl⟩ := exTok r
  obtain ⟨h, e, rfl⟩ := exCol y
  have es : (⟨b.val, by omega⟩ : Fin 32) = seq 0 b := Fin.ext (by simp [seq])
  rw [r206b, outRow_tok, es]
  fin_cases c
  · have ep : (⟨128 * (0 : Fin 2).val + s.val, by omega⟩ : Fin 256) = ⟨s.val, by omega⟩ := Fin.ext (by simp)
    refine Eq.trans (congrArg (fun p => val_main_v203 (F := Ideal) x0 x1 (ix4 (seq 0 b) h p e)) ep) ?_
    rw [r203a]
    exact oRes1 x0 x1 0 b h s e
  · refine Eq.trans (r203b x0 x1 (seq 0 b) h s e) ?_
    exact oRes2 x0 x1 0 b h s e

/-- The rows of the backward direction. -/
theorem res210 (r : Fin 4096) (y : Fin 256) : val_main_v210 (F := Ideal) x0 x1 (ix2 r y) = outRow (tokP x0) (tokG x1) 1 r y := by
  obtain ⟨b, c, s, rfl⟩ := exTok r
  obtain ⟨h, e, rfl⟩ := exCol y
  have es : (⟨16 + b.val, by omega⟩ : Fin 32) = seq 1 b := Fin.ext (by simp [seq])
  have er : flipD 1 (Fin.rev s) = s := Fin.rev_rev s
  rw [r210b, outRow_tok, es]
  fin_cases c
  · refine Eq.trans (r203b x0 x1 (seq 1 b) h (Fin.rev s) e) ?_
    refine (oRes2 x0 x1 1 b h (Fin.rev s) e).trans ?_
    rw [er]
    rfl
  · have ep : (⟨128 * (Fin.rev (1 : Fin 2)).val + (Fin.rev s).val, by omega⟩ : Fin 256) = ⟨(Fin.rev s).val, by omega⟩ := Fin.ext (by simp)
    refine Eq.trans (congrArg (fun p => val_main_v203 (F := Ideal) x0 x1 (ix4 (seq 1 b) h p e)) ep) ?_
    rw [r203a]
    refine (oRes1 x0 x1 1 b h (Fin.rev s) e).trans ?_
    rw [er]
    rfl

/-- The matrix states. -/
theorem res215 (b : Fin 16) (d : Fin 2) (h : Fin 4) (e x : Fin 64) :
    val_main_v215 (F := Ideal) x0 x1 (ix5 b d h e x) = c2 (tokP x0) (tokG x1) d b h e x := by
  rw [r215]
  exact cRes2 x0 x1 d b h e x

/-- The normalizers. -/
theorem res221 (b : Fin 16) (j : Fin 8) (x : Fin 64) :
    val_main_v221 (F := Ideal) x0 x1 (ix3 b j x) = nRow (tokP x0) (tokG x1) b j x := by
  obtain ⟨d, h, rfl⟩ := exHd j
  rw [r221, nRow_hd]
  exact nRes2 x0 x1 d b h x

/-- The stabilizers. -/
theorem res227 (b : Fin 16) (j : Fin 8) : val_main_v227 (F := Ideal) x1 (ix3 b j 0) = mRow (tokG x1) b j := by
  obtain ⟨d, h, rfl⟩ := exHd j
  rw [r227, mRow_hd]
  exact mRes2 x1 d b h

end Cert.MlstmRefIdeal.Step

end
-- ==== Proof.MlstmClaims.lean ====
module

public import proofs.«01_k».proof.Defs
public import proofs.«01_k».proof.Proof.MlstmKernel
public import proofs.«01_k».proof.Proof.MlstmRef
public import proofs.«01_k».proof.Proof.Gen.Mlstm.Frame
public import proofs.«01_k».proof.Proof.Gen.MlstmRefIdeal.Run
public import Idealize.ShloMosaic.Adequacy

@[expose] public section

noncomputable section

/-! ## The claims about the recurrence -/

namespace Cert.Proof.MlstmClaims

open Idealize.ShloMosaic Idealize.ShloMosaic.TcCoe Idealize.SL.Sem Cert.MlstmIdeal Cert.MlstmIdeal.Gen Cert.MlstmIdeal.Head

/-- The kernel runs, its arguments end unchanged and its semaphores at zero. -/
theorem frame_p : Cert.quiescent_Mlstm := fun m ρ _ => Cert.Mlstm.Gen.frame m ρ
/-- So does the kernel over the extended reals. -/
theorem frame_pi : Cert.quiescent_MlstmIdeal := fun m ρ _ => Cert.MlstmIdeal.Gen.frame m ρ
/-- So does the reference. -/
theorem frame_ri : Cert.quiescent_MlstmRefIdeal := fun m ρ _ =>
  (θ_run Cert.MlstmRefIdeal.defs _ _).mono (fun r h => ⟨fun c => (h c).2.2.2.2.2, sem_eq_zero_of_no_sems (by decide) r.2⟩)
    (Cert.MlstmRefIdeal.Value.run (F := Ideal) m ρ)

/-- The idealization rewrites no operation. -/
theorem preserves : Cert.preserves_Mlstm_MlstmIdeal := trivial

/-- The kernel's run, with its five results named. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v17_0) = G15 m c
      ∧ r.2.mem ((c.tc : Thread nD τ).loc main_v17_1) = G16 m c
      ∧ r.2.mem ((c.tc : Thread nD τ).loc main_v17_2) = G17 m c
      ∧ r.2.mem ((c.tc : Thread nD τ).loc main_v17_3) = G18 m c
      ∧ r.2.mem ((c.tc : Thread nD τ).loc main_v17_4) = G19 m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun r h c => ⟨((h.1 c).1 15).trans (final15 m c), ((h.1 c).1 16).trans (final16 m c), ((h.1 c).1 17).trans (final17 m c),
      ((h.1 c).1 18).trans (final18 m c), ((h.1 c).1 19).trans (final19 m c), h.2 c⟩)
    (θ_run_and (run_main m ρ) (unchanged m ρ))

/-- The kernel and the reference end with the same five arrays. -/
theorem algebraic : Cert.algebraic_MlstmIdeal_MlstmRefIdeal := by
  intro m ρ m' ρ' _ hagree
  refine ⟨fun c => G15 m c, fun c => G16 m c, fun c => G17 m c, fun c => G18 m c, fun c => G19 m c, kernel_run m ρ, ?_⟩
  refine (θ_run Cert.MlstmRefIdeal.defs _ _).mono (fun _ h c => ⟨(h c).1.trans ?_, (h c).2.1.trans ?_, (h c).2.2.1.trans ?_,
      (h c).2.2.2.1.trans ?_, (h c).2.2.2.2.1.trans ?_, (h c).2.2.2.2.2⟩)
    (Cert.MlstmRefIdeal.Value.run (F := Ideal) m' ρ')
  · have h0 : StableHlo.launchContents m' c (Proc.tc.devRef Cert.MlstmRefIdeal.main_arg0) = m ((c.tc : Thread nD τ).loc main_arg0) := (hagree c).1
    have h1 : StableHlo.launchContents m' c (Proc.tc.devRef Cert.MlstmRefIdeal.main_arg1) = m ((c.tc : Thread nD τ).loc main_arg1) := (hagree c).2
    rw [Cert.MlstmRefIdeal.Read.val_main_v206_eq, h0, h1]
    funext i
    obtain ⟨r, y, rfl⟩ : ∃ (r : Fin 4096) (y : Fin 256), i = ix2 r y := ⟨i 0, i 1, eq_ix2 i⟩
    exact Cert.MlstmRefIdeal.Step.res206 _ _ r y
  · have h0 : StableHlo.launchContents m' c (Proc.tc.devRef Cert.MlstmRefIdeal.main_arg0) = m ((c.tc : Thread nD τ).loc main_arg0) := (hagree c).1
    have h1 : StableHlo.launchContents m' c (Proc.tc.devRef Cert.MlstmRefIdeal.main_arg1) = m ((c.tc : Thread nD τ).loc main_arg1) := (hagree c).2
    rw [Cert.MlstmRefIdeal.Read.val_main_v210_eq, h0, h1]
    funext i
    obtain ⟨r, y, rfl⟩ : ∃ (r : Fin 4096) (y : Fin 256), i = ix2 r y := ⟨i 0, i 1, eq_ix2 i⟩
    exact Cert.MlstmRefIdeal.Step.res210 _ _ r y
  · have h0 : StableHlo.launchContents m' c (Proc.tc.devRef Cert.MlstmRefIdeal.main_arg0) = m ((c.tc : Thread nD τ).loc main_arg0) := (hagree c).1
    have h1 : StableHlo.launchContents m' c (Proc.tc.devRef Cert.MlstmRefIdeal.main_arg1) = m ((c.tc : Thread nD τ).loc main_arg1) := (hagree c).2
    rw [Cert.MlstmRefIdeal.Read.val_main_v215_eq, h0, h1]
    funext i
    obtain ⟨b, d, h, e, x, rfl⟩ : ∃ (b : Fin 16) (d : Fin 2) (h : Fin 4) (e x : Fin 64), i = ix5 b d h e x :=
      ⟨i 0, i 1, i 2, i 3, i 4, eq_ix5 i⟩
    exact Cert.MlstmRefIdeal.Step.res215 _ _ b d h e x
  · have h0 : StableHlo.launchContents m' c (Proc.tc.devRef Cert.MlstmRefIdeal.main_arg0) = m ((c.tc : Thread nD τ).loc main_arg0) := (hagree c).1
    have h1 : StableHlo.launchContents m' c (Proc.tc.devRef Cert.MlstmRefIdeal.main_arg1) = m ((c.tc : Thread nD τ).loc main_arg1) := (hagree c).2
    rw [Cert.MlstmRefIdeal.Read.val_main_v221_eq, h0, h1]
    funext i
    obtain ⟨b, j, x, rfl⟩ : ∃ (b : Fin 16) (j : Fin 8) (x : Fin 64), i = ix3 b j x := ⟨i 0, i 1, i 2, eq_ix3 i⟩
    exact Cert.MlstmRefIdeal.Step.res221 _ _ b j x
  · have h0 : StableHlo.launchContents m' c (Proc.tc.devRef Cert.MlstmRefIdeal.main_arg0) = m ((c.tc : Thread nD τ).loc main_arg0) := (hagree c).1
    have h1 : StableHlo.launchContents m' c (Proc.tc.devRef Cert.MlstmRefIdeal.main_arg1) = m ((c.tc : Thread nD τ).loc main_arg1) := (hagree c).2
    rw [Cert.MlstmRefIdeal.Read.val_main_v227_eq, h1]
    funext i
    obtain ⟨b, j, rfl⟩ : ∃ (b : Fin 16) (j : Fin 8), i = ix3 b j (0 : Fin 1) :=
      ⟨i 0, i 1, (eq_ix3 i).trans (congrArg (fun z => ix3 (i 0) (i 1) z) (Subsingleton.elim (α := Fin 1) _ _))⟩
    exact Cert.MlstmRefIdeal.Step.res227 _ b j

end Cert.Proof.MlstmClaims

end
-- ==== Proof.lean ====
module

public import proofs.«01_k».proof.Defs
public import proofs.«01_k».proof.Proof.AttnClaims
public import proofs.«01_k».proof.Proof.ExpertsClaims
public import proofs.«01_k».proof.Proof.LastClaims
public import proofs.«01_k».proof.Proof.ProjClaims
public import proofs.«01_k».proof.Proof.MlstmClaims

@[expose] public section

noncomputable section

namespace Cert.Proof

open Idealize.ShloMosaic Idealize.SL.Sem

/-- Every claim of the certificate. -/
theorem claim : Cert.Claim :=
  ⟨Cert.Attn.Gen.facts, Cert.AttnIdeal.Gen.facts, Cert.AttnRefIdeal.Gen.facts, Cert.Experts.Gen.facts,
    Cert.ExpertsIdeal.Gen.facts, Cert.ExpertsRefIdeal.Gen.facts, Cert.Last.Gen.facts, Cert.LastIdeal.Gen.facts,
    Cert.LastRefIdeal.Gen.facts, Cert.Proj.Gen.facts, Cert.ProjIdeal.Gen.facts, Cert.ProjRefIdeal.Gen.facts,
    Cert.Mlstm.Gen.facts, Cert.MlstmIdeal.Gen.facts, Cert.MlstmRefIdeal.Gen.facts,
    Cert.Pre_finite_attn.Gen.facts, Cert.Pre_finite_last.Gen.facts,
    AttnClaims.frame_p, AttnClaims.frame_pi, AttnClaims.frame_pi', AttnClaims.frame_ri, AttnClaims.frame_ri',
    ExpertsClaims.frame_p, ExpertsClaims.frame_pi, ExpertsClaims.frame_ri,
    LastClaims.frame_p, LastClaims.frame_pi, LastClaims.frame_pi', LastClaims.frame_ri, LastClaims.frame_ri',
    ProjClaims.frame_p, ProjClaims.frame_pi, ProjClaims.frame_ri,
    MlstmClaims.frame_p, MlstmClaims.frame_pi, MlstmClaims.frame_ri,
    AttnClaims.preserves, AttnClaims.algebraic, ExpertsClaims.preserves, ExpertsClaims.algebraic,
    LastClaims.preserves, LastClaims.algebraic, ProjClaims.preserves, ProjClaims.algebraic, MlstmClaims.preserves, MlstmClaims.algebraic⟩

end Cert.Proof

end
